-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x8192x192 : Shape := ⟨3, ![16, 8192, 192]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  bcast_S_S16x8192x128 : S_.BroadcastsInDim S16x8192x128 (![] : Fin 0 → Fin S16x8192x128.rank)

variable [Facts]

def fn {F : FTy → Type} [FloatOps F] (main_arg0 : FVec F S16x8192x192 .f32) (main_arg1 : FVec F S16x8192x192 .f32) (main_arg2 : FVec F S16x8192x128 .f32) (main_arg3 : FVec F S16x8192x128 .f32) : IVec S16x8192x192 1 × IVec S16x8192x192 1 × IVec S16x8192x128 1 × IVec S16x8192x128 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_v3 : FVec F S16x8192x192 .f32 := Host.absf main_arg1
  let main_cst_0 : FVec F S_ .f32 := constant S_ .f32 0x7F800000#32
  let main_v4 : FVec F S16x8192x192 .f32 := broadcastInDim S16x8192x192 ![] bcast_S_S16x8192x192 main_cst_0
  let main_v5 : IVec S16x8192x192 1 := cmpf .olt main_v3 main_v4
  let main_v6 : FVec F S16x8192x128 .f32 := Host.absf main_arg2
  let main_cst_1 : FVec F S_ .f32 := constant S_ .f32 0x7F800000#32
  let main_v7 : FVec F S16x8192x128 .f32 := broadcastInDim S16x8192x128 ![] bcast_S_S16x8192x128 main_cst_1
  let main_v8 : IVec S16x8192x128 1 := cmpf .olt main_v6 main_v7
  let main_v9 : FVec F S16x8192x128 .f32 := Host.absf main_arg3
  let main_cst_2 : FVec F S_ .f32 := constant S_ .f32 0x7F800000#32
  let main_v10 : FVec F S16x8192x128 .f32 := broadcastInDim S16x8192x128 ![] bcast_S_S16x8192x128 main_cst_2
  let main_v11 : IVec S16x8192x128 1 := cmpf .olt main_v9 main_v10
  (main_v2, main_v5, main_v8, main_v11)
-- ==== Pre_finite2.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S4096x2048 : S_.BroadcastsInDim S4096x2048 (![] : Fin 0 → Fin S4096x2048.rank)
  bcast_S_S8192x2048 : S_.BroadcastsInDim S8192x2048 (![] : Fin 0 → Fin S8192x2048.rank)

variable [Facts]

def fn {F : FTy → Type} [FloatOps F] (main_arg0 : FVec F S8192x4096 .bf16) (main_arg1 : FVec F S8192x4096 .bf16) (main_arg2 : FVec F S4096x2048 .bf16) (main_arg3 : FVec F S8192x2048 .f32) : IVec S8192x4096 1 × IVec S4096x2048 1 × IVec S8192x2048 1 :=
  let main_v0 : FVec F S8192x4096 .f32 := (extf .f32 · bitsLt_bf16_f32) main_arg1
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S4096x2048 .f32 := (extf .f32 · bitsLt_bf16_f32) main_arg2
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S8192x2048 .f32 := Host.absf main_arg3
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  (main_v3, main_v7, main_v10)
-- ==== Pre_finite3.lean ====
abbrev S16x8192x192 : Shape := ⟨3, ![16, 8192, 192]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  bcast_S_S16x8192x128 : S_.BroadcastsInDim S16x8192x128 (![] : Fin 0 → Fin S16x8192x128.rank)

variable [Facts]

def fn {F : FTy → Type} [FloatOps F] (main_arg0 : FVec F S16x8192x192 .f32) (main_arg1 : FVec F S16x8192x192 .f32) (main_arg2 : FVec F S16x8192x128 .f32) : IVec S16x8192x192 1 × IVec S16x8192x192 1 × IVec S16x8192x128 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_v3 : FVec F S16x8192x192 .f32 := Host.absf main_arg1
  let main_cst_0 : FVec F S_ .f32 := constant S_ .f32 0x7F800000#32
  let main_v4 : FVec F S16x8192x192 .f32 := broadcastInDim S16x8192x192 ![] bcast_S_S16x8192x192 main_cst_0
  let main_v5 : IVec S16x8192x192 1 := cmpf .olt main_v3 main_v4
  let main_v6 : FVec F S16x8192x128 .f32 := Host.absf main_arg2
  let main_cst_1 : FVec F S_ .f32 := constant S_ .f32 0x7F800000#32
  let main_v7 : FVec F S16x8192x128 .f32 := broadcastInDim S16x8192x128 ![] bcast_S_S16x8192x128 main_cst_1
  let main_v8 : IVec S16x8192x128 1 := cmpf .olt main_v6 main_v7
  (main_v2, main_v5, main_v8)
-- ==== Kernel.lean ====
abbrev S16x8192x192 : Shape := ⟨3, ![16, 8192, 192]⟩
abbrev S16x8192x128 : Shape := ⟨3, ![16, 8192, 128]⟩
abbrev S16x8192x8192 : Shape := ⟨3, ![16, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S16x8192 : Shape := ⟨2, ![16, 8192]⟩
abbrev S16x8192x1 : Shape := ⟨3, ![16, 8192, 1]⟩
abbrev S1x2048x192 : Shape := ⟨3, ![1, 2048, 192]⟩
abbrev S1x512x192 : Shape := ⟨3, ![1, 512, 192]⟩
abbrev S1x512x128 : Shape := ⟨3, ![1, 512, 128]⟩
abbrev S1x2048x128 : Shape := ⟨3, ![1, 2048, 128]⟩
abbrev S1x8192x192 : Shape := ⟨3, ![1, 8192, 192]⟩
abbrev S512x192 : Shape := ⟨2, ![512, 192]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 37
  | .vmem => 20
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S16x8192x128, .f32⟩
  | .hbm, ⟨4, _⟩ => ⟨S16x8192x8192, .f32⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S16x8192x8192, .i1⟩
  | .hbm, ⟨14, _⟩ => ⟨S16x8192x8192, .f32⟩
  | .hbm, ⟨15, _⟩ => ⟨S16x8192x8192, .f32⟩
  | .hbm, ⟨16, _⟩ => ⟨S_, .f32⟩
  | .hbm, ⟨17, _⟩ => ⟨S16x8192, .f32⟩
  | .hbm, ⟨18, _⟩ => ⟨S16x8192x1, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S16x8192x1, .f32⟩
  | .hbm, ⟨25, _⟩ => ⟨S16x8192x8192, .f32⟩
  | .hbm, ⟨26, _⟩ => ⟨S16x8192x8192, .f32⟩
  | .hbm, ⟨27, _⟩ => ⟨S16x8192x128, .f32⟩
  | .hbm, ⟨28, _⟩ => ⟨S16x8192x1, .f32⟩
  | .hbm, ⟨29, _⟩ => ⟨S16x8192x1, .f32⟩
  | .hbm, ⟨30, _⟩ => ⟨S16x8192x128, .f32⟩
  | .hbm, ⟨31, _⟩ => ⟨S16x8192x192, .bf16⟩
  | .hbm, ⟨32, _⟩ => ⟨S16x8192x192, .bf16⟩
  | .hbm, ⟨33, _⟩ => ⟨S16x8192x128, .bf16⟩
  | .hbm, ⟨34, _⟩ => ⟨S16x8192x192, .f32⟩
  | .hbm, ⟨35, _⟩ => ⟨S16x8192x192, .f32⟩
  | .hbm, ⟨36, _⟩ => ⟨S16x8192x128, .f32⟩
  | .local _ .vmem, ⟨0, _⟩ => ⟨S1x2048x192, .bf16⟩
  | .local _ .vmem, ⟨1, _⟩ => ⟨S1x2048x192, .bf16⟩
  | .local _ .vmem, ⟨2, _⟩ => ⟨S1x512x192, .bf16⟩
  | .local _ .vmem, ⟨3, _⟩ => ⟨S1x512x192, .bf16⟩
  | .local _ .vmem, ⟨4, _⟩ => ⟨S1x512x128, .bf16⟩
  | .local _ .vmem, ⟨5, _⟩ => ⟨S1x512x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x8192x192, .f32⟩
  | .local _ .vmem, ⟨13, _⟩ => ⟨S1x8192x192, .f32⟩
  | .local _ .vmem, ⟨14, _⟩ => ⟨S1x512x192, .f32⟩
  | .local _ .vmem, ⟨15, _⟩ => ⟨S1x512x192, .f32⟩
  | .local _ .vmem, ⟨16, _⟩ => ⟨S1x512x128, .f32⟩
  | .local _ .vmem, ⟨17, _⟩ => ⟨S1x512x128, .f32⟩
  | .local _ .vmem, ⟨18, _⟩ => ⟨S512x192, .f32⟩
  | .local _ .vmem, ⟨19, _⟩ => ⟨S512x128, .f32⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 16, 4], ![false, false, false]⟩

def k0_cond3 (i : grid0.Coords) : BitVec 1 :=
  let arg1 : BitVec 32 := BitVec.ofNat 32 (i 1).val
  let c512_i32 : BitVec 32 := 512#32
  let v8 : BitVec 32 := Scalar.muli arg1 c512_i32
  let arg2 : BitVec 32 := BitVec.ofNat 32 (i 2).val
  let c2048_i32 : BitVec 32 := 2048#32
  let v9 : BitVec 32 := Scalar.muli arg2 c2048_i32
  let v10 : BitVec 32 := Scalar.subi v8 v9
  let c_m511_i32 : BitVec 32 := 4294966785#32
  let v11 : BitVec 1 := Scalar.cmpi .sle v10 c_m511_i32
  let v12 : BitVec 32 := Scalar.extui v11
  let c0_i32_4 : BitVec 32 := 0#32
  let v13 : BitVec 1 := Scalar.cmpi .ne v12 c0_i32_4
  v13

def k0_mult1 (i : grid0.Coords) : BitVec 32 :=
  let arg2 : BitVec 32 := BitVec.ofNat 32 (i 2).val
  let c2048_i32_58 : BitVec 32 := 2048#32
  let v83 : BitVec 32 := Scalar.muli arg2 c2048_i32_58
  let c0_i32_59 : BitVec 32 := 0#32
  let v84 : BitVec 32 := Scalar.addi v83 c0_i32_59
  v84
def k0_off1 (i : grid0.Coords) (c0_i32_59 : BitVec 32) : Fin 3 → Nat :=
  let c0_60 : Index := 0#32
  let arg2 : BitVec 32 := BitVec.ofNat 32 (i 2).val
  let c2048_i32_58 : BitVec 32 := 2048#32
  let v83 : BitVec 32 := Scalar.muli arg2 c2048_i32_58
  let v84 : BitVec 32 := Scalar.addi v83 c0_i32_59
  let v85 : BitVec 32 := v84
  let v86 : Index := Scalar.indexCast v85
  let c0_61 : Index := 0#32
  ![0, v86.toNat, 0]
def k0_mult2 (i : grid0.Coords) : BitVec 32 :=
  let arg2 : BitVec 32 := BitVec.ofNat 32 (i 2).val
  let c2048_i32_74 : BitVec 32 := 2048#32
  let v115 : BitVec 32 := Scalar.muli arg2 c2048_i32_74
  let c512_i32_75 : BitVec 32 := 512#32
  let v116 : BitVec 32 := Scalar.addi v115 c512_i32_75
  v116
def k0_mult3 (i : grid0.Coords) : BitVec 32 :=
  let arg2 : BitVec 32 := BitVec.ofNat 32 (i 2).val
  let c2048_i32_90 : BitVec 32 := 2048#32
  let v147 : BitVec 32 := Scalar.muli arg2 c2048_i32_90
  let c1024_i32_91 : BitVec 32 := 1024#32
  let v148 : BitVec 32 := Scalar.addi v147 c1024_i32_91
  v148
def k0_mult4 (i : grid0.Coords) : BitVec 32 :=
  let arg2 : BitVec 32 := BitVec.ofNat 32 (i 2).val
  let c2048_i32_106 : BitVec 32 := 2048#32
  let v179 : BitVec 32 := Scalar.muli arg2 c2048_i32_106
  let c1536_i32_107 : BitVec 32 := 1536#32
  let v180 : BitVec 32 := Scalar.addi v179 c1536_i32_107
  v180
def k0_cond4 (i : grid0.Coords) : BitVec 1 :=
  let arg1 : BitVec 32 := BitVec.ofNat 32 (i 1).val
  let c512_i32 : BitVec 32 := 512#32
  let v8 : BitVec 32 := Scalar.muli arg1 c512_i32
  let arg2 : BitVec 32 := BitVec.ofNat 32 (i 2).val
  let c2048_i32 : BitVec 32 := 2048#32
  let v9 : BitVec 32 := Scalar.muli arg2 c2048_i32
  let v10 : BitVec 32 := Scalar.subi v8 v9
  let c0_i32_5 : BitVec 32 := 0#32
  let v14 : BitVec 1 := Scalar.cmpi .eq v10 c0_i32_5
  let v15 : BitVec 32 := Scalar.extui v14
  let c0_i32_6 : BitVec 32 := 0#32
  let v16 : BitVec 1 := Scalar.cmpi .ne v15 c0_i32_6
  v16

def k0_mult5 (i : grid0.Coords) : BitVec 32 :=
  let arg2 : BitVec 32 := BitVec.ofNat 32 (i 2).val
  let c2048_i32_61 : BitVec 32 := 2048#32
  let v92 : BitVec 32 := Scalar.muli arg2 c2048_i32_61
  let c0_i32_62 : BitVec 32 := 0#32
  let v93 : BitVec 32 := Scalar.addi v92 c0_i32_62
  v93
def k0_off2 (i : grid0.Coords) (c0_i32_62 : BitVec 32) : Fin 3 → Nat :=
  let c0_63 : Index := 0#32
  let arg2 : BitVec 32 := BitVec.ofNat 32 (i 2).val
  let c2048_i32_61 : BitVec 32 := 2048#32
  let v92 : BitVec 32 := Scalar.muli arg2 c2048_i32_61
  let v93 : BitVec 32 := Scalar.addi v92 c0_i32_62
  let v94 : BitVec 32 := v93
  let v95 : Index := Scalar.indexCast v94
  let c0_64 : Index := 0#32
  ![0, v95.toNat, 0]
def k0_mult6 (i : grid0.Coords) : BitVec 32 :=
  let arg2 : BitVec 32 := BitVec.ofNat 32 (i 2).val
  let c2048_i32_77 : BitVec 32 := 2048#32
  let v124 : BitVec 32 := Scalar.muli arg2 c2048_i32_77
  let c512_i32_78 : BitVec 32 := 512#32
  let v125 : BitVec 32 := Scalar.addi v124 c512_i32_78
  v125
def k0_mult7 (i : grid0.Coords) : BitVec 32 :=
  let arg2 : BitVec 32 := BitVec.ofNat 32 (i 2).val
  let c2048_i32_93 : BitVec 32 := 2048#32
  let v156 : BitVec 32 := Scalar.muli arg2 c2048_i32_93
  let c1024_i32_94 : BitVec 32 := 1024#32
  let v157 : BitVec 32 := Scalar.addi v156 c1024_i32_94
  v157
def k0_mult8 (i : grid0.Coords) : BitVec 32 :=
  let arg2 : BitVec 32 := BitVec.ofNat 32 (i 2).val
  let c2048_i32_109 : BitVec 32 := 2048#32
  let v188 : BitVec 32 := Scalar.muli arg2 c2048_i32_109
  let c1536_i32_110 : BitVec 32 := 1536#32
  let v189 : BitVec 32 := Scalar.addi v188 c1536_i32_110
  v189
def k0_cond5 (i : grid0.Coords) : BitVec 1 :=
  let arg1 : BitVec 32 := BitVec.ofNat 32 (i 1).val
  let c512_i32 : BitVec 32 := 512#32
  let v8 : BitVec 32 := Scalar.muli arg1 c512_i32
  let arg2 : BitVec 32 := BitVec.ofNat 32 (i 2).val
  let c2048_i32 : BitVec 32 := 2048#32
  let v9 : BitVec 32 := Scalar.muli arg2 c2048_i32
  let v10 : BitVec 32 := Scalar.subi v8 v9
  let c512_i32_7 : BitVec 32 := 512#32
  let v17 : BitVec 1 := Scalar.cmpi .eq v10 c512_i32_7
  let v18 : BitVec 32 := Scalar.extui v17
  let c0_i32_8 : BitVec 32 := 0#32
  let v19 : BitVec 1 := Scalar.cmpi .ne v18 c0_i32_8
  v19

def k0_mult9 (i : grid0.Coords) : BitVec 32 :=
  let arg2 : BitVec 32 := BitVec.ofNat 32 (i 2).val
  let c2048_i32_53 : BitVec 32 := 2048#32
  let v85 : BitVec 32 := Scalar.muli arg2 c2048_i32_53
  let c512_i32_54 : BitVec 32 := 512#32
  let v86 : BitVec 32 := Scalar.addi v85 c512_i32_54
  v86
def k0_off3 (i : grid0.Coords) (c512_i32_54 : BitVec 32) : Fin 3 → Nat :=
  let c0_55 : Index := 0#32
  let arg2 : BitVec 32 := BitVec.ofNat 32 (i 2).val
  let c2048_i32_53 : BitVec 32 := 2048#32
  let v85 : BitVec 32 := Scalar.muli arg2 c2048_i32_53
  let v86 : BitVec 32 := Scalar.addi v85 c512_i32_54
  let v87 : BitVec 32 := v86
  let v88 : Index := Scalar.indexCast v87
  let c0_56 : Index := 0#32
  ![0, v88.toNat, 0]
def k0_mult10 (i : grid0.Coords) : BitVec 32 :=
  let arg2 : BitVec 32 := BitVec.ofNat 32 (i 2).val
  let c2048_i32_69 : BitVec 32 := 2048#32
  let v117 : BitVec 32 := Scalar.muli arg2 c2048_i32_69
  let c1024_i32_70 : BitVec 32 := 1024#32
  let v118 : BitVec 32 := Scalar.addi v117 c1024_i32_70
  v118
def k0_mult11 (i : grid0.Coords) : BitVec 32 :=
  let arg2 : BitVec 32 := BitVec.ofNat 32 (i 2).val
  let c2048_i32_85 : BitVec 32 := 2048#32
  let v149 : BitVec 32 := Scalar.muli arg2 c2048_i32_85
  let c1536_i32_86 : BitVec 32 := 1536#32
  let v150 : BitVec 32 := Scalar.addi v149 c1536_i32_86
  v150
def k0_cond6 (i : grid0.Coords) : BitVec 1 :=
  let arg1 : BitVec 32 := BitVec.ofNat 32 (i 1).val
  let c512_i32 : BitVec 32 := 512#32
  let v8 : BitVec 32 := Scalar.muli arg1 c512_i32
  let arg2 : BitVec 32 := BitVec.ofNat 32 (i 2).val
  let c2048_i32 : BitVec 32 := 2048#32
  let v9 : BitVec 32 := Scalar.muli arg2 c2048_i32
  let v10 : BitVec 32 := Scalar.subi v8 v9
  let c1024_i32 : BitVec 32 := 1024#32
  let v20 : BitVec 1 := Scalar.cmpi .eq v10 c1024_i32
  let v21 : BitVec 32 := Scalar.extui v20
  let c0_i32_9 : BitVec 32 := 0#32
  let v22 : BitVec 1 := Scalar.cmpi .ne v21 c0_i32_9
  v22

def k0_mult12 (i : grid0.Coords) : BitVec 32 :=
  let arg2 : BitVec 32 := BitVec.ofNat 32 (i 2).val
  let c2048_i32_46 : BitVec 32 := 2048#32
  let v78 : BitVec 32 := Scalar.muli arg2 c2048_i32_46
  let c1024_i32_47 : BitVec 32 := 1024#32
  let v79 : BitVec 32 := Scalar.addi v78 c1024_i32_47
  v79
def k0_off4 (i : grid0.Coords) (c1024_i32_47 : BitVec 32) : Fin 3 → Nat :=
  let c0_48 : Index := 0#32
  let arg2 : BitVec 32 := BitVec.ofNat 32 (i 2).val
  let c2048_i32_46 : BitVec 32 := 2048#32
  let v78 : BitVec 32 := Scalar.muli arg2 c2048_i32_46
  let v79 : BitVec 32 := Scalar.addi v78 c1024_i32_47
  let v80 : BitVec 32 := v79
  let v81 : Index := Scalar.indexCast v80
  let c0_49 : Index := 0#32
  ![0, v81.toNat, 0]
def k0_mult13 (i : grid0.Coords) : BitVec 32 :=
  let arg2 : BitVec 32 := BitVec.ofNat 32 (i 2).val
  let c2048_i32_62 : BitVec 32 := 2048#32
  let v110 : BitVec 32 := Scalar.muli arg2 c2048_i32_62
  let c1536_i32_63 : BitVec 32 := 1536#32
  let v111 : BitVec 32 := Scalar.addi v110 c1536_i32_63
  v111
def k0_cond7 (i : grid0.Coords) : BitVec 1 :=
  let arg1 : BitVec 32 := BitVec.ofNat 32 (i 1).val
  let c512_i32 : BitVec 32 := 512#32
  let v8 : BitVec 32 := Scalar.muli arg1 c512_i32
  let arg2 : BitVec 32 := BitVec.ofNat 32 (i 2).val
  let c2048_i32 : BitVec 32 := 2048#32
  let v9 : BitVec 32 := Scalar.muli arg2 c2048_i32
  let v10 : BitVec 32 := Scalar.subi v8 v9
  let c1536_i32 : BitVec 32 := 1536#32
  let v23 : BitVec 1 := Scalar.cmpi .eq v10 c1536_i32
  let v24 : BitVec 32 := Scalar.extui v23
  let c0_i32_10 : BitVec 32 := 0#32
  let v25 : BitVec 1 := Scalar.cmpi .ne v24 c0_i32_10
  v25

def k0_mult14 (i : grid0.Coords) : BitVec 32 :=
  let arg2 : BitVec 32 := BitVec.ofNat 32 (i 2).val
  let c2048_i32_39 : BitVec 32 := 2048#32
  let v71 : BitVec 32 := Scalar.muli arg2 c2048_i32_39
  let c1536_i32_40 : BitVec 32 := 1536#32
  let v72 : BitVec 32 := Scalar.addi v71 c1536_i32_40
  v72
def k0_off5 (i : grid0.Coords) : Fin 3 → Nat :=
  let c0_41 : Index := 0#32
  let arg2 : BitVec 32 := BitVec.ofNat 32 (i 2).val
  let c2048_i32_39 : BitVec 32 := 2048#32
  let v71 : BitVec 32 := Scalar.muli arg2 c2048_i32_39
  let c1536_i32_40 : BitVec 32 := 1536#32
  let v72 : BitVec 32 := Scalar.addi v71 c1536_i32_40
  let v73 : BitVec 32 := v72
  let v74 : Index := Scalar.indexCast v73
  let c0_42 : Index := 0#32
  ![0, v74.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond8 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_11 : BitVec 32 := 0#32
  let v28 : BitVec 1 := Scalar.cmpi .ne v27 c0_i32_11
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_4 : BitVec 32 := 0#32
  let c0_i32_5 : BitVec 32 := 0#32
  ![arg0.toNat, v18.toNat, c0_i32_4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S16x8192x192 : Shape := ⟨3, ![16, 8192, 192]⟩
abbrev S16x8192x128 : Shape := ⟨3, ![16, 8192, 128]⟩
abbrev S8192 : Shape := ⟨1, ![8192]⟩
abbrev S16x8192x8192 : Shape := ⟨3, ![16, 8192, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩

abbrev nBuf : Space → Nat
  | .hbm => 79
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S16x8192x128, .f32⟩
  | .hbm, ⟨4, _⟩ => ⟨S8192, .i32⟩
  | .hbm, ⟨5, _⟩ => ⟨S16x8192x8192, .f32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S16x8192x8192, .i1⟩
  | .hbm, ⟨14, _⟩ => ⟨S16x8192x8192, .f32⟩
  | .hbm, ⟨15, _⟩ => ⟨S16x8192x8192, .f32⟩
  | .hbm, ⟨16, _⟩ => ⟨S_, .f32⟩
  | .hbm, ⟨17, _⟩ => ⟨S16x8192x8192, .f32⟩
  | .hbm, ⟨18, _⟩ => ⟨S_, .f32⟩
  | .hbm, ⟨19, _⟩ => ⟨S16x8192, .f32⟩
  | .hbm, ⟨20, _⟩ => ⟨S16x8192x1, .f32⟩
  | .hbm, ⟨21, _⟩ => ⟨S16x8192x8192, .f32⟩
  | .hbm, ⟨22, _⟩ => ⟨S16x8192x8192, .i1⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S_, .f32⟩
  | .hbm, ⟨30, _⟩ => ⟨S16x8192, .f32⟩
  | .hbm, ⟨31, _⟩ => ⟨S16x8192, .i1⟩
  | .hbm, ⟨32, _⟩ => ⟨S_, .f32⟩
  | .hbm, ⟨33, _⟩ => ⟨S16x8192, .f32⟩
  | .hbm, ⟨34, _⟩ => ⟨S16x8192, .i1⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192, .f32⟩
  | .hbm, ⟨49, _⟩ => ⟨S16x8192x1, .f32⟩
  | .hbm, ⟨50, _⟩ => ⟨S16x8192x8192, .f32⟩
  | .hbm, ⟨51, _⟩ => ⟨S16x8192x8192, .f32⟩
  | .hbm, ⟨52, _⟩ => ⟨S16x8192x1, .f32⟩
  | .hbm, ⟨53, _⟩ => ⟨S_, .f32⟩
  | .hbm, ⟨54, _⟩ => ⟨S16x8192x1, .f32⟩
  | .hbm, ⟨55, _⟩ => ⟨S16x8192x1, .f32⟩
  | .hbm, ⟨56, _⟩ => ⟨S16x8192x128, .f32⟩
  | .hbm, ⟨57, _⟩ => ⟨S16x128x8192, .f32⟩
  | .hbm, ⟨58, _⟩ => ⟨S16x8192x128, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S16x8192, .f32⟩
  | .hbm, ⟨65, _⟩ => ⟨S16x8192x1, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S_, .f32⟩
  | .hbm, ⟨70, _⟩ => ⟨S16x8192, .f32⟩
  | .hbm, ⟨71, _⟩ => ⟨S16x8192x8192, .f32⟩
  | .hbm, ⟨72, _⟩ => ⟨S16x8192x8192, .f32⟩
  | .hbm, ⟨73, _⟩ => ⟨S16x8192x8192, .f32⟩
  | .hbm, ⟨74, _⟩ => ⟨S_, .f32⟩
  | .hbm, ⟨75, _⟩ => ⟨S16x8192x8192, .f32⟩
  | .hbm, ⟨76, _⟩ => ⟨S16x8192x8192, .f32⟩
  | .hbm, ⟨77, _⟩ => ⟨S16x8192x192, .f32⟩
  | .hbm, ⟨78, _⟩ => ⟨S16x8192x192, .f32⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Kernel2.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x2048, .bf16⟩
  | .hbm, ⟨3, _⟩ => ⟨S8192x2048, .f32⟩
  | .hbm, ⟨4, _⟩ => ⟨S8192x4096, .bf16⟩
  | .hbm, ⟨5, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x2048, .bf16⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S4096x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .bf16⟩
  | .hbm, ⟨36, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S16x8192x192 : Shape := ⟨3, ![16, 8192, 192]⟩
abbrev S16x8192x128 : Shape := ⟨3, ![16, 8192, 128]⟩
abbrev S1x1024x192 : Shape := ⟨3, ![1, 1024, 192]⟩
abbrev S1x2048x192 : Shape := ⟨3, ![1, 2048, 192]⟩
abbrev S1x2048x128 : Shape := ⟨3, ![1, 2048, 128]⟩
abbrev S1x1024x128 : Shape := ⟨3, ![1, 1024, 128]⟩
abbrev S1024x1 : Shape := ⟨2, ![1024, 1]⟩
abbrev S1024x128 : Shape := ⟨2, ![1024, 128]⟩
abbrev S1024x192 : Shape := ⟨2, ![1024, 192]⟩
abbrev S1x256x192 : Shape := ⟨3, ![1, 256, 192]⟩
abbrev S256x192 : Shape := ⟨2, ![256, 192]⟩
abbrev S1024x256 : Shape := ⟨2, ![1024, 256]⟩
abbrev S1024 : Shape := ⟨1, ![1024]⟩
abbrev S1x256x128 : Shape := ⟨3, ![1, 256, 128]⟩
abbrev S256x128 : Shape := ⟨2, ![256, 128]⟩

abbrev nBuf : Space → Nat
  | .hbm => 8
  | .vmem => 13
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S16x8192x192, .bf16⟩
  | .hbm, ⟨4, _⟩ => ⟨S16x8192x192, .bf16⟩
  | .hbm, ⟨5, _⟩ => ⟨S16x8192x128, .bf16⟩
  | .hbm, ⟨6, _⟩ => ⟨S16x8192x128, .f32⟩
  | .hbm, ⟨7, _⟩ => ⟨S16x8192x128, .f32⟩
  | .local _ .vmem, ⟨0, _⟩ => ⟨S1x1024x192, .bf16⟩
  | .local _ .vmem, ⟨1, _⟩ => ⟨S1x1024x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 4], ![false, false, false]⟩

def k0_cond5 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1023_i32 : BitVec 32 := 1023#32
  let v1 : BitVec 32 := Scalar.addi v0 c1023_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.minsi arg2 v18
  let c0_i32_4 : BitVec 32 := 0#32
  let c0_i32_5 : BitVec 32 := 0#32
  ![arg0.toNat, v19.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1023_i32 : BitVec 32 := 1023#32
  let v1 : BitVec 32 := Scalar.addi v0 c1023_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.minsi arg2 v18
  let c0_i32_4 : BitVec 32 := 0#32
  let c0_i32_5 : BitVec 32 := 0#32
  ![arg0.toNat, v19.toNat, c0_i32_4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel3Ideal.lean ====
variable {F : FTy → Type} [FloatOps F] [Named F]
def κ : String → Option EReal := fun
  | "mask" => some ⊥
  | _ => none
-- ==== Reference3Ideal.lean ====
abbrev S16x8192x192 : Shape := ⟨3, ![16, 8192, 192]⟩
abbrev S16x8192x128 : Shape := ⟨3, ![16, 8192, 128]⟩
abbrev S8192 : Shape := ⟨1, ![8192]⟩
abbrev S16x8192x8192 : Shape := ⟨3, ![16, 8192, 8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S16x8192 : Shape := ⟨2, ![16, 8192]⟩
abbrev S16x8192x1 : Shape := ⟨3, ![16, 8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S8192, .i32⟩
  | .hbm, ⟨4, _⟩ => ⟨S16x8192x8192, .f32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S_, .f32⟩
  | .hbm, ⟨11, _⟩ => ⟨S_, .f32⟩
  | .hbm, ⟨12, _⟩ => ⟨S16x8192x8192, .i1⟩
  | .hbm, ⟨13, _⟩ => ⟨S16x8192x8192, .f32⟩
  | .hbm, ⟨14, _⟩ => ⟨S16x8192x8192, .f32⟩
  | .hbm, ⟨15, _⟩ => ⟨S_, .f32⟩
  | .hbm, ⟨16, _⟩ => ⟨S16x8192, .f32⟩
  | .hbm, ⟨17, _⟩ => ⟨S16x8192x1, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192, .f32⟩
  | .hbm, ⟨23, _⟩ => ⟨S16x8192x1, .f32⟩
  | .hbm, ⟨24, _⟩ => ⟨S16x8192x1, .f32⟩
  | .hbm, ⟨25, _⟩ => ⟨S16x8192x1, .f32⟩
  | .hbm, ⟨26, _⟩ => ⟨S8192, .i32⟩
  | .hbm, ⟨27, _⟩ => ⟨S16x8192x8192, .f32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S16x8192x8192, .i1⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192, .f32⟩
  | .hbm, ⟨49, _⟩ => ⟨S16x8192x1, .f32⟩
  | .hbm, ⟨50, _⟩ => ⟨S16x8192x8192, .f32⟩
  | .hbm, ⟨51, _⟩ => ⟨S16x8192x8192, .f32⟩
  | .hbm, ⟨52, _⟩ => ⟨S16x8192x128, .f32⟩
  | .hbm, ⟨53, _⟩ => ⟨S16x8192x128, .f32⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel4.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2048x4096, .bf16⟩
  | .hbm, ⟨3, _⟩ => ⟨S8192x4096, .bf16⟩
  | .hbm, ⟨4, _⟩ => ⟨S8192x4096, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S2048x4096 : Shape := ⟨2, ![2048, 4096]⟩
abbrev S8192x4096 : Shape := ⟨2, ![8192, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2048x4096, .bf16⟩
  | .hbm, ⟨3, _⟩ => ⟨S8192x2048, .f32⟩
  | .hbm, ⟨4, _⟩ => ⟨S2048x4096, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | .hbm, ⟨19, _⟩ => ⟨S8192x4096, .bf16⟩
  | .hbm, ⟨20, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S8192x4096 : Shape := ⟨2, ![8192, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S_, .f32⟩
  | .hbm, ⟨5, _⟩ => ⟨S2048x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton
public import Idealize.ShloMosaic.Lib.Tactic
public import Idealize.ShloMosaic.Lib.Exec
public import Idealize.ShloMosaic.Lib.VecWindow

/-! # What one grid point of the backward kernel computes

At a point the kernel holds 2048 query rows against 512 keys. The rows come in four blocks of 512. A block adds its share to
the query gradient's rows and to the two running sums, the key gradient and the value gradient. These definitions say so
without any buffer in them. -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The probabilities of a block: the exponential of the scores less the rows' logarithms. -/
def prob (q k : Vec F S1x512x192 .bf16) (l : Vec F S1x512x1 .f32) : FVec F S512x512 .f32 :=
  exp (subf (matmul dot_S512x192_S512x192_S512x512_1_1_0_0_n_n none (shapeCast S512x192 q shapeCasts_S1x512x192_S512x192)
      (shapeCast S512x192 k shapeCasts_S1x512x192_S512x192) (constant S512x512 .f32 0x00000000#32))
    (broadcastTo S512x512 (shapeCast S512x1 l shapeCasts_S1x512x1_S512x1) broadcasts_S512x1_S512x512))

/-- The probabilities with those of later positions set to zero; both positions are counted from `n`. -/
def masked (n : BitVec 32) (p : FVec F S512x512 .f32) : FVec F S512x512 .f32 :=
  select (cmpi .sge (addi (iota .tc S512x512 32 [0] iota_S512x512_d0_w32) (broadcast S512x512 n))
      (addi (iota .tc S512x512 32 [1] iota_S512x512_d1_w32) (broadcast S512x512 n)))
    p (broadcast S512x512 (Scalar.ofBits .f32 0x00000000#32))

/-- The gradient with respect to the scores of a block. -/
def dscore (p : FVec F S512x512 .f32) (v : Vec F S1x512x128 .bf16) (g o : Vec F S1x512x128 .f32) : FVec F S512x512 .bf16 :=
  truncf .bf16 (mulf p (subf
    (matmul dot_S512x128_S512x128_S512x512_1_1_0_0_n_n none (truncf .bf16 (shapeCast S512x128 g shapeCasts_S1x512x128_S512x128) bitsLt_bf16_f32)
      (shapeCast S512x128 v shapeCasts_S1x512x128_S512x128) (constant S512x512 .f32 0x00000000#32))
    (broadcastTo S512x512 (shapeCast S512x1 (multiReduction .add [1] S512
        (mulf (shapeCast S512x128 g shapeCasts_S1x512x128_S512x128) (shapeCast S512x128 o shapeCasts_S1x512x128_S512x128))
        0x00000000#32 reduces_S512x128_S512 (.inl rfl) rfl) shapeCasts_S512_S512x1) broadcasts_S512x1_S512x512))) bitsLt_bf16_f32

/-- A block's share of the value gradient, added to what there was. -/
def addV (a : FVec F S512x128 .f32) (p : FVec F S512x512 .f32) (g : Vec F S1x512x128 .f32) : FVec F S512x128 .f32 :=
  addf a (matmul dot_S512x512_S512x128_S512x128_0_0_1_1_n_n none (truncf .bf16 p bitsLt_bf16_f32)
    (truncf .bf16 (shapeCast S512x128 g shapeCasts_S1x512x128_S512x128) bitsLt_bf16_f32) (constant S512x128 .f32 0x00000000#32))

/-- A block's share of the key gradient, added to what there was. -/
def addK (a : FVec F S512x192 .f32) (s : FVec F S512x512 .bf16) (q : Vec F S1x512x192 .bf16) : FVec F S512x192 .f32 :=
  addf a (matmul dot_S512x512_S512x192_S512x192_0_0_1_1_n_n none s (shapeCast S512x192 q shapeCasts_S1x512x192_S512x192)
    (constant S512x192 .f32 0x00000000#32))

/-- A block's share of its own rows of the query gradient, added to what there was. -/
def addQ (a : Vec F S1x512x192 .f32) (s : FVec F S512x512 .bf16) (k : Vec F S1x512x192 .bf16) : FVec F S1x512x192 .f32 :=
  shapeCast S1x512x192 (addf (shapeCast S512x192 a shapeCasts_S1x512x192_S512x192)
    (matmul dot_S512x512_S512x192_S512x192_1_0_0_1_n_n none s (shapeCast S512x192 k shapeCasts_S1x512x192_S512x192)
      (constant S512x192 .f32 0x00000000#32))) shapeCasts_S512x192_S1x512x192

/-- What a point holds of the six operands. -/
structure Ops (F : FTy → Type) [FloatOps F] where
  q : Vec F S1x2048x192 .bf16
  k : Vec F S1x512x192 .bf16
  v : Vec F S1x512x128 .bf16
  o : Vec F S1x2048x128 .f32
  l : Vec F S1x2048x128 .f32
  g : Vec F S1x2048x128 .f32

theorem inb192 (r : Fin 4) : ∀ a, (![0, 512 * r.val, 0] : Fin 3 → ℕ) a + (![1, 512, 192] : Fin 3 → ℕ) a ≤ S1x2048x192.size a := by
  revert r; decide
theorem inb128 (r : Fin 4) : ∀ a, (![0, 512 * r.val, 0] : Fin 3 → ℕ) a + (![1, 512, 128] : Fin 3 → ℕ) a ≤ S1x2048x128.size a := by
  revert r; decide
theorem inb1 (r : Fin 4) : ∀ a, (![0, 512 * r.val, 0] : Fin 3 → ℕ) a + (![1, 512, 1] : Fin 3 → ℕ) a ≤ S1x2048x128.size a := by
  revert r; decide
theorem inbAll (b r : Fin 4) : ∀ a, (![0, 2048 * b.val + 512 * r.val, 0] : Fin 3 → ℕ) a + (![1, 512, 192] : Fin 3 → ℕ) a ≤ S1x8192x192.size a := by
  revert b r; decide

namespace Ops
variable (x : Ops F)

/-- Block `r`'s queries. -/
def qb (r : Fin 4) : Vec F S1x512x192 .bf16 := VecWindow.window x.q ![0, 512 * r.val, 0] ![1, 512, 192] (inb192 r)
/-- Block `r`'s output rows. -/
def ob (r : Fin 4) : Vec F S1x512x128 .f32 := VecWindow.window x.o ![0, 512 * r.val, 0] ![1, 512, 128] (inb128 r)
/-- Block `r`'s rows of the output's gradient. -/
def gb (r : Fin 4) : Vec F S1x512x128 .f32 := VecWindow.window x.g ![0, 512 * r.val, 0] ![1, 512, 128] (inb128 r)
/-- Block `r`'s logarithms, one to a row. -/
def lb (r : Fin 4) : Vec F S1x512x1 .f32 := VecWindow.window x.l ![0, 512 * r.val, 0] ![1, 512, 1] (inb1 r)

/-- Block `r`'s probabilities, every key before every row. -/
def pF (r : Fin 4) : FVec F S512x512 .f32 := prob (x.qb r) x.k (x.lb r)
/-- Block `r`'s probabilities on the diagonal. -/
def pM (r : Fin 4) : FVec F S512x512 .f32 := masked (BitVec.ofNat 32 (512 * r.val)) (prob (x.qb r) x.k (x.lb r))

end Ops

/-- The contents a point works on: the query gradient of the head, and the two running sums. -/
structure St (F : FTy → Type) [FloatOps F] where
  dq : Vec F S1x8192x192 .f32
  dk : Vec F S512x192 .f32
  dv : Vec F S512x128 .f32

/-- One block with probabilities `p`: block `r` of the `b`-th group of 2048 rows. -/
def block (x : Ops F) (b r : Fin 4) (p : FVec F S512x512 .f32) (s : St F) : St F where
  dq := VecWindow.put s.dq ![0, 2048 * b.val + 512 * r.val, 0] ![1, 512, 192]
    (addQ (VecWindow.window s.dq ![0, 2048 * b.val + 512 * r.val, 0] ![1, 512, 192] (inbAll b r)) (dscore p x.v (x.gb r) (x.ob r)) x.k)
  dk := addK s.dk (dscore p x.v (x.gb r) (x.ob r)) (x.qb r)
  dv := addV s.dv p (x.gb r)

/-- The running sums as stored: a cast to their own shape. -/
def stored (s : St F) : St F where
  dq := s.dq
  dk := shapeCast S512x192 s.dk shapeCasts_S512x192_S512x192
  dv := shapeCast S512x128 s.dv shapeCasts_S512x128_S512x128

/-- A tile wholly before the diagonal. -/
def tileFull (x : Ops F) (b : Fin 4) (s : St F) : St F :=
  stored (block x b 3 (x.pF 3) (block x b 2 (x.pF 2) (block x b 1 (x.pF 1) (block x b 0 (x.pF 0) s))))
/-- A tile the diagonal meets in the first block. -/
def tile0 (x : Ops F) (b : Fin 4) (s : St F) : St F :=
  stored (block x b 3 (x.pF 3) (block x b 2 (x.pF 2) (block x b 1 (x.pF 1) (block x b 0 (x.pM 0) s))))
/-- A tile the diagonal meets in the second block. -/
def tile1 (x : Ops F) (b : Fin 4) (s : St F) : St F :=
  stored (block x b 3 (x.pF 3) (block x b 2 (x.pF 2) (block x b 1 (x.pM 1) s)))
/-- A tile the diagonal meets in the third block. -/
def tile2 (x : Ops F) (b : Fin 4) (s : St F) : St F :=
  stored (block x b 3 (x.pF 3) (block x b 2 (x.pM 2) s))
/-- A tile the diagonal meets in the last block. -/
def tile3 (x : Ops F) (b : Fin 4) (s : St F) : St F :=
  stored (block x b 3 (x.pM 3) s)

/-- What block `r` writes to its rows of the query gradient, of `w`. -/
def rowsQ (x : Ops F) (b r : Fin 4) (p : FVec F S512x512 .f32) (w : Vec F S1x8192x192 .f32) : FVec F S1x512x192 .f32 :=
  addQ (VecWindow.window w ![0, 2048 * b.val + 512 * r.val, 0] ![1, 512, 192] (inbAll b r)) (dscore p x.v (x.gb r) (x.ob r)) x.k

/-- `w` with `u` at block `r`'s rows. -/
def setQ (b r : Fin 4) (w : Vec F S1x8192x192 .f32) (u : FVec F S1x512x192 .f32) : Vec F S1x8192x192 .f32 :=
  VecWindow.put w ![0, 2048 * b.val + 512 * r.val, 0] ![1, 512, 192] u

theorem block_dq (x : Ops F) (b r : Fin 4) (p : FVec F S512x512 .f32) (s : St F) : (block x b r p s).dq = setQ b r s.dq (rowsQ x b r p s.dq) := rfl

/-- A block's rows are untouched by another block. -/
theorem rowsQ_setQ (x : Ops F) (b : Fin 4) {r r' : Fin 4} (h : r ≠ r') (p : FVec F S512x512 .f32) (w : Vec F S1x8192x192 .f32) (u : FVec F S1x512x192 .f32) :
    rowsQ x b r p (setQ b r' w u) = rowsQ x b r p w := by
  have h' : r.val ≠ r'.val := fun e => h (Fin.ext e)
  have e := VecWindow.window_put_of_disjoint w ![0, 2048 * b.val + 512 * r'.val, 0] ![1, 512, 192] ![0, 2048 * b.val + 512 * r.val, 0] ![1, 512, 192]
    (inbAll b r) u 1 (by show 2048 * b.val + 512 * r.val + 512 ≤ 2048 * b.val + 512 * r'.val ∨ 2048 * b.val + 512 * r'.val + 512 ≤ 2048 * b.val + 512 * r.val; omega)
  unfold rowsQ setQ; rw [e]

theorem tileFull_dq (x : Ops F) (b : Fin 4) (s : St F) : (tileFull x b s).dq = setQ b 3 (setQ b 2 (setQ b 1 (setQ b 0 s.dq
    (rowsQ x b 0 (x.pF 0) s.dq)) (rowsQ x b 1 (x.pF 1) s.dq)) (rowsQ x b 2 (x.pF 2) s.dq)) (rowsQ x b 3 (x.pF 3) s.dq) := by
  simp (disch := decide) only [tileFull, stored, block_dq, rowsQ_setQ]
theorem tile0_dq (x : Ops F) (b : Fin 4) (s : St F) : (tile0 x b s).dq = setQ b 3 (setQ b 2 (setQ b 1 (setQ b 0 s.dq
    (rowsQ x b 0 (x.pM 0) s.dq)) (rowsQ x b 1 (x.pF 1) s.dq)) (rowsQ x b 2 (x.pF 2) s.dq)) (rowsQ x b 3 (x.pF 3) s.dq) := by
  simp (disch := decide) only [tile0, stored, block_dq, rowsQ_setQ]
theorem tile1_dq (x : Ops F) (b : Fin 4) (s : St F) : (tile1 x b s).dq = setQ b 3 (setQ b 2 (setQ b 1 s.dq
    (rowsQ x b 1 (x.pM 1) s.dq)) (rowsQ x b 2 (x.pF 2) s.dq)) (rowsQ x b 3 (x.pF 3) s.dq) := by
  simp (disch := decide) only [tile1, stored, block_dq, rowsQ_setQ]
theorem tile2_dq (x : Ops F) (b : Fin 4) (s : St F) : (tile2 x b s).dq = setQ b 3 (setQ b 2 s.dq
    (rowsQ x b 2 (x.pM 2) s.dq)) (rowsQ x b 3 (x.pF 3) s.dq) := by
  simp (disch := decide) only [tile2, stored, block_dq, rowsQ_setQ]
theorem tile3_dq (x : Ops F) (b : Fin 4) (s : St F) : (tile3 x b s).dq = setQ b 3 s.dq (rowsQ x b 3 (x.pM 3) s.dq) := by
  simp (disch := decide) only [tile3, stored, block_dq, rowsQ_setQ]

/-- The query gradient set to zero. -/
def zeroQ (s : St F) : St F := { s with dq := k0_pay1 }
/-- The two running sums set to zero. -/
def zeroKV (s : St F) : St F := { s with dk := k0_pay2, dv := k0_pay3 }

end Cert.KernelIdeal.Bwd

end
-- ==== Proof.RunBase.lean ====
module

public import proofs.«01_k».proof.Proof.Step

/-! # The buffers a point holds, and what its stores leave -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The first point of a head. -/
abbrev cA (i : grid0.Coords) : Prop := k0_cond1 i = 1#1
/-- The first point of a row of keys. -/
abbrev cB (i : grid0.Coords) : Prop := (Scalar.cmpi .ne (Scalar.extui (Scalar.cmpi .eq (BitVec.ofNat 32 (i 2).val) 0#32)) 0#32) = 1#1

variable (c : Dev nD)
  (a3 : Memref sig .tc .vmem S1x2048x192 .bf16) (a4 : Memref sig .tc .vmem S1x512x192 .bf16)
  (a5 : Memref sig .tc .vmem S1x512x128 .bf16) (a6 : Memref sig .tc .vmem S1x2048x128 .f32)
  (a7 : Memref sig .tc .vmem S1x2048x128 .f32) (a8 : Memref sig .tc .vmem S1x2048x128 .f32)
  (a9 : Memref sig .tc .vmem S1x8192x192 .f32) (a10 : Memref sig .tc .vmem S1x512x192 .f32)
  (a11 : Memref sig .tc .vmem S1x512x128 .f32) (a12 : Memref sig .tc .vmem S512x192 .f32)
  (a13 : Memref sig .tc .vmem S512x128 .f32)

/-- The staging buffers and the scratch at stated contents. -/
def held (x : Ops F) (s : St F) (ok : Vec F S1x512x192 .f32) (ov : Vec F S1x512x128 .f32) : sProp 𝕄 :=
  iprop(owns (c : Thread nD τ) a3 fullShare x.q ∗ owns (c : Thread nD τ) a4 fullShare x.k ∗ owns (c : Thread nD τ) a5 fullShare x.v
    ∗ owns (c : Thread nD τ) a6 fullShare x.o ∗ owns (c : Thread nD τ) a7 fullShare x.l ∗ owns (c : Thread nD τ) a8 fullShare x.g
    ∗ owns (c : Thread nD τ) a9 fullShare s.dq ∗ owns (c : Thread nD τ) a10 fullShare ok ∗ owns (c : Thread nD τ) a11 fullShare ov
    ∗ owns (c : Thread nD τ) a12 fullShare s.dk ∗ owns (c : Thread nD τ) a13 fullShare s.dv)

theorem rowWord (k r : Fin 4) :
    (Scalar.indexCast (Scalar.addi (Scalar.muli (BitVec.ofNat 32 k.val) 2048#32) (BitVec.ofNat 32 (512 * r.val)))).toNat
      = 2048 * k.val + 512 * r.val := by
  revert k r; decide

/-- Where block `r` of the point's rows starts in the head's query gradient, in each of the kernel's five spellings. -/
theorem off1 (i : grid0.Coords) (r : Fin 4) : k0_off1 i (BitVec.ofNat 32 (512 * r.val)) = ![0, 2048 * (i 2).val + 512 * r.val, 0] :=
  congrArg (fun n : ℕ => ![0, n, 0]) (rowWord (i 2) r)
theorem off2 (i : grid0.Coords) (r : Fin 4) : k0_off2 i (BitVec.ofNat 32 (512 * r.val)) = ![0, 2048 * (i 2).val + 512 * r.val, 0] :=
  congrArg (fun n : ℕ => ![0, n, 0]) (rowWord (i 2) r)
theorem off3 (i : grid0.Coords) (r : Fin 4) : k0_off3 i (BitVec.ofNat 32 (512 * r.val)) = ![0, 2048 * (i 2).val + 512 * r.val, 0] :=
  congrArg (fun n : ℕ => ![0, n, 0]) (rowWord (i 2) r)
theorem off4 (i : grid0.Coords) (r : Fin 4) : k0_off4 i (BitVec.ofNat 32 (512 * r.val)) = ![0, 2048 * (i 2).val + 512 * r.val, 0] :=
  congrArg (fun n : ℕ => ![0, n, 0]) (rowWord (i 2) r)
theorem off5 (i : grid0.Coords) : k0_off5 i = ![0, 2048 * (i 2).val + 512 * (3 : Fin 4).val, 0] :=
  congrArg (fun n : ℕ => ![0, n, 0]) (rowWord (i 2) 3)

theorem off1_0 (i : grid0.Coords) : k0_off1 i 0#32 = ![0, 2048 * (i 2).val + 512 * (0 : Fin 4).val, 0] := off1 i 0
theorem off1_1 (i : grid0.Coords) : k0_off1 i 512#32 = ![0, 2048 * (i 2).val + 512 * (1 : Fin 4).val, 0] := off1 i 1
theorem off1_2 (i : grid0.Coords) : k0_off1 i 1024#32 = ![0, 2048 * (i 2).val + 512 * (2 : Fin 4).val, 0] := off1 i 2
theorem off1_3 (i : grid0.Coords) : k0_off1 i 1536#32 = ![0, 2048 * (i 2).val + 512 * (3 : Fin 4).val, 0] := off1 i 3
theorem off2_0 (i : grid0.Coords) : k0_off2 i 0#32 = ![0, 2048 * (i 2).val + 512 * (0 : Fin 4).val, 0] := off2 i 0
theorem off2_1 (i : grid0.Coords) : k0_off2 i 512#32 = ![0, 2048 * (i 2).val + 512 * (1 : Fin 4).val, 0] := off2 i 1
theorem off2_2 (i : grid0.Coords) : k0_off2 i 1024#32 = ![0, 2048 * (i 2).val + 512 * (2 : Fin 4).val, 0] := off2 i 2
theorem off2_3 (i : grid0.Coords) : k0_off2 i 1536#32 = ![0, 2048 * (i 2).val + 512 * (3 : Fin 4).val, 0] := off2 i 3
theorem off3_0 (i : grid0.Coords) : k0_off3 i 0#32 = ![0, 2048 * (i 2).val + 512 * (0 : Fin 4).val, 0] := off3 i 0
theorem off3_1 (i : grid0.Coords) : k0_off3 i 512#32 = ![0, 2048 * (i 2).val + 512 * (1 : Fin 4).val, 0] := off3 i 1
theorem off3_2 (i : grid0.Coords) : k0_off3 i 1024#32 = ![0, 2048 * (i 2).val + 512 * (2 : Fin 4).val, 0] := off3 i 2
theorem off3_3 (i : grid0.Coords) : k0_off3 i 1536#32 = ![0, 2048 * (i 2).val + 512 * (3 : Fin 4).val, 0] := off3 i 3
theorem off4_0 (i : grid0.Coords) : k0_off4 i 0#32 = ![0, 2048 * (i 2).val + 512 * (0 : Fin 4).val, 0] := off4 i 0
theorem off4_1 (i : grid0.Coords) : k0_off4 i 512#32 = ![0, 2048 * (i 2).val + 512 * (1 : Fin 4).val, 0] := off4 i 1
theorem off4_2 (i : grid0.Coords) : k0_off4 i 1024#32 = ![0, 2048 * (i 2).val + 512 * (2 : Fin 4).val, 0] := off4 i 2
theorem off4_3 (i : grid0.Coords) : k0_off4 i 1536#32 = ![0, 2048 * (i 2).val + 512 * (3 : Fin 4).val, 0] := off4 i 3
theorem off5_3 (i : grid0.Coords) : k0_off5 i = ![0, 2048 * (i 2).val + 512 * (3 : Fin 4).val, 0] := off5 i

theorem readK (a : Memref sig .tc .vmem S512x192 .f32) (f : a.view.ty.Contents (Elt F)) :
    a.view.readAt (Elt F) (Rect.unit (s := S512x192) ![0, 0] ![512, 192] inb_S512x192_S512x192_0_0).toLoadRect f = a.view.read (Elt F) f :=
  View.readAt_full a.view f inb_S512x192_S512x192_0_0
theorem readV (a : Memref sig .tc .vmem S512x128 .f32) (f : a.view.ty.Contents (Elt F)) :
    a.view.readAt (Elt F) (Rect.unit (s := S512x128) ![0, 0] ![512, 128] inb_S512x128_S512x128_0_0).toLoadRect f = a.view.read (Elt F) f :=
  View.readAt_full a.view f inb_S512x128_S512x128_0_0
theorem readK1 (a : Memref sig .tc .vmem S1x512x192 .bf16) (f : a.view.ty.Contents (Elt F)) :
    a.view.readAt (Elt F) (Rect.unit (s := S1x512x192) ![0, 0, 0] ![1, 512, 192] inb_S1x512x192_S1x512x192_0_0_0).toLoadRect f = a.view.read (Elt F) f :=
  View.readAt_full a.view f inb_S1x512x192_S1x512x192_0_0_0
theorem readV1 (a : Memref sig .tc .vmem S1x512x128 .bf16) (f : a.view.ty.Contents (Elt F)) :
    a.view.readAt (Elt F) (Rect.unit (s := S1x512x128) ![0, 0, 0] ![1, 512, 128] inb_S1x512x128_S1x512x128_0_0_0).toLoadRect f = a.view.read (Elt F) f :=
  View.readAt_full a.view f inb_S1x512x128_S1x512x128_0_0_0

theorem covK (a : Memref sig .tc .vmem S512x192 .f32) (w : S512x192.Idx → Elt F .f32) (L : List (View.Piece (Elt F) S512x192 .f32)) :
    a.view.readCov (⟨Rect.unit (s := S512x192) ![0, 0] ![512, 192] inb_S512x192_S512x192_0_0, w⟩ :: L) (Rect.unit (s := S512x192) ![0, 0] ![512, 192] inb_S512x192_S512x192_0_0).toLoadRect = w :=
  View.readCov_full a.view inb_S512x192_S512x192_0_0 inb_S512x192_S512x192_0_0 w L

theorem covV (a : Memref sig .tc .vmem S512x128 .f32) (w : S512x128.Idx → Elt F .f32) (L : List (View.Piece (Elt F) S512x128 .f32)) :
    a.view.readCov (⟨Rect.unit (s := S512x128) ![0, 0] ![512, 128] inb_S512x128_S512x128_0_0, w⟩ :: L) (Rect.unit (s := S512x128) ![0, 0] ![512, 128] inb_S512x128_S512x128_0_0).toLoadRect = w :=
  View.readCov_full a.view inb_S512x128_S512x128_0_0 inb_S512x128_S512x128_0_0 w L

theorem putQ (a : Memref sig .tc .vmem S1x8192x192 .f32) (f : a.view.ty.Contents (Elt F)) {off : Fin 3 → ℕ} {b r : Fin 4}
    (h : off = ![0, 2048 * b.val + 512 * r.val, 0]) (inb : ∀ d, off d + (![1, 512, 192] : Fin 3 → ℕ) d ≤ S1x8192x192.size d)
    (w : (Rect.unit (s := S1x8192x192) off ![1, 512, 192] inb).shape.Idx → Elt F .f32) (L : List (View.Piece (Elt F) S1x8192x192 .f32)) :
    a.view.read (Elt F) (a.view.writes (Elt F) f (⟨Rect.unit (s := S1x8192x192) off ![1, 512, 192] inb, w⟩ :: L))
      = VecWindow.put (a.view.read (Elt F) (a.view.writes (Elt F) f L)) ![0, 2048 * b.val + 512 * r.val, 0] ![1, 512, 192] w :=
  View.read_writes_cons_put a.view f inb w L h
theorem takeQ (a : Memref sig .tc .vmem S1x8192x192 .f32) (f : a.view.ty.Contents (Elt F)) {off : Fin 3 → ℕ} {b r : Fin 4}
    (h : off = ![0, 2048 * b.val + 512 * r.val, 0]) (inb : ∀ d, off d + (![1, 512, 192] : Fin 3 → ℕ) d ≤ S1x8192x192.size d) :
    a.view.readAt (Elt F) (Rect.unit (s := S1x8192x192) off ![1, 512, 192] inb).toLoadRect f
      = VecWindow.window (a.view.read (Elt F) f) ![0, 2048 * b.val + 512 * r.val, 0] ![1, 512, 192] (inbAll b r) :=
  View.readAt_unit a.view f inb h (inbAll b r)
theorem fillQ (a : Memref sig .tc .vmem S1x8192x192 .f32) (f : a.view.ty.Contents (Elt F)) (w : S1x8192x192.Idx → Elt F .f32)
    (L : List (View.Piece (Elt F) S1x8192x192 .f32)) :
    a.view.read (Elt F) (a.view.writes (Elt F) f (⟨Rect.unit (s := S1x8192x192) ![0, 0, 0] ![1, 8192, 192] inb_S1x8192x192_S1x8192x192_0_0_0, w⟩ :: L)) = w :=
  View.read_writes_full a.view f inb_S1x8192x192_S1x8192x192_0_0_0 w L

end Cert.KernelIdeal.Bwd

end
-- ==== Proof.Points.lean ====
module

public import proofs.«01_k».proof.Proof.RunBase
public import Idealize.ShloMosaic.Lib.Pipeline.TableIdle

/-! # The grid's points: which branch each takes, and the contents from point to point

Point `n` is head `n / 64`, row of keys `n / 4 % 16`, group of rows `n % 4`. -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem coord2 (t : Fin cfg0.N) : (grid0.coords t 2).val = t.val % 4 := by
  have h : (grid0.coords t 2).val = t.val / 1 % 4 := Pipeline.Grid.coords_val t 2 (by decide) rfl
  simpa using h
theorem coord1 (t : Fin cfg0.N) : (grid0.coords t 1).val = t.val / 4 % 16 := Pipeline.Grid.coords_val t 1 (by decide) rfl
theorem coord0 (t : Fin cfg0.N) : (grid0.coords t 0).val = t.val / 64 % 16 := Pipeline.Grid.coords_val t 0 (by decide) rfl

theorem atA : ∀ t : Fin cfg0.N, cA (grid0.coords t) ↔ t.val % 64 = 0 :=
  (by decide +kernel : ∀ t : Fin grid0.N, cA (grid0.coords t) ↔ t.val % 64 = 0)
theorem atB : ∀ t : Fin cfg0.N, cB (grid0.coords t) ↔ t.val % 4 = 0 :=
  (by decide +kernel : ∀ t : Fin grid0.N, cB (grid0.coords t) ↔ t.val % 4 = 0)
theorem at3 : ∀ t : Fin cfg0.N, k0_cond3 (grid0.coords t) = 1#1 ↔ t.val / 4 % 16 + 1 ≤ 4 * (t.val % 4) :=
  (by decide +kernel : ∀ t : Fin grid0.N, k0_cond3 (grid0.coords t) = 1#1 ↔ t.val / 4 % 16 + 1 ≤ 4 * (t.val % 4))
theorem at4 : ∀ t : Fin cfg0.N, k0_cond4 (grid0.coords t) = 1#1 ↔ t.val / 4 % 16 = 4 * (t.val % 4) + 0 :=
  (by decide +kernel : ∀ t : Fin grid0.N, k0_cond4 (grid0.coords t) = 1#1 ↔ t.val / 4 % 16 = 4 * (t.val % 4) + 0)
theorem at5 : ∀ t : Fin cfg0.N, k0_cond5 (grid0.coords t) = 1#1 ↔ t.val / 4 % 16 = 4 * (t.val % 4) + 1 :=
  (by decide +kernel : ∀ t : Fin grid0.N, k0_cond5 (grid0.coords t) = 1#1 ↔ t.val / 4 % 16 = 4 * (t.val % 4) + 1)
theorem at6 : ∀ t : Fin cfg0.N, k0_cond6 (grid0.coords t) = 1#1 ↔ t.val / 4 % 16 = 4 * (t.val % 4) + 2 :=
  (by decide +kernel : ∀ t : Fin grid0.N, k0_cond6 (grid0.coords t) = 1#1 ↔ t.val / 4 % 16 = 4 * (t.val % 4) + 2)
theorem at7 : ∀ t : Fin cfg0.N, k0_cond7 (grid0.coords t) = 1#1 ↔ t.val / 4 % 16 = 4 * (t.val % 4) + 3 :=
  (by decide +kernel : ∀ t : Fin grid0.N, k0_cond7 (grid0.coords t) = 1#1 ↔ t.val / 4 % 16 = 4 * (t.val % 4) + 3)
theorem at8 : ∀ t : Fin cfg0.N, k0_cond8 (grid0.coords t) = 1#1 ↔ t.val % 4 = 3 :=
  (by decide +kernel : ∀ t : Fin grid0.N, k0_cond8 (grid0.coords t) = 1#1 ↔ t.val % 4 = 3)

theorem idle6 : ∀ t : Fin cfg0.N, cfg0.idle 6 (cfg0.grid.coords t) = true ↔ ¬ t.val % 64 = 0 ∧ 4 * (t.val % 4) + 3 < t.val / 4 % 16 :=
  (by decide +kernel : ∀ t : Fin grid0.N, idle0 6 (grid0.coords t) = true ↔ ¬ t.val % 64 = 0 ∧ 4 * (t.val % 4) + 3 < t.val / 4 % 16)
theorem idle7 : ∀ t : Fin cfg0.N, cfg0.idle 7 (cfg0.grid.coords t) = true ↔ ¬ t.val % 4 = 3 :=
  (by decide +kernel : ∀ t : Fin grid0.N, idle0 7 (grid0.coords t) = true ↔ ¬ t.val % 4 = 3)
theorem idle8 : ∀ t : Fin cfg0.N, cfg0.idle 8 (cfg0.grid.coords t) = true ↔ ¬ t.val % 4 = 3 :=
  (by decide +kernel : ∀ t : Fin grid0.N, idle0 8 (grid0.coords t) = true ↔ ¬ t.val % 4 = 3)

/-- The query gradient's buffer holds nothing of the kernel's exactly at a head's first point. -/
theorem fresh6 (n : ℕ) (h : n ≤ cfg0.N) : cfg0.fresh 6 n = decide (n % 64 = 0) :=
  cfg0.fresh_tab 6 (fun n => decide (n % 64 = 0)) rfl (fun t => by
    rw [Bool.eq_iff_iff]
    simp only [Bool.or_eq_true, Bool.and_eq_true, decide_eq_true_eq, flush0_6 t, idle6 t]
    omega) n h

/-- What is set to zero at point `n` before anything is added. -/
def reset (n : ℕ) (s : St F) : St F :=
  if n % 4 = 0 then zeroKV (if n % 64 = 0 then zeroQ s else s) else if n % 64 = 0 then zeroQ s else s

/-- What the tile at point `n` adds. -/
def tileAt (n : ℕ) (x : Ops F) (b : Fin 4) (s : St F) : St F :=
  if n / 4 % 16 + 1 ≤ 4 * (n % 4) then tileFull x b s
  else if n / 4 % 16 = 4 * (n % 4) + 0 then tile0 x b s
  else if n / 4 % 16 = 4 * (n % 4) + 1 then tile1 x b s
  else if n / 4 % 16 = 4 * (n % 4) + 2 then tile2 x b s
  else if n / 4 % 16 = 4 * (n % 4) + 3 then tile3 x b s
  else s

/-- What the conditions make of the contents at point `n`. -/
def stepAt (n : ℕ) (x : Ops F) (b : Fin 4) (s : St F) : St F := tileAt n x b (reset n s)

variable (m : (ℓ : Loc nD τ sig) → Buf (Elt F) ℓ)

/-- The operands at point `t`: each window's block. -/
def ops (c : Dev nD) (t : Fin cfg0.N) : Ops F :=
  ⟨iblk m c 0 t, iblk m c 1 t, iblk m c 2 t, iblk m c 3 t, iblk m c 4 t, iblk m c 5 t⟩

/-- The contents before the first point, as far as they matter. -/
def start : St F := ⟨k0_pay1, k0_pay2, k0_pay3⟩

/-- The contents after `n` points. -/
def traj (c : Dev nD) : ℕ → St F
  | 0 => start
  | n + 1 => if h : n < cfg0.N then stepAt n (ops m c ⟨n, h⟩) (grid0.coords ⟨n, h⟩ 2) (traj c n) else traj c n

theorem traj_succ (c : Dev nD) (t : Fin cfg0.N) :
    traj m c (t.val + 1) = stepAt t.val (ops m c t) (grid0.coords t 2) (traj m c t.val) := by
  rw [traj, dif_pos t.isLt]

/-- A head's first point does not see the query gradient it finds. -/
theorem stepAt_dq (n : ℕ) (h : n % 64 = 0) (x : Ops F) (b : Fin 4) (s : St F) (d : Vec F S1x8192x192 .f32) :
    stepAt n x b ⟨d, s.dk, s.dv⟩ = stepAt n x b s := by
  unfold stepAt reset; rw [if_pos h, if_pos h]; rfl
/-- Nor does the first point of a row of keys see the sums it finds. -/
theorem stepAt_kv (n : ℕ) (h : n % 4 = 0) (x : Ops F) (b : Fin 4) (s : St F) (dk : Vec F S512x192 .f32) (dv : Vec F S512x128 .f32) :
    stepAt n x b ⟨s.dq, dk, dv⟩ = stepAt n x b s := by
  unfold stepAt reset; rw [if_pos h, if_pos h]
  by_cases h6 : n % 64 = 0
  · rw [if_pos h6, if_pos h6]; rfl
  · rw [if_neg h6, if_neg h6]; rfl

/-- Where the query gradient's window is idle, nothing is done to it. -/
theorem stepAt_idle (n : ℕ) (h0 : ¬ n % 64 = 0) (h : 4 * (n % 4) + 3 < n / 4 % 16) (x : Ops F) (b : Fin 4) (s : St F) : (stepAt n x b s).dq = s.dq := by
  unfold stepAt tileAt
  rw [if_neg (by omega), if_neg (by omega), if_neg (by omega), if_neg (by omega), if_neg (by omega)]
  unfold reset
  rw [if_neg h0]
  split_ifs <;> rfl

end Cert.KernelIdeal.Bwd

end
-- ==== Proof.RunNone.lean ====
module

public import proofs.«01_k».proof.Proof.RunBase

/-! # The kernel's body at a point: a tile wholly after the diagonal -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runBnone (x : Ops F) (s : St F) (ok : Vec F S1x512x192 .f32) (ov : Vec F S1x512x128 .f32)
    (hc1 : ¬ cA i) (hc2 : cB i) (hc3 : ¬ k0_cond3 i = 1#1) (hc4 : ¬ k0_cond4 i = 1#1) (hc5 : ¬ k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (zeroKV s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runnone (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : ¬ k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x s ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  · iexists _; isplitr; swap; · iexact H10
    ipureintro
    rfl

end Cert.KernelIdeal.Bwd

end
-- ==== Proof.RunFull.lean ====
module

public import proofs.«01_k».proof.Proof.RunBase

/-! # The kernel's body at a point: a tile wholly before the diagonal -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runFull (x : Ops F) (s : St F) (ok : Vec F S1x512x192 .f32) (ov : Vec F S1x512x128 .f32)
    (hc1 : ¬ cA i) (hc2 : ¬ cB i) (hc3 : k0_cond3 i = 1#1) (hc4 : ¬ k0_cond4 i = 1#1) (hc5 : ¬ k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tileFull x (i 2) s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part1_eq_skeleton, k0_part2_eq_skeleton, k0_part3_eq_skeleton, k0_part4_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off1_0 i), takeQ _ _ (off1_0 i), putQ _ _ (off1_1 i), takeQ _ _ (off1_1 i), putQ _ _ (off1_2 i), takeQ _ _ (off1_2 i), putQ _ _ (off1_3 i), takeQ _ _ (off1_3 i)]
    refine Eq.trans ?_ (tileFull_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runLFull (x : Ops F) (s : St F) (ok : Vec F S1x512x192 .f32) (ov : Vec F S1x512x128 .f32)
    (hc1 : ¬ cA i) (hc2 : ¬ cB i) (hc3 : k0_cond3 i = 1#1) (hc4 : ¬ k0_cond4 i = 1#1) (hc5 : ¬ k0_cond5 i = 1#1) (hc6 : ¬ k0_cond6 i = 1#1) (hc7 : ¬ k0_cond7 i = 1#1) (hc8 : k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tileFull x (i 2) s) (k0_pay20 (tileFull x (i 2) s).dk) (k0_pay21 (tileFull x (i 2) s).dv) -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part1_eq_skeleton, k0_part2_eq_skeleton, k0_part3_eq_skeleton, k0_part4_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off1_0 i), takeQ _ _ (off1_0 i), putQ _ _ (off1_1 i), takeQ _ _ (off1_1 i), putQ _ _ (off1_2 i), takeQ _ _ (off1_2 i), putQ _ _ (off1_3 i), takeQ _ _ (off1_3 i)]
    refine Eq.trans ?_ (tileFull_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    sl_unfold_run_names
    refine (View.read_writes_full _ _ _ _ _).trans ?_
    try simp only [View.readAt_full, View.readCov_full, View.readAt_writes_full, readK, readV, readK1, readV1, covK, covV]
    rfl
  isplitl [H8]
  · iexists _; isplitr; swap; · iexact H8
    ipureintro
    sl_unfold_run_names
    refine (View.read_writes_full _ _ _ _ _).trans ?_
    try simp only [View.readAt_full, View.readCov_full, View.readAt_writes_full, readK, readV, readK1, readV1, covK, covV]
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

end Cert.KernelIdeal.Bwd

end
-- ==== Proof.Run0.lean ====
module

public import proofs.«01_k».proof.Proof.RunBase

/-! # The kernel's body at a point: a tile the diagonal meets in the first block of rows -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runAB0 (x : Ops F) (s : St F) (ok : Vec F S1x512x192 .f32) (ov : Vec F S1x512x128 .f32)
    (hc1 : cA i) (hc2 : cB i) (hc3 : ¬ k0_cond3 i = 1#1) (hc4 : k0_cond4 i = 1#1) (hc5 : ¬ k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile0 x (i 2) (zeroKV (zeroQ s))) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part5_eq_skeleton, k0_part6_eq_skeleton, k0_part7_eq_skeleton, k0_part8_eq_skeleton, k0_part9_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off2_0 i), takeQ _ _ (off2_0 i), putQ _ _ (off2_1 i), takeQ _ _ (off2_1 i), putQ _ _ (off2_2 i), takeQ _ _ (off2_2 i), putQ _ _ (off2_3 i), takeQ _ _ (off2_3 i), fillQ]
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem run0 (x : Ops F) (s : St F) (ok : Vec F S1x512x192 .f32) (ov : Vec F S1x512x128 .f32)
    (hc1 : ¬ cA i) (hc2 : ¬ cB i) (hc3 : ¬ k0_cond3 i = 1#1) (hc4 : k0_cond4 i = 1#1) (hc5 : ¬ k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile0 x (i 2) s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part5_eq_skeleton, k0_part6_eq_skeleton, k0_part7_eq_skeleton, k0_part8_eq_skeleton, k0_part9_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off2_0 i), takeQ _ _ (off2_0 i), putQ _ _ (off2_1 i), takeQ _ _ (off2_1 i), putQ _ _ (off2_2 i), takeQ _ _ (off2_2 i), putQ _ _ (off2_3 i), takeQ _ _ (off2_3 i)]
    refine Eq.trans ?_ (tile0_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runL0 (x : Ops F) (s : St F) (ok : Vec F S1x512x192 .f32) (ov : Vec F S1x512x128 .f32)
    (hc1 : ¬ cA i) (hc2 : ¬ cB i) (hc3 : ¬ k0_cond3 i = 1#1) (hc4 : k0_cond4 i = 1#1) (hc5 : ¬ k0_cond5 i = 1#1) (hc6 : ¬ k0_cond6 i = 1#1) (hc7 : ¬ k0_cond7 i = 1#1) (hc8 : k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile0 x (i 2) s) (k0_pay20 (tile0 x (i 2) s).dk) (k0_pay21 (tile0 x (i 2) s).dv) -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part5_eq_skeleton, k0_part6_eq_skeleton, k0_part7_eq_skeleton, k0_part8_eq_skeleton, k0_part9_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off2_0 i), takeQ _ _ (off2_0 i), putQ _ _ (off2_1 i), takeQ _ _ (off2_1 i), putQ _ _ (off2_2 i), takeQ _ _ (off2_2 i), putQ _ _ (off2_3 i), takeQ _ _ (off2_3 i)]
    refine Eq.trans ?_ (tile0_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    sl_unfold_run_names
    refine (View.read_writes_full _ _ _ _ _).trans ?_
    try simp only [View.readAt_full, View.readCov_full, View.readAt_writes_full, readK, readV, readK1, readV1, covK, covV]
    rfl
  isplitl [H8]
  · iexists _; isplitr; swap; · iexact H8
    ipureintro
    sl_unfold_run_names
    refine (View.read_writes_full _ _ _ _ _).trans ?_
    try simp only [View.readAt_full, View.readCov_full, View.readAt_writes_full, readK, readV, readK1, readV1, covK, covV]
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

end Cert.KernelIdeal.Bwd

end
-- ==== Proof.Run1.lean ====
module

public import proofs.«01_k».proof.Proof.RunBase

/-! # The kernel's body at a point: a tile the diagonal meets in the second block of rows -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runB1 (x : Ops F) (s : St F) (ok : Vec F S1x512x192 .f32) (ov : Vec F S1x512x128 .f32)
    (hc1 : ¬ cA i) (hc2 : cB i) (hc3 : ¬ k0_cond3 i = 1#1) (hc4 : ¬ k0_cond4 i = 1#1) (hc5 : k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile1 x (i 2) (zeroKV s)) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part10_eq_skeleton, k0_part11_eq_skeleton, k0_part12_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off3_1 i), takeQ _ _ (off3_1 i), putQ _ _ (off3_2 i), takeQ _ _ (off3_2 i), putQ _ _ (off3_3 i), takeQ _ _ (off3_3 i)]
    refine Eq.trans ?_ (tile1_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem run1 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : k0_cond5 i = 1#1) (hc6 : ¬ k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile1 x (i 2) s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part10_eq_skeleton, k0_part11_eq_skeleton, k0_part12_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off3_1 i), takeQ _ _ (off3_1 i), putQ _ _ (off3_2 i), takeQ _ _ (off3_2 i), putQ _ _ (off3_3 i), takeQ _ _ (off3_3 i)]
    refine Eq.trans ?_ (tile1_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runL1 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : k0_cond5 i = 1#1) (hc6 : ¬ k0_cond6 i = 1#1) (hc7 : ¬ k0_cond7 i = 1#1) (hc8 : k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile1 x (i 2) s) (k0_pay20 (tile1 x (i 2) s).dk) (k0_pay21 (tile1 x (i 2) s).dv) -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part10_eq_skeleton, k0_part11_eq_skeleton, k0_part12_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off3_1 i), takeQ _ _ (off3_1 i), putQ _ _ (off3_2 i), takeQ _ _ (off3_2 i), putQ _ _ (off3_3 i), takeQ _ _ (off3_3 i)]
    refine Eq.trans ?_ (tile1_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    sl_unfold_run_names
    refine (View.read_writes_full _ _ _ _ _).trans ?_
    try simp only [View.readAt_full, View.readCov_full, View.readAt_writes_full, readK, readV, readK1, readV1, covK, covV]
    rfl
  isplitl [H8]
  · iexists _; isplitr; swap; · iexact H8
    ipureintro
    sl_unfold_run_names
    refine (View.read_writes_full _ _ _ _ _).trans ?_
    try simp only [View.readAt_full, View.readCov_full, View.readAt_writes_full, readK, readV, readK1, readV1, covK, covV]
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

end Cert.KernelIdeal.Bwd

end
-- ==== Proof.Run2.lean ====
module

public import proofs.«01_k».proof.Proof.RunBase

/-! # The kernel's body at a point: a tile the diagonal meets in the third block of rows -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runB2 (x : Ops F) (s : St F) (ok : Vec F S1x512x192 .f32) (ov : Vec F S1x512x128 .f32)
    (hc1 : ¬ cA i) (hc2 : cB i) (hc3 : ¬ k0_cond3 i = 1#1) (hc4 : ¬ k0_cond4 i = 1#1) (hc5 : ¬ k0_cond5 i = 1#1) (hc6 : k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile2 x (i 2) (zeroKV s)) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part13_eq_skeleton, k0_part14_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off4_2 i), takeQ _ _ (off4_2 i), putQ _ _ (off4_3 i), takeQ _ _ (off4_3 i)]
    refine Eq.trans ?_ (tile2_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem run2 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : ¬ k0_cond5 i = 1#1) (hc6 : k0_cond6 i = 1#1) (hc7 : ¬ k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile2 x (i 2) s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part13_eq_skeleton, k0_part14_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off4_2 i), takeQ _ _ (off4_2 i), putQ _ _ (off4_3 i), takeQ _ _ (off4_3 i)]
    refine Eq.trans ?_ (tile2_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runL2 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : ¬ k0_cond5 i = 1#1) (hc6 : k0_cond6 i = 1#1) (hc7 : ¬ k0_cond7 i = 1#1) (hc8 : k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile2 x (i 2) s) (k0_pay20 (tile2 x (i 2) s).dk) (k0_pay21 (tile2 x (i 2) s).dv) -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part13_eq_skeleton, k0_part14_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off4_2 i), takeQ _ _ (off4_2 i), putQ _ _ (off4_3 i), takeQ _ _ (off4_3 i)]
    refine Eq.trans ?_ (tile2_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    sl_unfold_run_names
    refine (View.read_writes_full _ _ _ _ _).trans ?_
    try simp only [View.readAt_full, View.readCov_full, View.readAt_writes_full, readK, readV, readK1, readV1, covK, covV]
    rfl
  isplitl [H8]
  · iexists _; isplitr; swap; · iexact H8
    ipureintro
    sl_unfold_run_names
    refine (View.read_writes_full _ _ _ _ _).trans ?_
    try simp only [View.readAt_full, View.readCov_full, View.readAt_writes_full, readK, readV, readK1, readV1, covK, covV]
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

end Cert.KernelIdeal.Bwd

end
-- ==== Proof.Run3.lean ====
module

public import proofs.«01_k».proof.Proof.RunBase

/-! # The kernel's body at a point: a tile the diagonal meets in the last block of rows -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

set_option maxHeartbeats 2000000 in
theorem runB3 (x : Ops F) (s : St F) (ok : Vec F S1x512x192 .f32) (ov : Vec F S1x512x128 .f32)
    (hc1 : ¬ cA i) (hc2 : cB i) (hc3 : ¬ k0_cond3 i = 1#1) (hc4 : ¬ k0_cond4 i = 1#1) (hc5 : ¬ k0_cond5 i = 1#1) (hc6 : ¬ k0_cond6 i = 1#1) (hc7 : k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile3 x (i 2) (zeroKV s)) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part15_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off5_3 i), takeQ _ _ (off5_3 i)]
    refine Eq.trans ?_ (tile3_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem run3 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : ¬ k0_cond5 i = 1#1) (hc6 : ¬ k0_cond6 i = 1#1) (hc7 : k0_cond7 i = 1#1) (hc8 : ¬ k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile3 x (i 2) s) ok ov -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part15_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off5_3 i), takeQ _ _ (off5_3 i)]
    refine Eq.trans ?_ (tile3_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

set_option maxHeartbeats 2000000 in
theorem runL3 (x : Ops F) (s : St F) (ok : Vec F S1x512x192 .f32) (ov : Vec F S1x512x128 .f32)
    (hc1 : ¬ cA i) (hc2 : ¬ cB i) (hc3 : ¬ k0_cond3 i = 1#1) (hc4 : ¬ k0_cond4 i = 1#1) (hc5 : ¬ k0_cond5 i = 1#1) (hc6 : ¬ k0_cond6 i = 1#1) (hc7 : k0_cond7 i = 1#1) (hc8 : k0_cond8 i = 1#1) (E : Set ℕ) (K : PUnit → sProp 𝕄) :
    iprop(held c a3 a4 a5 a6 a7 a8 a9 a10 a11 a12 a13 x s ok ov ∗ (held c a3 a4 a5 a6 a7 a8 a9 a10 a11 a12 a13 x (tile3 x (i 2) s) (k0_pay20 (tile3 x (i 2) s).dk) (k0_pay21 (tile3 x (i 2) s).dv) -∗ K ⟨⟩))
      ⊢ wp frame (wpE (defs₀ (F := F)) Variants.none c none) E (cc0_attn_bwd i a3 h3 a4 h4 a5 h5 a6 h6 a7 h7 a8 h8 a9 h9 a10 h10 a11 h11 a12 h12 a13 h13) K := by
  simp only [cc0_attn_bwd_eq_skeleton]; unfold cc0_attn_bwd_skel
  simp only [k0_part15_eq_skeleton]
  obtain ⟨xq, xk, xv, xo, xl, xg⟩ := x
  obtain ⟨dq, dk, dv⟩ := s
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  dsimp only at hf0 hf1 hf2 hf3 hf4 hf5 hf6 hf9 hf10
  subst hf0 hf1 hf2 hf3 hf4 hf5 hf6 hf7 hf8 hf9 hf10
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    sl_unfold_run_names
    simp only [readK, readV, readK1, readV1, covK, covV, View.readCov, View.writes_nil, View.readAt_full, View.readCov_full, putQ _ _ (off5_3 i), takeQ _ _ (off5_3 i)]
    refine Eq.trans ?_ (tile3_dq ⟨a3.view.read (Elt F) f0, a4.view.read (Elt F) f1, a5.view.read (Elt F) f2, a6.view.read (Elt F) f3, a7.view.read (Elt F) f4, a8.view.read (Elt F) f5⟩ (i 2) ⟨a9.view.read (Elt F) f6, a12.view.read (Elt F) f9, a13.view.read (Elt F) f10⟩).symm
    rfl
  isplitl [H7]
  · iexists _; isplitr; swap; · iexact H7
    ipureintro
    sl_unfold_run_names
    refine (View.read_writes_full _ _ _ _ _).trans ?_
    try simp only [View.readAt_full, View.readCov_full, View.readAt_writes_full, readK, readV, readK1, readV1, covK, covV]
    rfl
  isplitl [H8]
  · iexists _; isplitr; swap; · iexact H8
    ipureintro
    sl_unfold_run_names
    refine (View.read_writes_full _ _ _ _ _).trans ?_
    try simp only [View.readAt_full, View.readCov_full, View.readAt_writes_full, readK, readV, readK1, readV1, covK, covV]
    rfl
  isplitl [H9]
  · iexists _; isplitr; swap; · iexact H9
    ipureintro
    sl_unfold_run_names
    refine (View.read_writes_full _ _ _ _ _).trans ?_
    try simp only [View.readAt_full, View.readCov_full, View.readAt_writes_full, readK, readV, readK1, readV1, covK, covV]
    rfl
  · iexists _; isplitr; swap; · iexact H10
    ipureintro
    sl_unfold_run_names
    refine (View.read_writes_full _ _ _ _ _).trans ?_
    try simp only [View.readAt_full, View.readCov_full, View.readAt_writes_full, readK, readV, readK1, readV1, covK, covV]
    rfl

end Cert.KernelIdeal.Bwd

end
-- ==== Proof.Body.lean ====
module

public import proofs.«01_k».proof.Proof.Points
public import proofs.«01_k».proof.Proof.RunNone
public import proofs.«01_k».proof.Proof.RunFull
public import proofs.«01_k».proof.Proof.Run0
public import proofs.«01_k».proof.Proof.Run1
public import proofs.«01_k».proof.Proof.Run2
public import proofs.«01_k».proof.Proof.Run3

/-! # The kernel's body at any point: the runs of the branches put together -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (t : Fin cfg0.N)
  (a3 : Memref sig .tc .vmem S1x2048x192 .bf16) (h3 : a3.IsWhole) (a4 : Memref sig .tc .vmem S1x512x192 .bf16) (h4 : a4.IsWhole)
  (a5 : Memref sig .tc .vmem S1x512x128 .bf16) (h5 : a5.IsWhole) (a6 : Memref sig .tc .vmem S1x2048x128 .f32) (h6 : a6.IsWhole)
  (a7 : Memref sig .tc .vmem S1x2048x128 .f32) (h7 : a7.IsWhole) (a8 : Memref sig .tc .vmem S1x2048x128 .f32) (h8 : a8.IsWhole)
  (a9 : Memref sig .tc .vmem S1x8192x192 .f32) (h9 : a9.IsWhole) (a10 : Memref sig .tc .vmem S1x512x192 .f32) (h10 : a10.IsWhole)
  (a11 : Memref sig .tc .vmem S1x512x128 .f32) (h11 : a11.IsWhole) (a12 : Memref sig .tc .vmem S512x192 .f32) (h12 : a12.IsWhole)
  (a13 : Memref sig .tc .vmem S512x128 .f32) (h13 : a13.IsWhole)

/-- The body at point `t`: the contents go to `stepAt`'s, and the two sums are handed out at the last group of rows. -/
theorem body_run (x : Ops F) (s : St F) (ok : Vec F S1x512x192 .f32) (ov : Vec F S1x512x128 .f32) (E : Set ℕ) (K : PUnit → sProp 𝕄) :
    iprop(held c a3 a4 a5 a6 a7 a8 a9 a10 a11 a12 a13 x s ok ov ∗ (held c a3 a4 a5 a6 a7 a8 a9 a10 a11 a12 a13 x (stepAt t.val x (grid0.coords t 2) s)
        (if t.val % 4 = 3 then k0_pay20 (stepAt t.val x (grid0.coords t 2) s).dk else ok)
        (if t.val % 4 = 3 then k0_pay21 (stepAt t.val x (grid0.coords t 2) s).dv else ov) -∗ K ⟨⟩))
      ⊢ wp frame (wpE (defs₀ (F := F)) Variants.none c none) E (cc0_attn_bwd (grid0.coords t) a3 h3 a4 h4 a5 h5 a6 h6 a7 h7 a8 h8 a9 h9 a10 h10 a11 h11 a12 h12 a13 h13) K := by
  have hN : t.val < 1024 := lt_of_lt_of_eq t.isLt (show cfg0.N = 1024 from N_0)
  have gA := atA t; have gB := atB t; have g3 := at3 t; have g4 := at4 t; have g5 := at5 t; have g6 := at6 t; have g7 := at7 t; have g8 := at8 t
  unfold stepAt tileAt reset
  by_cases hB : t.val % 4 = 0
  · have hL : ¬ t.val % 4 = 3 := by omega
    by_cases hA : t.val % 64 = 0
    · have eFull : ¬ (t.val / 4 % 16 + 1 ≤ 4 * (t.val % 4)) := by omega
      by_cases e0 : t.val / 4 % 16 = 4 * (t.val % 4) + 0
      · rw [if_pos hB, if_pos hA, if_neg eFull, if_pos e0, if_neg hL, if_neg hL]
        exact runAB0 c (grid0.coords t) a3 h3 a4 h4 a5 h5 a6 h6 a7 h7 a8 h8 a9 h9 a10 h10 a11 h11 a12 h12 a13 h13 x s ok ov (gA.mpr (by omega)) (gB.mpr (by omega)) (fun h => absurd (g3.mp h) (by omega)) (g4.mpr (by omega)) (fun h => absurd (g5.mp h) (by omega)) (fun h => absurd (g6.mp h) (by omega)) (fun h => absurd (g7.mp h) (by omega)) (fun h => absurd (g8.mp h) (by omega)) E K
      have e1 : ¬ (t.val / 4 % 16 = 4 * (t.val % 4) + 1) := by omega
      have e2 : ¬ (t.val / 4 % 16 = 4 * (t.val % 4) + 2) := by omega
      have e3 : ¬ (t.val / 4 % 16 = 4 * (t.val % 4) + 3) := by omega
      exfalso; omega
    · have eFull : ¬ (t.val / 4 % 16 + 1 ≤ 4 * (t.val % 4)) := by omega
      have e0 : ¬ (t.val / 4 % 16 = 4 * (t.val % 4) + 0) := by omega
      by_cases e1 : t.val / 4 % 16 = 4 * (t.val % 4) + 1
      · rw [if_pos hB, if_neg hA, if_neg eFull, if_neg e0, if_pos e1, if_neg hL, if_neg hL]
        exact runB1 c (grid0.coords t) a3 h3 a4 h4 a5 h5 a6 h6 a7 h7 a8 h8 a9 h9 a10 h10 a11 h11 a12 h12 a13 h13 x s ok ov (fun h => absurd (gA.mp h) (by omega)) (gB.mpr (by omega)) (fun h => absurd (g3.mp h) (by omega)) (fun h => absurd (g4.mp h) (by omega)) (g5.mpr (by omega)) (fun h => absurd (g6.mp h) (by omega)) (fun h => absurd (g7.mp h) (by omega)) (fun h => absurd (g8.mp h) (by omega)) E K
      by_cases e2 : t.val / 4 % 16 = 4 * (t.val % 4) + 2
      · rw [if_pos hB, if_neg hA, if_neg eFull, if_neg e0, if_neg e1, if_pos e2, if_neg hL, if_neg hL]
        exact runB2 c (grid0.coords t) a3 h3 a4 h4 a5 h5 a6 h6 a7 h7 a8 h8 a9 h9 a10 h10 a11 h11 a12 h12 a13 h13 x s ok ov (fun h => absurd (gA.mp h) (by omega)) (gB.mpr (by omega)) (fun h => absurd (g3.mp h) (by omega)) (fun h => absurd (g4.mp h) (by omega)) (fun h => absurd (g5.mp h) (by omega)) (g6.mpr (by omega)) (fun h => absurd (g7.mp h) (by omega)) (fun h => absurd (g8.mp h) (by omega)) E K
      by_cases e3 : t.val / 4 % 16 = 4 * (t.val % 4) + 3
      · rw [if_pos hB, if_neg hA, if_neg eFull, if_neg e0, if_neg e1, if_neg e2, if_pos e3, if_neg hL, if_neg hL]
        exact runB3 c (grid0.coords t) a3 h3 a4 h4 a5 h5 a6 h6 a7 h7 a8 h8 a9 h9 a10 h10 a11 h11 a12 h12 a13 h13 x s ok ov (fun h => absurd (gA.mp h) (by omega)) (gB.mpr (by omega)) (fun h => absurd (g3.mp h) (by omega)) (fun h => absurd (g4.mp h) (by omega)) (fun h => absurd (g5.mp h) (by omega)) (fun h => absurd (g6.mp h) (by omega)) (g7.mpr (by omega)) (fun h => absurd (g8.mp h) (by omega)) E K
      rw [if_pos hB, if_neg hA, if_neg eFull, if_neg e0, if_neg e1, if_neg e2, if_neg e3, if_neg hL, if_neg hL]
      exact runBnone c (grid0.coords t) a3 h3 a4 h4 a5 h5 a6 h6 a7 h7 a8 h8 a9 h9 a10 h10 a11 h11 a12 h12 a13 h13 x s ok ov (fun h => absurd (gA.mp h) (by omega)) (gB.mpr (by omega)) (fun h => absurd (g3.mp h) (by omega)) (fun h => absurd (g4.mp h) (by omega)) (fun h => absurd (g5.mp h) (by omega)) (fun h => absurd (g6.mp h) (by omega)) (fun h => absurd (g7.mp h) (by omega)) (fun h => absurd (g8.mp h) (by omega)) E K
  · have hA : ¬ t.val % 64 = 0 := by omega
    by_cases hL : t.val % 4 = 3
    · by_cases eFull : t.val / 4 % 16 + 1 ≤ 4 * (t.val % 4)
      · rw [if_neg hB, if_neg hA, if_pos eFull, if_pos hL, if_pos hL]
        exact runLFull c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (g3.mpr (by omega)) (fun h => absurd (g4.mp h) (by omega)) (fun h => absurd (g5.mp h) (by omega)) (fun h => absurd (g6.mp h) (by omega)) (fun h => absurd (g7.mp h) (by omega)) (g8.mpr (by omega)) E K
      by_cases e0 : t.val / 4 % 16 = 4 * (t.val % 4) + 0
      · rw [if_neg hB, if_neg hA, if_neg eFull, if_pos e0, if_pos hL, if_pos hL]
        exact runL0 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (g4.mpr (by omega)) (fun h => absurd (g5.mp h) (by omega)) (fun h => absurd (g6.mp h) (by omega)) (fun h => absurd (g7.mp h) (by omega)) (g8.mpr (by omega)) E K
      by_cases e1 : t.val / 4 % 16 = 4 * (t.val % 4) + 1
      · rw [if_neg hB, if_neg hA, if_neg eFull, if_neg e0, if_pos e1, if_pos hL, if_pos hL]
        exact runL1 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (g5.mpr (by omega)) (fun h => absurd (g6.mp h) (by omega)) (fun h => absurd (g7.mp h) (by omega)) (g8.mpr (by omega)) E K
      by_cases e2 : t.val / 4 % 16 = 4 * (t.val % 4) + 2
      · rw [if_neg hB, if_neg hA, if_neg eFull, if_neg e0, if_neg e1, if_pos e2, if_pos hL, if_pos hL]
        exact runL2 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (fun h => absurd (g5.mp h) (by omega)) (g6.mpr (by omega)) (fun h => absurd (g7.mp h) (by omega)) (g8.mpr (by omega)) E K
      by_cases e3 : t.val / 4 % 16 = 4 * (t.val % 4) + 3
      · rw [if_neg hB, if_neg hA, if_neg eFull, if_neg e0, if_neg e1, if_neg e2, if_pos e3, if_pos hL, if_pos hL]
        exact runL3 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (fun h => absurd (g5.mp h) (by omega)) (fun h => absurd (g6.mp h) (by omega)) (g7.mpr (by omega)) (g8.mpr (by omega)) E K
      exfalso; omega
    · by_cases eFull : t.val / 4 % 16 + 1 ≤ 4 * (t.val % 4)
      · rw [if_neg hB, if_neg hA, if_pos eFull, if_neg hL, if_neg hL]
        exact runFull c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (g3.mpr (by omega)) (fun h => absurd (g4.mp h) (by omega)) (fun h => absurd (g5.mp h) (by omega)) (fun h => absurd (g6.mp h) (by omega)) (fun h => absurd (g7.mp h) (by omega)) (fun h => absurd (g8.mp h) (by omega)) E K
      by_cases e0 : t.val / 4 % 16 = 4 * (t.val % 4) + 0
      · rw [if_neg hB, if_neg hA, if_neg eFull, if_pos e0, if_neg hL, if_neg hL]
        exact run0 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (g4.mpr (by omega)) (fun h => absurd (g5.mp h) (by omega)) (fun h => absurd (g6.mp h) (by omega)) (fun h => absurd (g7.mp h) (by omega)) (fun h => absurd (g8.mp h) (by omega)) E K
      by_cases e1 : t.val / 4 % 16 = 4 * (t.val % 4) + 1
      · rw [if_neg hB, if_neg hA, if_neg eFull, if_neg e0, if_pos e1, if_neg hL, if_neg hL]
        exact run1 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (g5.mpr (by omega)) (fun h => absurd (g6.mp h) (by omega)) (fun h => absurd (g7.mp h) (by omega)) (fun h => absurd (g8.mp h) (by omega)) E K
      by_cases e2 : t.val / 4 % 16 = 4 * (t.val % 4) + 2
      · rw [if_neg hB, if_neg hA, if_neg eFull, if_neg e0, if_neg e1, if_pos e2, if_neg hL, if_neg hL]
        exact run2 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (fun h => absurd (g5.mp h) (by omega)) (g6.mpr (by omega)) (fun h => absurd (g7.mp h) (by omega)) (fun h => absurd (g8.mp h) (by omega)) E K
      by_cases e3 : t.val / 4 % 16 = 4 * (t.val % 4) + 3
      · rw [if_neg hB, if_neg hA, if_neg eFull, if_neg e0, if_neg e1, if_neg e2, if_pos e3, if_neg hL, if_neg hL]
        exact run3 c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (fun h => absurd (g5.mp h) (by omega)) (fun h => absurd (g6.mp h) (by omega)) (g7.mpr (by omega)) (fun h => absurd (g8.mp h) (by omega)) E K
      rw [if_neg hB, if_neg hA, if_neg eFull, if_neg e0, if_neg e1, if_neg e2, if_neg e3, if_neg hL, if_neg hL]
      exact runnone c (grid0.coords t) a3 h3 a4 h4 a5 h5 a6 h6 a7 h7 a8 h8 a9 h9 a10 h10 a11 h11 a12 h12 a13 h13 x s ok ov (fun h => absurd (gA.mp h) (by omega)) (fun h => absurd (gB.mp h) (by omega)) (fun h => absurd (g3.mp h) (by omega)) (fun h => absurd (g4.mp h) (by omega)) (fun h => absurd (g5.mp h) (by omega)) (fun h => absurd (g6.mp h) (by omega)) (fun h => absurd (g7.mp h) (by omega)) (fun h => absurd (g8.mp h) (by omega)) E K

end Cert.KernelIdeal.Bwd

end
-- ==== Proof.Region.lean ====
module

public import proofs.«01_k».proof.Proof.Body

/-! # The region: the body at every point, and the launch -/

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x2048x192 .bf16 := win0_0.stage (cfg0.slots t 0)
abbrev ms1 (t : Fin cfg0.N) : Memref sig .tc .vmem S1x512x192 .bf16 := win0_1.stage (cfg0.slots t 1)
abbrev ms2 (t : Fin cfg0.N) : Memref sig .tc .vmem S1x512x128 .bf16 := win0_2.stage (cfg0.slots t 2)
abbrev ms3 (t : Fin cfg0.N) : Memref sig .tc .vmem S1x2048x128 .f32 := win0_3.stage (cfg0.slots t 3)
abbrev ms4 (t : Fin cfg0.N) : Memref sig .tc .vmem S1x2048x128 .f32 := win0_4.stage (cfg0.slots t 4)
abbrev ms5 (t : Fin cfg0.N) : Memref sig .tc .vmem S1x2048x128 .f32 := win0_5.stage (cfg0.slots t 5)
abbrev ms6 (t : Fin cfg0.N) : Memref sig .tc .vmem S1x8192x192 .f32 := win0_6.stage (cfg0.slots t 6)
abbrev ms7 (t : Fin cfg0.N) : Memref sig .tc .vmem S1x512x192 .f32 := win0_7.stage (cfg0.slots t 7)
abbrev ms8 (t : Fin cfg0.N) : Memref sig .tc .vmem S1x512x128 .f32 := win0_8.stage (cfg0.slots t 8)
abbrev sk : Memref sig .tc .vmem S512x192 .f32 := Memref.whole cc0_scratch0
abbrev sv : Memref sig .tc .vmem S512x128 .f32 := Memref.whole cc0_scratch1

theorem PhiA0 (c : Dev nD) : (Pipeline.ΦA spec0 c : sProp 𝕄)
    = iprop(iprop((∃ d, owns (c : Thread nD τ) sk fullShare d) ∗ (∃ d, owns (c : Thread nD τ) sv fullShare d)) ∗ (∃ r, prngReg c r)) := by
  unfold Pipeline.ΦA; rw [scopedRest0_eq]; simp only [sk, sv, owns_whole]; try rfl

/-- The invariant between points: the two running sums at the trajectory's contents. -/
def Inv (c : Dev nD) : ℕ → sProp 𝕄
  | 0 => Pipeline.ΦA spec0 c
  | n + 1 => iprop(iprop(owns (c : Thread nD τ) sk fullShare (traj m c (n + 1)).dk ∗ owns (c : Thread nD τ) sv fullShare (traj m c (n + 1)).dv) ∗ (∃ r, prngReg c r))

/-- The proof data: the arrays as the region finds them; after point `t` the inputs' buffers at their blocks, the query gradient's
    at the trajectory's, the key's and value's at the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (traj m c (t.val + 1)).dq
    | ⟨7, _⟩ => k0_pay20 (traj m c (t.val + 1)).dk
    | ⟨8, _⟩ => k0_pay21 (traj m c (t.val + 1)).dv
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (traj m c (t.val + 1)).dq := by dsimp only [dats]
theorem after7 (c : Dev nD) (t : Fin cfg0.N) : (dats m 0 c).after 7 t = k0_pay20 (traj m c (t.val + 1)).dk := by dsimp only [dats]
theorem after8 (c : Dev nD) (t : Fin cfg0.N) : (dats m 0 c).after 8 t = k0_pay21 (traj m c (t.val + 1)).dv := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem traj_idle (c : Dev nD) (t : Fin cfg0.N) (h1 : ¬ t.val % 64 = 0) (h2 : 4 * (t.val % 4) + 3 < t.val / 4 % 16) :
    (traj m c (t.val + 1)).dq = (traj m c t.val).dq :=
  (congrArg St.dq (traj_succ m c t)).trans (stepAt_idle t.val h1 h2 (ops m c t) (grid0.coords t 2) (traj m c t.val))

/-- The query gradient's buffer holds the trajectory's contents, but for a head's first point. -/
theorem before6 (c : Dev nD) (t : Fin cfg0.N) (d) :
    (dats m 0 c).before 6 t d = if t.val % 64 = 0 then d else (traj m c t.val).dq := by
  rw [(dats m 0 c).before_out_traj 6 rfl (fun _ _ => rfl) (fun t' h0 hi hf => ?_) t.val t rfl d, fresh6 t.val t.isLt.le]
  · by_cases h : t.val % 64 = 0
    · rw [if_pos h, if_pos (by rw [decide_eq_true_eq]; exact h)]
    · rw [if_neg h, if_neg (by rw [decide_eq_true_eq]; exact h), after6]
      have e : t.val - 1 + 1 = t.val := by omega
      show (traj m c (t.val - 1 + 1)).dq = _
      rw [e]
  · obtain ⟨h1, h2⟩ := (idle6 t').mp hi
    rw [after6, after6, traj_idle m c t' h1 h2]
    have e : t'.val - 1 + 1 = t'.val := by omega
    show _ = (traj m c (t'.val - 1 + 1)).dq
    rw [e]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window that is never idle is left at what the proof data says. -/
theorem leaves_busy (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- An idle one that is not written back is left as it was found. -/
theorem leaves_idle (c : Dev nD) (w : Fin cfg0.W) (t : Fin cfg0.N) (h : cfg0.idle w (cfg0.grid.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact; rw [h, hf]
theorem leaves_idle_flush (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact; rw [hf]; cases cfg0.idle w (cfg0.grid.coords t) <;> rfl

theorem leave6 (c : Dev nD) (t : Fin cfg0.N) : owns (c : Thread nD τ) (ms6 t) fullShare (traj m c (t.val + 1)).dq ⊢ ((dats m 0 c).leavesExact 6 t : sProp 𝕄) := by
  cases hi : cfg0.idle 6 (cfg0.grid.coords t)
  · rw [leaves_busy m c 6 t hi, after6]
  · cases hf : (cfg0.win 6).flush t
    · rw [leaves_idle m c 6 t hi hf]
      obtain ⟨h1, h2⟩ := (idle6 t).mp hi
      iintro H
      iexists (traj m c t.val).dq
      rw [before6 m c t, if_neg h1, traj_idle m c t h1 h2]
      iexact H
    · rw [leaves_idle_flush m c 6 t hf, after6]

theorem leave7 (c : Dev nD) (t : Fin cfg0.N) (d) :
    owns (c : Thread nD τ) (ms7 t) fullShare (if t.val % 4 = 3 then k0_pay20 (traj m c (t.val + 1)).dk else (dats m 0 c).before 7 t d)
      ⊢ ((dats m 0 c).leavesExact 7 t : sProp 𝕄) := by
  by_cases h : t.val % 4 = 3
  · rw [if_pos h, leaves_idle_flush m c 7 t ((flush0_7 t).mpr h), after7]
  · have hf : (cfg0.win 7).flush t = false := by rw [← Bool.not_eq_true]; exact fun e => h ((flush0_7 t).mp e)
    rw [if_neg h, leaves_idle m c 7 t ((idle7 t).mpr h) hf]
    iintro H
    iexists d
    iexact H

theorem leave8 (c : Dev nD) (t : Fin cfg0.N) (d) :
    owns (c : Thread nD τ) (ms8 t) fullShare (if t.val % 4 = 3 then k0_pay21 (traj m c (t.val + 1)).dv else (dats m 0 c).before 8 t d)
      ⊢ ((dats m 0 c).leavesExact 8 t : sProp 𝕄) := by
  by_cases h : t.val % 4 = 3
  · rw [if_pos h, leaves_idle_flush m c 8 t ((flush0_8 t).mpr h), after8]
  · have hf : (cfg0.win 8).flush t = false := by rw [← Bool.not_eq_true]; exact fun e => h ((flush0_8 t).mp e)
    rw [if_neg h, leaves_idle m c 8 t ((idle8 t).mpr h) hf]
    iintro H
    iexists d
    iexact H

/-- The invariant before a point gives sums from which the point makes the trajectory's next contents. -/
theorem Inv_open (c : Dev nD) (t : Fin cfg0.N) (d : Vec F S1x8192x192 .f32) :
    Inv m c t.val ⊢ iprop(∃ (dk : Vec F S512x192 .f32) (dv : Vec F S512x128 .f32),
      ⌜stepAt t.val (ops m c t) (grid0.coords t 2) ⟨if t.val % 64 = 0 then d else (traj m c t.val).dq, dk, dv⟩ = traj m c (t.val + 1)⌝
      ∗ iprop(owns (c : Thread nD τ) sk fullShare dk ∗ owns (c : Thread nD τ) sv fullShare dv) ∗ (∃ r, prngReg c r)) := by
  have key : ∀ dk dv, (t.val % 4 = 0 ∨ (dk = (traj m c t.val).dk ∧ dv = (traj m c t.val).dv)) →
      stepAt t.val (ops m c t) (grid0.coords t 2) ⟨if t.val % 64 = 0 then d else (traj m c t.val).dq, dk, dv⟩ = traj m c (t.val + 1) := by
    intro dk dv h
    refine Eq.trans ?_ (traj_succ m c t).symm
    have e1 : stepAt t.val (ops m c t) (grid0.coords t 2) ⟨(traj m c t.val).dq, dk, dv⟩ = stepAt t.val (ops m c t) (grid0.coords t 2) (traj m c t.val) := by
      rcases h with h | ⟨rfl, rfl⟩
      · exact stepAt_kv t.val h (ops m c t) (grid0.coords t 2) (traj m c t.val) dk dv
      · rfl
    by_cases h6 : t.val % 64 = 0
    · rw [if_pos h6]
      exact (stepAt_dq t.val h6 (ops m c t) (grid0.coords t 2) ⟨(traj m c t.val).dq, dk, dv⟩ d).trans e1
    · rw [if_neg h6]; exact e1
  obtain ⟨n, hn⟩ := t
  cases n with
  | zero =>
    show Pipeline.ΦA spec0 c ⊢ _
    rw [PhiA0]
    iintro ⟨⟨⟨%dk, Hk⟩, ⟨%dv, Hv⟩⟩, Hg⟩
    iexists dk; iexists dv
    isplitr
    · ipureintro; exact key dk dv (.inl rfl)
    isplitl [Hk Hv]
    · isplitl [Hk]; · iexact Hk
      iexact Hv
    iexact Hg
  | succ n =>
    show iprop(iprop(owns (c : Thread nD τ) sk fullShare (traj m c (n + 1)).dk ∗ owns (c : Thread nD τ) sv fullShare (traj m c (n + 1)).dv) ∗ (∃ r, prngReg c r)) ⊢ _
    iintro ⟨⟨Hk, Hv⟩, Hg⟩
    iexists (traj m c (n + 1)).dk; iexists (traj m c (n + 1)).dv
    isplitr
    · ipureintro; exact key _ _ (.inr ⟨rfl, rfl⟩)
    isplitl [Hk Hv]
    · isplitl [Hk]; · iexact Hk
      iexact Hv
    iexact Hg

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HI2 := (Inv_open m c t d6) $$ HI
  icases HI2 with ⟨%dk, %dv, %he, ⟨Hk, Hv⟩, Hg⟩
  iapply (body_run c t (ms0 t) _ (ms1 t) _ (ms2 t) _ (ms3 t) _ (ms4 t) _ (ms5 t) _ (ms6 t) _ (ms7 t) _ (ms8 t) _ sk _ sv _
    (ops m c t) ⟨if t.val % 64 = 0 then d6 else (traj m c t.val).dq, dk, dv⟩ ((dats m 0 c).before 7 t d7) ((dats m 0 c).before 8 t d8) Set.univ _)
  isplitl [H0 H1 H2 H3 H4 H5 H6 H7 H8 Hk Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hk]; · iexact Hk
    iexact Hv
  unfold held
  rw [he]
  iintro ⟨H0, H1, H2, H3, H4, H5, H6, H7, H8, Hk, Hv⟩
  isplitl [Hk Hv Hg]
  · unfold Inv
    isplitl [Hk Hv]
    · isplitl [Hk]; · iexact Hk
      iexact Hv
    iexact Hg
  isplitl [Ho]; · iexact Ho
  isplitl [H0]
  · rw [leaves_busy m c 0 t rfl, after0]; iexact H0
  isplitl [H1]
  · rw [leaves_busy m c 1 t rfl, after1]; iexact H1
  isplitl [H2]
  · rw [leaves_busy m c 2 t rfl, after2]; iexact H2
  isplitl [H3]
  · rw [leaves_busy m c 3 t rfl, after3]; iexact H3
  isplitl [H4]
  · rw [leaves_busy m c 4 t rfl, after4]; iexact H4
  isplitl [H5]
  · rw [leaves_busy m c 5 t rfl, after5]; iexact H5
  isplitl [H6]; · iapply (leave6 m c t); iexact H6
  isplitl [H7]; · iapply (leave7 m c t d7); iexact H7
  iapply (leave8 m c t d8); iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = Inv m c (1023 + 1) from congrArg (Inv m c) N_0, PhiA0]
  unfold Inv
  iintro ⟨⟨Hk, Hv⟩, Hg⟩
  isplitl [Hk Hv]
  · isplitl [Hk]; · iexists _; iexact Hk
    iexists _; iexact Hv
  iexact Hg

set_option backward.isDefEq.respectTransparency.types false in
/-- The launch: every array at what the write-backs leave, every other buffer as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Bwd

end
-- ==== Proof.Frames.lean ====
/- The frames of the kernel: it terminates, leaves its arguments unchanged and every counter at zero. -/
module

public import proofs.«01_k».proof.Proof.Region
public import proofs.«01_k».proof.Proof.Gen.Kernel
public import proofs.«01_k».proof.Defs

@[expose] public section

set_option maxRecDepth 16384

noncomputable section

namespace Cert.Proof

open Idealize.ShloMosaic Idealize.SL.Sem Cert.KernelIdeal Cert.KernelIdeal.Gen Cert.KernelIdeal.Bwd

variable {F : FTy → Type} [FloatOps F]

/-- The frame at any float values, from the launch's run. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 5).trans (((dats m 0 c).arrAt_in 5 rfl _).trans ((A_eq m c 5).trans (V_main_arg3 m c)))⟩, h.2⟩) (run_main m ρ)

theorem frame_ideal : Cert.quiescent_KernelIdeal := fun m ρ _ => frame_any m ρ

/-- The two programs' body tables are one. -/
theorem table_eq : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_eq : (Cert.Kernel.defs (F := F)) = (Cert.KernelIdeal.defs (F := F)) :=
  congrArg (Pipeline.defs (Cert.KernelIdeal.pcfgs (F := F))) table_eq

/-- The kernel as written has the same text, so the same run serves it. -/
theorem frame_kernel : Cert.quiescent_Kernel := by
  intro m ρ _
  rw [defs_eq]
  exact frame_any (F := Bits) m ρ

end Cert.Proof

end
-- ==== Proof.BlockValue.lean ====
module

public import proofs.«01_k».proof.Proof.Step
public import Idealize.ShloMosaic.Lib.Pointwise
public import Idealize.ShloMosaic.Lib.WordCmp

/-! # One block's operations over the extended reals, element by element -/

@[expose] public section

set_option maxRecDepth 16384

noncomputable section

namespace Cert.KernelIdeal.Bwd

open Idealize.ShloMosaic
open Cert.KernelIdeal.Gen

theorem prob_at (q k : Vec Ideal S1x512x192 .bf16) (l : Vec Ideal S1x512x1 .f32) (r c : Fin 512) :
    prob q k l (ix2 r c) = Ideal.exp ((∑ d : Fin 192, q (ix3 0 r d) * k (ix3 0 c d)) - l (ix3 0 r 0)) := by
  pointwise [prob]

theorem dscore_at (p : FVec Ideal S512x512 .f32) (v : Vec Ideal S1x512x128 .bf16) (g o : Vec Ideal S1x512x128 .f32) (r c : Fin 512) :
    dscore p v g o (ix2 r c) = p (ix2 r c) * ((∑ e : Fin 128, g (ix3 0 r e) * v (ix3 0 c e)) - ∑ e : Fin 128, g (ix3 0 r e) * o (ix3 0 r e)) := by
  pointwise [dscore]

theorem addV_at (a : FVec Ideal S512x128 .f32) (p : FVec Ideal S512x512 .f32) (g : Vec Ideal S1x512x128 .f32) (c : Fin 512) (e : Fin 128) :
    addV a p g (ix2 c e) = a (ix2 c e) + ∑ r : Fin 512, p (ix2 r c) * g (ix3 0 r e) := by
  pointwise [addV]

theorem addK_at (a : FVec Ideal S512x192 .f32) (s : FVec Ideal S512x512 .bf16) (q : Vec Ideal S1x512x192 .bf16) (c : Fin 512) (d : Fin 192) :
    addK a s q (ix2 c d) = a (ix2 c d) + ∑ r : Fin 512, s (ix2 r c) * q (ix3 0 r d) := by
  pointwise [addK]

theorem addQ_at (a : Vec Ideal S1x512x192 .f32) (s : FVec Ideal S512x512 .bf16) (k : Vec Ideal S1x512x192 .bf16) (r : Fin 512) (d : Fin 192) :
    addQ a s k (ix3 0 r d) = a (ix3 0 r d) + ∑ c : Fin 512, s (ix2 r c) * k (ix3 0 c d) := by
  pointwise [addQ]

theorem masked_at (n : Fin 4) (p : FVec Ideal S512x512 .f32) (r c : Fin 512) :
    masked (BitVec.ofNat 32 (512 * n.val)) p (ix2 r c) = if c ≤ r then p (ix2 r c) else 0 := by
  pointwise [masked]
  rw [show IntOp.addi (BitVec.ofNat 32 r.val) (BitVec.ofNat 32 (512 * n.val)) = BitVec.ofNat 32 (r.val + 512 * n.val) from (BitVec.ofNat_add ..).symm,
    show IntOp.addi (BitVec.ofNat 32 c.val) (BitVec.ofNat 32 (512 * n.val)) = BitVec.ofNat 32 (c.val + 512 * n.val) from (BitVec.ofNat_add ..).symm,
    WordCmp.cmpi_sge_ofNat (by omega) (by omega)]
  pointwise
  by_cases h : c ≤ r
  · rw [if_pos h, if_pos (by simpa using h)]
  · rw [if_neg h, if_neg (by simpa using h)]

/-! ## The mathematics of one head -/

/-- What the kernel is given of one head. -/
structure Head where
  q : Fin 8192 → Fin 192 → EReal
  k : Fin 8192 → Fin 192 → EReal
  v : Fin 8192 → Fin 128 → EReal
  o : Fin 8192 → Fin 128 → EReal
  l : Fin 8192 → EReal
  g : Fin 8192 → Fin 128 → EReal

namespace Head
variable (A : Head)
/-- The probability of row `y` at column `c`: zero at a later position. -/
def P (y c : Fin 8192) : EReal := if c ≤ y then Ideal.exp ((∑ d : Fin 192, A.q y d * A.k c d) - A.l y) else 0
/-- The gradient with respect to the score of row `y` at column `c`. -/
def D (y c : Fin 8192) : EReal := A.P y c * ((∑ e : Fin 128, A.g y e * A.v c e) - ∑ e : Fin 128, A.g y e * A.o y e)
end Head

/-- Row `ρ` of block `r` of the `b`-th group of rows. -/
def pos (b r : Fin 4) (ρ : Fin 512) : Fin 8192 := ⟨2048 * b.val + 512 * r.val + ρ.val, by omega⟩
/-- Column `c` of the `j`-th block of columns. -/
def col (j : Fin 16) (c : Fin 512) : Fin 8192 := ⟨512 * j.val + c.val, by omega⟩

/-- The operands of a point are the head's, at the `b`-th group of rows and the `j`-th block of columns. -/
structure Held (A : Head) (b : Fin 4) (j : Fin 16) (x : Ops Ideal) : Prop where
  q : ∀ (r : Fin 4) (ρ : Fin 512) (d : Fin 192), x.q (ix3 0 ⟨512 * r.val + ρ.val, by omega⟩ d) = A.q (pos b r ρ) d
  k : ∀ (c : Fin 512) (d : Fin 192), x.k (ix3 0 c d) = A.k (col j c) d
  v : ∀ (c : Fin 512) (e : Fin 128), x.v (ix3 0 c e) = A.v (col j c) e
  o : ∀ (r : Fin 4) (ρ : Fin 512) (e : Fin 128), x.o (ix3 0 ⟨512 * r.val + ρ.val, by omega⟩ e) = A.o (pos b r ρ) e
  l : ∀ (r : Fin 4) (ρ : Fin 512), x.l (ix3 0 ⟨512 * r.val + ρ.val, by omega⟩ 0) = A.l (pos b r ρ)
  g : ∀ (r : Fin 4) (ρ : Fin 512) (e : Fin 128), x.g (ix3 0 ⟨512 * r.val + ρ.val, by omega⟩ e) = A.g (pos b r ρ) e

/-- `s'` is `s` with one block's shares added. -/
structure Adds (A : Head) (b r : Fin 4) (j : Fin 16) (s s' : St Ideal) : Prop where
  dq : ∀ (y : Fin 8192) (d : Fin 192), s'.dq (ix3 0 y d) = s.dq (ix3 0 y d) + if y.val / 512 = 4 * b.val + r.val then ∑ c : Fin 512, A.D y (col j c) * A.k (col j c) d else 0
  dk : ∀ (c : Fin 512) (d : Fin 192), s'.dk (ix2 c d) = s.dk (ix2 c d) + ∑ ρ : Fin 512, A.D (pos b r ρ) (col j c) * A.q (pos b r ρ) d
  dv : ∀ (c : Fin 512) (e : Fin 128), s'.dv (ix2 c e) = s.dv (ix2 c e) + ∑ ρ : Fin 512, A.P (pos b r ρ) (col j c) * A.g (pos b r ρ) e

section windows
variable {α : Type} {n1 n2 k1 k2 : ℕ}

theorem window_at (x : (⟨3, ![1, n1, n2]⟩ : Shape).Idx → α) (o : ℕ) (inb : ∀ a, (![0, o, 0] : Fin 3 → ℕ) a + (![1, k1, k2] : Fin 3 → ℕ) a ≤ (⟨3, ![1, n1, n2]⟩ : Shape).size a)
    (ρ : Fin k1) (d : Fin k2) (h1 : o + ρ.val < n1) (h2 : d.val < n2) :
    VecWindow.window x ![0, o, 0] ![1, k1, k2] inb (ix3 (n0 := 1) (n1 := k1) (n2 := k2) 0 ρ d) = x (ix3 0 ⟨o + ρ.val, h1⟩ ⟨d.val, h2⟩) := by
  refine congrArg x (funext fun a => Fin.ext ?_)
  match a with
  | 0 => rfl
  | 1 => show o + 1 * ρ.val = o + ρ.val; omega
  | 2 => show 0 + 1 * d.val = d.val; omega

theorem put_in (x : (⟨3, ![1, n1, n2]⟩ : Shape).Idx → α) (o : ℕ) (w : (⟨3, ![1, k1, n2]⟩ : Shape).Idx → α) (y : Fin n1) (d : Fin n2) (ρ : Fin k1) (h : y.val = o + ρ.val) :
    VecWindow.put x ![0, o, 0] ![1, k1, n2] w (ix3 0 y d) = w (ix3 0 ρ d) := by
  have hall : ∀ a, (![0, o, 0] : Fin 3 → ℕ) a ≤ ((ix3 (0 : Fin 1) y d) a).val ∧ ((ix3 (0 : Fin 1) y d) a).val < (![0, o, 0] : Fin 3 → ℕ) a + (![1, k1, n2] : Fin 3 → ℕ) a := by
    intro a
    match a with
    | 0 => exact ⟨le_refl 0, Nat.zero_lt_one⟩
    | 1 => show o ≤ y.val ∧ y.val < o + k1; omega
    | 2 => show 0 ≤ d.val ∧ d.val < 0 + n2; omega
  refine (dif_pos hall).trans (congrArg w (funext fun a => Fin.ext ?_))
  match a with
  | 0 => rfl
  | 1 => show y.val - o = ρ.val; omega
  | 2 => show d.val - 0 = d.val; omega

theorem put_out (x : (⟨3, ![1, n1, n2]⟩ : Shape).Idx → α) (o : ℕ) (w : (⟨3, ![1, k1, n2]⟩ : Shape).Idx → α) (y : Fin n1) (d : Fin n2) (h : y.val < o ∨ o + k1 ≤ y.val) :
    VecWindow.put x ![0, o, 0] ![1, k1, n2] w (ix3 0 y d) = x (ix3 0 y d) := by
  refine dif_neg fun hall => ?_
  have h1 : o ≤ y.val ∧ y.val < o + k1 := hall 1
  omega
end windows

variable {A : Head} {b r : Fin 4} {j : Fin 16} {x : Ops Ideal}

theorem Held.qb (h : Held A b j x) (r : Fin 4) (ρ : Fin 512) (d : Fin 192) : x.qb r (ix3 0 ρ d) = A.q (pos b r ρ) d :=
  (window_at x.q (512 * r.val) (inb192 r) ρ d (by omega) d.isLt).trans (h.q r ρ d)
theorem Held.ob (h : Held A b j x) (r : Fin 4) (ρ : Fin 512) (e : Fin 128) : x.ob r (ix3 0 ρ e) = A.o (pos b r ρ) e :=
  (window_at x.o (512 * r.val) (inb128 r) ρ e (by omega) e.isLt).trans (h.o r ρ e)
theorem Held.gb (h : Held A b j x) (r : Fin 4) (ρ : Fin 512) (e : Fin 128) : x.gb r (ix3 0 ρ e) = A.g (pos b r ρ) e :=
  (window_at x.g (512 * r.val) (inb128 r) ρ e (by omega) e.isLt).trans (h.g r ρ e)
theorem Held.lb (h : Held A b j x) (r : Fin 4) (ρ : Fin 512) : x.lb r (ix3 0 ρ 0) = A.l (pos b r ρ) :=
  (window_at x.l (512 * r.val) (inb1 r) ρ 0 (by omega) (by decide)).trans (h.l r ρ)

/-- The unmasked probabilities of a block wholly below the diagonal. -/
theorem Held.pF (h : Held A b j x) (r : Fin 4) (hr : j.val < 4 * b.val + r.val) (ρ c : Fin 512) : x.pF r (ix2 ρ c) = A.P (pos b r ρ) (col j c) := by
  unfold Ops.pF Head.P
  rw [prob_at, if_pos (show col j c ≤ pos b r ρ by show 512 * j.val + c.val ≤ 2048 * b.val + 512 * r.val + ρ.val; omega), h.lb]
  simp only [h.qb, h.k]
/-- The masked probabilities of a block on the diagonal. -/
theorem Held.pM (h : Held A b j x) (r : Fin 4) (hr : j.val = 4 * b.val + r.val) (ρ c : Fin 512) : x.pM r (ix2 ρ c) = A.P (pos b r ρ) (col j c) := by
  unfold Ops.pM Head.P
  rw [masked_at]
  by_cases hc : c ≤ ρ
  · rw [if_pos hc, prob_at, if_pos (show col j c ≤ pos b r ρ by show 512 * j.val + c.val ≤ 2048 * b.val + 512 * r.val + ρ.val; omega), h.lb]
    simp only [h.qb, h.k]
  · rw [if_neg hc, if_neg (show ¬ col j c ≤ pos b r ρ by show ¬ 512 * j.val + c.val ≤ 2048 * b.val + 512 * r.val + ρ.val; omega)]

theorem Held.D (h : Held A b j x) (r : Fin 4) (p : FVec Ideal S512x512 .f32) (hp : ∀ ρ c, p (ix2 ρ c) = A.P (pos b r ρ) (col j c)) (ρ c : Fin 512) :
    dscore p x.v (x.gb r) (x.ob r) (ix2 ρ c) = A.D (pos b r ρ) (col j c) := by
  unfold Head.D
  rw [dscore_at, hp]
  simp only [h.gb, h.ob, h.v]

/-- A block adds its shares. -/
theorem Held.block (h : Held A b j x) (r : Fin 4) (p : FVec Ideal S512x512 .f32) (hp : ∀ ρ c, p (ix2 ρ c) = A.P (pos b r ρ) (col j c)) (s : St Ideal) :
    Adds A b r j s (block x b r p s) where
  dq y d := by
    by_cases hy : y.val / 512 = 4 * b.val + r.val
    · have hρ : y.val - (2048 * b.val + 512 * r.val) < 512 := by omega
      have e : y = pos b r ⟨y.val - (2048 * b.val + 512 * r.val), hρ⟩ := Fin.ext (by show y.val = 2048 * b.val + 512 * r.val + (y.val - (2048 * b.val + 512 * r.val)); omega)
      rw [if_pos hy]
      refine (put_in s.dq (2048 * b.val + 512 * r.val) _ y d ⟨y.val - (2048 * b.val + 512 * r.val), hρ⟩ (by show y.val = _ + (y.val - _); omega)).trans ?_
      rw [addQ_at]
      refine congrArg₂ _ ?_ (Finset.sum_congr rfl fun c _ => ?_)
      · refine (window_at s.dq _ (inbAll b r) _ d (by show _ + (y.val - _) < _; omega) d.isLt).trans ?_
        exact congrArg (fun z => s.dq (ix3 0 z d)) e.symm
      · rw [h.D r p hp, h.k, ← e]
    · rw [if_neg hy, add_zero]
      exact put_out s.dq (2048 * b.val + 512 * r.val) _ y d (by omega)
  dk c d := by
    show addK _ _ _ _ = _
    rw [addK_at]
    simp only [h.D r p hp, h.qb]
  dv c e := by
    show addV _ _ _ _ = _
    rw [addV_at]
    simp only [hp, h.gb]

/-- A block wholly above the diagonal adds nothing. -/
theorem Adds.none (A : Head) (b r : Fin 4) (j : Fin 16) (hr : 4 * b.val + r.val < j.val) (s : St Ideal) : Adds A b r j s s := by
  have hP : ∀ y c, y.val / 512 = 4 * b.val + r.val → A.P y (col j c) = 0 := fun y c hy =>
    if_neg (show ¬ 512 * j.val + c.val ≤ y.val by omega)
  have hpos : ∀ ρ : Fin 512, (pos b r ρ).val / 512 = 4 * b.val + r.val := fun ρ => by show (2048 * b.val + 512 * r.val + ρ.val) / 512 = _; omega
  refine ⟨fun y d => ?_, fun c d => ?_, fun c e => ?_⟩
  · by_cases hy : y.val / 512 = 4 * b.val + r.val
    · rw [if_pos hy, Finset.sum_eq_zero (fun c _ => by rw [Head.D, hP y c hy, zero_mul, zero_mul]), add_zero]
    · rw [if_neg hy, add_zero]
  · rw [Finset.sum_eq_zero (fun ρ _ => by rw [Head.D, hP _ c (hpos ρ), zero_mul, zero_mul]), add_zero]
  · rw [Finset.sum_eq_zero (fun ρ _ => by rw [hP _ c (hpos ρ), zero_mul]), add_zero]

/-- `s'` is `s` with the shares of a whole point added. -/
structure TileAdds (A : Head) (b : Fin 4) (j : Fin 16) (s s' : St Ideal) : Prop where
  dq : ∀ (y : Fin 8192) (d : Fin 192), s'.dq (ix3 0 y d) = s.dq (ix3 0 y d) + if y.val / 2048 = b.val then ∑ c : Fin 512, A.D y (col j c) * A.k (col j c) d else 0
  dk : ∀ (c : Fin 512) (d : Fin 192), s'.dk (ix2 c d) = s.dk (ix2 c d) + ∑ r : Fin 4, ∑ ρ : Fin 512, A.D (pos b r ρ) (col j c) * A.q (pos b r ρ) d
  dv : ∀ (c : Fin 512) (e : Fin 128), s'.dv (ix2 c e) = s.dv (ix2 c e) + ∑ r : Fin 4, ∑ ρ : Fin 512, A.P (pos b r ρ) (col j c) * A.g (pos b r ρ) e

theorem TileAdds.of {s0 s1 s2 s3 s4 : St Ideal} (h0 : Adds A b 0 j s0 s1) (h1 : Adds A b 1 j s1 s2) (h2 : Adds A b 2 j s2 s3) (h3 : Adds A b 3 j s3 s4) :
    TileAdds A b j s0 s4 where
  dq y d := by
    rw [h3.dq, h2.dq, h1.dq, h0.dq]
    generalize (∑ c : Fin 512, A.D y (col j c) * A.k (col j c) d) = T
    simp only [Fin.val_zero, Fin.val_one, Fin.val_two, show ((3 : Fin 4).val) = 3 from rfl]
    by_cases hb : y.val / 2048 = b.val
    · rw [if_pos hb]
      rcases (by omega : y.val / 512 = 4 * b.val + 0 ∨ y.val / 512 = 4 * b.val + 1 ∨ y.val / 512 = 4 * b.val + 2 ∨ y.val / 512 = 4 * b.val + 3) with e | e | e | e <;>
        simp [e]
    · rw [if_neg hb, if_neg (by omega), if_neg (by omega), if_neg (by omega), if_neg (by omega)]
      simp only [add_zero]
  dk c d := by rw [h3.dk, h2.dk, h1.dk, h0.dk, Fin.sum_univ_four]; simp only [add_assoc]
  dv c e := by rw [h3.dv, h2.dv, h1.dv, h0.dv, Fin.sum_univ_four]; simp only [add_assoc]

theorem stored_eq (s : St Ideal) : stored s = s := by
  unfold stored
  rw [shapeCast_self, shapeCast_self]

theorem tileAdds_none (A : Head) (b : Fin 4) (j : Fin 16) (h : 4 * b.val + 3 < j.val) (s : St Ideal) : TileAdds A b j s s :=
  .of (.none A b 0 j (by show 4 * b.val + 0 < _; omega) s) (.none A b 1 j (by show 4 * b.val + 1 < _; omega) s)
    (.none A b 2 j (by show 4 * b.val + 2 < _; omega) s) (.none A b 3 j (by show 4 * b.val + 3 < _; omega) s)

theorem Held.full (h : Held A b j x) (hj : j.val < 4 * b.val) (s : St Ideal) : TileAdds A b j s (tileFull x b s) := by
  unfold tileFull; rw [stored_eq]
  exact .of (h.block 0 _ (h.pF 0 (by omega)) _) (h.block 1 _ (h.pF 1 (by omega)) _) (h.block 2 _ (h.pF 2 (by omega)) _) (h.block 3 _ (h.pF 3 (by omega)) _)
theorem Held.tile0 (h : Held A b j x) (hj : j.val = 4 * b.val + 0) (s : St Ideal) : TileAdds A b j s (tile0 x b s) := by
  unfold Bwd.tile0; rw [stored_eq]
  exact .of (h.block 0 _ (h.pM 0 hj) _) (h.block 1 _ (h.pF 1 (by show _ < 4 * b.val + 1; omega)) _)
    (h.block 2 _ (h.pF 2 (by show _ < 4 * b.val + 2; omega)) _) (h.block 3 _ (h.pF 3 (by show _ < 4 * b.val + 3; omega)) _)
theorem Held.tile1 (h : Held A b j x) (hj : j.val = 4 * b.val + 1) (s : St Ideal) : TileAdds A b j s (tile1 x b s) := by
  unfold Bwd.tile1; rw [stored_eq]
  exact .of (.none A b 0 j (by show 4 * b.val + 0 < _; omega) s) (h.block 1 _ (h.pM 1 hj) _)
    (h.block 2 _ (h.pF 2 (by show _ < 4 * b.val + 2; omega)) _) (h.block 3 _ (h.pF 3 (by show _ < 4 * b.val + 3; omega)) _)
theorem Held.tile2 (h : Held A b j x) (hj : j.val = 4 * b.val + 2) (s : St Ideal) : TileAdds A b j s (tile2 x b s) := by
  unfold Bwd.tile2; rw [stored_eq]
  exact .of (.none A b 0 j (by show 4 * b.val + 0 < _; omega) s) (.none A b 1 j (by show 4 * b.val + 1 < _; omega) s)
    (h.block 2 _ (h.pM 2 hj) _) (h.block 3 _ (h.pF 3 (by show _ < 4 * b.val + 3; omega)) _)
theorem Held.tile3 (h : Held A b j x) (hj : j.val = 4 * b.val + 3) (s : St Ideal) : TileAdds A b j s (tile3 x b s) := by
  unfold Bwd.tile3; rw [stored_eq]
  exact .of (.none A b 0 j (by show 4 * b.val + 0 < _; omega) s) (.none A b 1 j (by show 4 * b.val + 1 < _; omega) s)
    (.none A b 2 j (by show 4 * b.val + 2 < _; omega) s) (h.block 3 _ (h.pM 3 hj) _)

end Cert.KernelIdeal.Bwd

end
-- ==== Proof.TrajValue.lean ====
module

public import proofs.«01_k».proof.Proof.BlockValue
public import proofs.«01_k».proof.Proof.Points
public import proofs.«01_k».proof.Proof.Gen.KernelIdeal.Points

/-! # The kernel's sums along the grid, over the extended reals

A row of keys gathers its sums over the four groups of rows; a head gathers its query gradient over all its points. -/

@[expose] public section

set_option maxRecDepth 16384

noncomputable section

namespace Cert.KernelIdeal.Bwd

open Idealize.ShloMosaic Idealize.ShloMosaic.TcCoe Idealize.ShloMosaic.Tactic
open Cert.KernelIdeal.Gen

variable (m : (ℓ : Loc nD τ sig) → Buf (Elt Ideal) ℓ)

/-- Head `h` of six arrays. -/
def headFrom (q k : FVec Ideal S16x8192x192 .bf16) (v : FVec Ideal S16x8192x128 .bf16) (o l g : FVec Ideal S16x8192x128 .f32) (h : Fin 16) : Head where
  q y d := q (ix3 h y d)
  k y d := k (ix3 h y d)
  v y e := v (ix3 h y e)
  o y e := o (ix3 h y e)
  l y := l (ix3 h y 0)
  g y e := g (ix3 h y e)
/-- What the kernel's arrays hold of head `h`. -/
def headOf (c : Dev nD) (h : Fin 16) : Head :=
  headFrom (V m c main_v21) (V m c main_v22) (V m c main_v23) (V m c main_v17) (V m c main_v20) (V m c main_arg3) h

/-! ## Where the windows stand -/

theorem rows0 : ∀ t : Fin grid0.N, win0_0.index t 0 = t.val / 64 ∧ win0_0.index t 1 = max (t.val % 4) (t.val / 4 % 16 / 4) ∧ win0_0.index t 2 = 0 := by decide +kernel
theorem rows3 : ∀ t : Fin grid0.N, win0_3.index t 0 = t.val / 64 ∧ win0_3.index t 1 = max (t.val % 4) (t.val / 4 % 16 / 4) ∧ win0_3.index t 2 = 0 := by decide +kernel
theorem rows4 : ∀ t : Fin grid0.N, win0_4.index t 0 = t.val / 64 ∧ win0_4.index t 1 = max (t.val % 4) (t.val / 4 % 16 / 4) ∧ win0_4.index t 2 = 0 := by decide +kernel
theorem rows5 : ∀ t : Fin grid0.N, win0_5.index t 0 = t.val / 64 ∧ win0_5.index t 1 = max (t.val % 4) (t.val / 4 % 16 / 4) ∧ win0_5.index t 2 = 0 := by decide +kernel
theorem cols1 : ∀ t : Fin grid0.N, win0_1.index t 0 = t.val / 64 ∧ win0_1.index t 1 = t.val / 4 % 16 ∧ win0_1.index t 2 = 0 := by decide +kernel
theorem cols2 : ∀ t : Fin grid0.N, win0_2.index t 0 = t.val / 64 ∧ win0_2.index t 1 = t.val / 4 % 16 ∧ win0_2.index t 2 = 0 := by decide +kernel

/-- The head, the row of keys and the group of rows of a point. -/
def hd (t : Fin cfg0.N) : Fin 16 := ⟨t.val / 64, by have : cfg0.N = 1024 := N_0; omega⟩
def ky (t : Fin cfg0.N) : Fin 16 := ⟨t.val / 4 % 16, by omega⟩
def gr (t : Fin cfg0.N) : Fin 4 := ⟨t.val % 4, by omega⟩

/-- Where a tile is computed the windows stand at the point's own group of rows. -/
theorem stands (t : Fin cfg0.N) (h : t.val / 4 % 16 ≤ 4 * (t.val % 4) + 3) : max (t.val % 4) (t.val / 4 % 16 / 4) = t.val % 4 := by omega

theorem block_q (c : Dev nD) (G : Buf (Elt Ideal) ((c : Thread nD τ).loc main_v21)) (t : Fin cfg0.N) (h : t.val / 4 % 16 ≤ 4 * (t.val % 4) + 3) (r : Fin 4) (ρ : Fin 512) (d : Fin 192) :
    (((cfg0.win 0).blk t).view.read (Elt Ideal) G : FVec Ideal S1x2048x192 .bf16) (ix3 0 ⟨512 * r.val + ρ.val, by omega⟩ d) = (G : FVec Ideal S16x8192x192 .bf16) (ix3 (hd t) (pos (gr t) r ρ) d) := by
  rw [View.read_apply]
  show G _ = G _
  have i0 := rows0 t
  congr 1; funext a; apply Fin.ext
  match a with
  | ⟨0, _⟩ => show win0_0.index t 0 * 1 + 1 * 0 = t.val / 64; rw [i0.1]; omega
  | ⟨1, _⟩ => show win0_0.index t 1 * 2048 + 1 * (512 * r.val + ρ.val) = 2048 * (t.val % 4) + 512 * r.val + ρ.val; rw [i0.2.1, stands t h]; omega
  | ⟨2, _⟩ => show win0_0.index t 2 * 192 + 1 * d.val = d.val; rw [i0.2.2]; omega
theorem block_k (c : Dev nD) (G : Buf (Elt Ideal) ((c : Thread nD τ).loc main_v22)) (t : Fin cfg0.N) (x : Fin 512) (d : Fin 192) :
    (((cfg0.win 1).blk t).view.read (Elt Ideal) G : FVec Ideal S1x512x192 .bf16) (ix3 0 x d) = (G : FVec Ideal S16x8192x192 .bf16) (ix3 (hd t) (col (ky t) x) d) := by
  rw [View.read_apply]
  show G _ = G _
  have i0 := cols1 t
  congr 1; funext a; apply Fin.ext
  match a with
  | ⟨0, _⟩ => show win0_1.index t 0 * 1 + 1 * 0 = t.val / 64; rw [i0.1]; omega
  | ⟨1, _⟩ => show win0_1.index t 1 * 512 + 1 * x.val = 512 * (t.val / 4 % 16) + x.val; rw [i0.2.1]; omega
  | ⟨2, _⟩ => show win0_1.index t 2 * 192 + 1 * d.val = d.val; rw [i0.2.2]; omega
theorem block_v (c : Dev nD) (G : Buf (Elt Ideal) ((c : Thread nD τ).loc main_v23)) (t : Fin cfg0.N) (x : Fin 512) (d : Fin 128) :
    (((cfg0.win 2).blk t).view.read (Elt Ideal) G : FVec Ideal S1x512x128 .bf16) (ix3 0 x d) = (G : FVec Ideal S16x8192x128 .bf16) (ix3 (hd t) (col (ky t) x) d) := by
  rw [View.read_apply]
  show G _ = G _
  have i0 := cols2 t
  congr 1; funext a; apply Fin.ext
  match a with
  | ⟨0, _⟩ => show win0_2.index t 0 * 1 + 1 * 0 = t.val / 64; rw [i0.1]; omega
  | ⟨1, _⟩ => show win0_2.index t 1 * 512 + 1 * x.val = 512 * (t.val / 4 % 16) + x.val; rw [i0.2.1]; omega
  | ⟨2, _⟩ => show win0_2.index t 2 * 128 + 1 * d.val = d.val; rw [i0.2.2]; omega
theorem block_o (c : Dev nD) (G : Buf (Elt Ideal) ((c : Thread nD τ).loc main_v17)) (t : Fin cfg0.N) (h : t.val / 4 % 16 ≤ 4 * (t.val % 4) + 3) (r : Fin 4) (ρ : Fin 512) (d : Fin 128) :
    (((cfg0.win 3).blk t).view.read (Elt Ideal) G : FVec Ideal S1x2048x128 .f32) (ix3 0 ⟨512 * r.val + ρ.val, by omega⟩ d) = (G : FVec Ideal S16x8192x128 .f32) (ix3 (hd t) (pos (gr t) r ρ) d) := by
  rw [View.read_apply]
  show G _ = G _
  have i0 := rows3 t
  congr 1; funext a; apply Fin.ext
  match a with
  | ⟨0, _⟩ => show win0_3.index t 0 * 1 + 1 * 0 = t.val / 64; rw [i0.1]; omega
  | ⟨1, _⟩ => show win0_3.index t 1 * 2048 + 1 * (512 * r.val + ρ.val) = 2048 * (t.val % 4) + 512 * r.val + ρ.val; rw [i0.2.1, stands t h]; omega
  | ⟨2, _⟩ => show win0_3.index t 2 * 128 + 1 * d.val = d.val; rw [i0.2.2]; omega
theorem block_l (c : Dev nD) (G : Buf (Elt Ideal) ((c : Thread nD τ).loc main_v20)) (t : Fin cfg0.N) (h : t.val / 4 % 16 ≤ 4 * (t.val % 4) + 3) (r : Fin 4) (ρ : Fin 512) (d : Fin 128) :
    (((cfg0.win 4).blk t).view.read (Elt Ideal) G : FVec Ideal S1x2048x128 .f32) (ix3 0 ⟨512 * r.val + ρ.val, by omega⟩ d) = (G : FVec Ideal S16x8192x128 .f32) (ix3 (hd t) (pos (gr t) r ρ) d) := by
  rw [View.read_apply]
  show G _ = G _
  have i0 := rows4 t
  congr 1; funext a; apply Fin.ext
  match a with
  | ⟨0, _⟩ => show win0_4.index t 0 * 1 + 1 * 0 = t.val / 64; rw [i0.1]; omega
  | ⟨1, _⟩ => show win0_4.index t 1 * 2048 + 1 * (512 * r.val + ρ.val) = 2048 * (t.val % 4) + 512 * r.val + ρ.val; rw [i0.2.1, stands t h]; omega
  | ⟨2, _⟩ => show win0_4.index t 2 * 128 + 1 * d.val = d.val; rw [i0.2.2]; omega
theorem block_g (c : Dev nD) (G : Buf (Elt Ideal) ((c : Thread nD τ).loc main_arg3)) (t : Fin cfg0.N) (h : t.val / 4 % 16 ≤ 4 * (t.val % 4) + 3) (r : Fin 4) (ρ : Fin 512) (d : Fin 128) :
    (((cfg0.win 5).blk t).view.read (Elt Ideal) G : FVec Ideal S1x2048x128 .f32) (ix3 0 ⟨512 * r.val + ρ.val, by omega⟩ d) = (G : FVec Ideal S16x8192x128 .f32) (ix3 (hd t) (pos (gr t) r ρ) d) := by
  rw [View.read_apply]
  show G _ = G _
  have i0 := rows5 t
  congr 1; funext a; apply Fin.ext
  match a with
  | ⟨0, _⟩ => show win0_5.index t 0 * 1 + 1 * 0 = t.val / 64; rw [i0.1]; omega
  | ⟨1, _⟩ => show win0_5.index t 1 * 2048 + 1 * (512 * r.val + ρ.val) = 2048 * (t.val % 4) + 512 * r.val + ρ.val; rw [i0.2.1, stands t h]; omega
  | ⟨2, _⟩ => show win0_5.index t 2 * 128 + 1 * d.val = d.val; rw [i0.2.2]; omega

theorem ops_q (c : Dev nD) (t : Fin cfg0.N) : (ops m c t).q = (((cfg0.win 0).blk t).view.read (Elt Ideal) (V m c main_v21) : FVec Ideal S1x2048x192 .bf16) := by
  unfold ops iblk; rfl
theorem ops_k (c : Dev nD) (t : Fin cfg0.N) : (ops m c t).k = (((cfg0.win 1).blk t).view.read (Elt Ideal) (V m c main_v22) : FVec Ideal S1x512x192 .bf16) := by
  unfold ops iblk; rfl
theorem ops_v (c : Dev nD) (t : Fin cfg0.N) : (ops m c t).v = (((cfg0.win 2).blk t).view.read (Elt Ideal) (V m c main_v23) : FVec Ideal S1x512x128 .bf16) := by
  unfold ops iblk; rfl
theorem ops_o (c : Dev nD) (t : Fin cfg0.N) : (ops m c t).o = (((cfg0.win 3).blk t).view.read (Elt Ideal) (V m c main_v17) : FVec Ideal S1x2048x128 .f32) := by
  unfold ops iblk; rfl
theorem ops_l (c : Dev nD) (t : Fin cfg0.N) : (ops m c t).l = (((cfg0.win 4).blk t).view.read (Elt Ideal) (V m c main_v20) : FVec Ideal S1x2048x128 .f32) := by
  unfold ops iblk; rfl
theorem ops_g (c : Dev nD) (t : Fin cfg0.N) : (ops m c t).g = (((cfg0.win 5).blk t).view.read (Elt Ideal) (V m c main_arg3) : FVec Ideal S1x2048x128 .f32) := by
  unfold ops iblk; rfl

theorem held_from (c : Dev nD) (t : Fin cfg0.N) (h : t.val / 4 % 16 ≤ 4 * (t.val % 4) + 3) (x : Ops Ideal)
    (Q : Buf (Elt Ideal) ((c : Thread nD τ).loc main_v21)) (K : Buf (Elt Ideal) ((c : Thread nD τ).loc main_v22)) (W : Buf (Elt Ideal) ((c : Thread nD τ).loc main_v23))
    (O : Buf (Elt Ideal) ((c : Thread nD τ).loc main_v17)) (L : Buf (Elt Ideal) ((c : Thread nD τ).loc main_v20)) (G : Buf (Elt Ideal) ((c : Thread nD τ).loc main_arg3))
    (hQ : x.q = ((cfg0.win 0).blk t).view.read (Elt Ideal) Q) (hK : x.k = ((cfg0.win 1).blk t).view.read (Elt Ideal) K) (hW : x.v = ((cfg0.win 2).blk t).view.read (Elt Ideal) W)
    (hO : x.o = ((cfg0.win 3).blk t).view.read (Elt Ideal) O) (hL : x.l = ((cfg0.win 4).blk t).view.read (Elt Ideal) L) (hG : x.g = ((cfg0.win 5).blk t).view.read (Elt Ideal) G) :
    Held (headFrom Q K W O L G (hd t)) (gr t) (ky t) x where
  q r ρ d := (congrFun hQ _).trans (block_q c Q t h r ρ d)
  k y d := (congrFun hK _).trans (block_k c K t y d)
  v y d := (congrFun hW _).trans (block_v c W t y d)
  o r ρ d := (congrFun hO _).trans (block_o c O t h r ρ d)
  l r ρ := (congrFun hL _).trans (block_l c L t h r ρ 0)
  g r ρ d := (congrFun hG _).trans (block_g c G t h r ρ d)

/-- Where a tile is computed its operands are the head's. -/
theorem operands_held (c : Dev nD) (t : Fin cfg0.N) (h : t.val / 4 % 16 ≤ 4 * (t.val % 4) + 3) : Held (headOf m c (hd t)) (gr t) (ky t) (ops m c t) :=
  held_from c t h (ops m c t) (V m c main_v21) (V m c main_v22) (V m c main_v23) (V m c main_v17) (V m c main_v20) (V m c main_arg3)
    (ops_q m c t) (ops_k m c t) (ops_v m c t) (ops_o m c t) (ops_l m c t) (ops_g m c t)

/-- Every point adds its shares. -/
theorem tile_adds (c : Dev nD) (t : Fin cfg0.N) (s : St Ideal) :
    TileAdds (headOf m c (hd t)) (gr t) (ky t) s (tileAt t.val (ops m c t) (gr t) s) := by
  unfold tileAt
  split_ifs with h1 h2 h3 h4 h5
  · exact (operands_held m c t (by omega)).full (show t.val / 4 % 16 < 4 * (t.val % 4) by omega) s
  · exact (operands_held m c t (by omega)).tile0 h2 s
  · exact (operands_held m c t (by omega)).tile1 h3 s
  · exact (operands_held m c t (by omega)).tile2 h4 s
  · exact (operands_held m c t (by omega)).tile3 h5 s
  · exact tileAdds_none _ _ _ (show 4 * (t.val % 4) + 3 < t.val / 4 % 16 by omega) s

theorem step_adds (c : Dev nD) (t : Fin cfg0.N) :
    TileAdds (headOf m c (hd t)) (gr t) (ky t) (reset t.val (traj m c t.val)) (traj m c (t.val + 1)) := by
  have e : (grid0.coords t 2 : Fin 4) = gr t := Fin.ext (coord2 t)
  have h := tile_adds m c t (reset t.val (traj m c t.val))
  rw [← e] at h
  rw [traj_succ m c t, ← e]
  exact h

/-! ## What is set to zero -/

theorem pay1_at (i) : (k0_pay1 (F := Ideal)) i = 0 := by
  obtain ⟨a, b, d, rfl⟩ : ∃ a b d, i = ix3 a b d := ⟨_, _, _, eq_ix3 i⟩
  pointwise [k0_pay1]
theorem pay2_at (a b) : (k0_pay2 (F := Ideal)) (ix2 a b) = 0 := by pointwise [k0_pay2]
theorem pay3_at (a b) : (k0_pay3 (F := Ideal)) (ix2 a b) = 0 := by pointwise [k0_pay3]

theorem reset_dq (n : ℕ) (s : St Ideal) (i) : (reset n s).dq i = if n % 64 = 0 then 0 else s.dq i := by
  unfold reset
  split_ifs with h1 h2 h3
  · exact pay1_at i
  · rfl
  · exact pay1_at i
  · rfl
theorem reset_dk (n : ℕ) (s : St Ideal) (a b) : (reset n s).dk (ix2 a b) = if n % 4 = 0 then 0 else s.dk (ix2 a b) := by
  unfold reset
  split_ifs with h1 h2 h3
  · exact pay2_at a b
  · exact pay2_at a b
  · omega
  · rfl
theorem reset_dv (n : ℕ) (s : St Ideal) (a b) : (reset n s).dv (ix2 a b) = if n % 4 = 0 then 0 else s.dv (ix2 a b) := by
  unfold reset
  split_ifs with h1 h2 h3
  · exact pay3_at a b
  · exact pay3_at a b
  · omega
  · rfl

/-! ## Sums by blocks -/

theorem sum_col (f : Fin 8192 → EReal) : ∑ j : Fin 16, ∑ c : Fin 512, f (col j c) = ∑ y, f y := by
  rw [← Fintype.sum_prod_type']
  exact Fintype.sum_equiv (finProdFinEquiv : Fin 16 × Fin 512 ≃ Fin (16 * 512)) _ f fun p => congrArg f (Fin.ext (Nat.add_comm _ _))
theorem sum_pos (f : Fin 8192 → EReal) : ∑ b : Fin 4, ∑ r : Fin 4, ∑ ρ : Fin 512, f (pos b r ρ) = ∑ y, f y := by
  rw [← sum_col f, ← Fintype.sum_prod_type']
  refine Fintype.sum_equiv (finProdFinEquiv : Fin 4 × Fin 4 ≃ Fin (4 * 4)) _ (fun j : Fin 16 => ∑ c : Fin 512, f (col j c)) fun p => ?_
  refine Finset.sum_congr rfl fun ρ _ => congrArg f (Fin.ext ?_)
  show 2048 * p.1.val + 512 * p.2.val + ρ.val = 512 * (p.2.val + 4 * p.1.val) + ρ.val
  omega

/-! ## The sums -/

/-- Four points of one row of keys, the first of which starts from zero. -/
theorem four (f : ℕ → EReal) (n : ℕ) (hn : n % 4 = 3) (X : Fin 4 → EReal)
    (hstep : ∀ i : Fin 4, f (n - 3 + i.val + 1) = (if (n - 3 + i.val) % 4 = 0 then 0 else f (n - 3 + i.val)) + X i) : f (n + 1) = ∑ b, X b := by
  have h0 := hstep 0; have h1 := hstep 1; have h2 := hstep 2; have h3 := hstep 3
  simp only [Fin.val_zero, Fin.val_one, Fin.val_two, show ((3 : Fin 4).val) = 3 from rfl, Nat.add_zero] at h0 h1 h2 h3
  rw [if_pos (by omega), zero_add] at h0
  rw [if_neg (by omega), h0] at h1
  rw [if_neg (by omega), h1] at h2
  rw [if_neg (by omega), h2] at h3
  rw [Fin.sum_univ_four, ← h3]
  congr 1; omega

/-- The points of one row of keys, from its last. -/
def quad (t : Fin cfg0.N) (i : Fin 4) (ht : t.val % 4 = 3) : Fin cfg0.N := ⟨t.val - 3 + i.val, by omega⟩
theorem quad_hd (t : Fin cfg0.N) (i : Fin 4) (ht : t.val % 4 = 3) : hd (quad t i ht) = hd t := Fin.ext (by show (t.val - 3 + i.val) / 64 = t.val / 64; omega)
theorem quad_ky (t : Fin cfg0.N) (i : Fin 4) (ht : t.val % 4 = 3) : ky (quad t i ht) = ky t := Fin.ext (by show (t.val - 3 + i.val) / 4 % 16 = t.val / 4 % 16; omega)
theorem quad_gr (t : Fin cfg0.N) (i : Fin 4) (ht : t.val % 4 = 3) : gr (quad t i ht) = i := Fin.ext (by show (t.val - 3 + i.val) % 4 = i.val; omega)

theorem quad_adds (c : Dev nD) (t : Fin cfg0.N) (i : Fin 4) (ht : t.val % 4 = 3) :
    TileAdds (headOf m c (hd t)) i (ky t) (reset (t.val - 3 + i.val) (traj m c (t.val - 3 + i.val))) (traj m c (t.val - 3 + i.val + 1)) := by
  have h := step_adds m c (quad t i ht)
  rw [quad_hd, quad_ky, quad_gr] at h
  exact h

/-- A row of keys ends with its key gradient: summed over all the rows. -/
theorem dk_final (c : Dev nD) (t : Fin cfg0.N) (ht : t.val % 4 = 3) (x : Fin 512) (d : Fin 192) :
    (traj m c (t.val + 1)).dk (ix2 x d) = ∑ y : Fin 8192, (headOf m c (hd t)).D y (col (ky t) x) * (headOf m c (hd t)).q y d := by
  rw [← sum_pos (fun y => (headOf m c (hd t)).D y (col (ky t) x) * (headOf m c (hd t)).q y d)]
  refine four (fun n => (traj m c n).dk (ix2 x d)) t.val ht _ fun i => ?_
  exact ((quad_adds m c t i ht).dk x d).trans (congrArg₂ _ (reset_dk _ _ _ _) rfl)
/-- And with its value gradient. -/
theorem dv_final (c : Dev nD) (t : Fin cfg0.N) (ht : t.val % 4 = 3) (x : Fin 512) (e : Fin 128) :
    (traj m c (t.val + 1)).dv (ix2 x e) = ∑ y : Fin 8192, (headOf m c (hd t)).P y (col (ky t) x) * (headOf m c (hd t)).g y e := by
  rw [← sum_pos (fun y => (headOf m c (hd t)).P y (col (ky t) x) * (headOf m c (hd t)).g y e)]
  refine four (fun n => (traj m c n).dv (ix2 x e)) t.val ht _ fun i => ?_
  exact ((quad_adds m c t i ht).dv x e).trans (congrArg₂ _ (reset_dv _ _ _ _) rfl)

/-- The query gradient's share of one row of keys. -/
def share (c : Dev nD) (h : Fin 16) (y : Fin 8192) (d : Fin 192) (j : Fin 16) : EReal :=
  ∑ x : Fin 512, (headOf m c h).D y (col j x) * (headOf m c h).k (col j x) d

/-- One row of keys adds its share to the query gradient, in the one of its four points that has the row. -/
theorem dq_row (c : Dev nD) (t : Fin cfg0.N) (ht : t.val % 4 = 3) (y : Fin 8192) (d : Fin 192) :
    (traj m c (t.val + 1)).dq (ix3 0 y d) = (if (t.val - 3) % 64 = 0 then 0 else (traj m c (t.val - 3)).dq (ix3 0 y d)) + share m c (hd t) y d (ky t) := by
  have st : ∀ i : Fin 4, (traj m c (t.val - 3 + i.val + 1)).dq (ix3 0 y d) = (if (t.val - 3 + i.val) % 64 = 0 then 0 else (traj m c (t.val - 3 + i.val)).dq (ix3 0 y d))
      + if y.val / 2048 = i.val then share m c (hd t) y d (ky t) else 0 := fun i =>
    ((quad_adds m c t i ht).dq y d).trans (congrArg₂ _ (reset_dq _ _ _) rfl)
  have h0 := st 0; have h1 := st 1; have h2 := st 2; have h3 := st 3
  generalize share m c (hd t) y d (ky t) = X at *
  simp only [Fin.val_zero, Fin.val_one, Fin.val_two, show ((3 : Fin 4).val) = 3 from rfl, Nat.add_zero] at h0 h1 h2 h3
  rw [if_neg (by omega), h0] at h1
  rw [if_neg (by omega), h1] at h2
  rw [if_neg (by omega), h2] at h3
  rw [show t.val + 1 = t.val - 3 + 3 + 1 by omega, h3]
  generalize (if (t.val - 3) % 64 = 0 then 0 else (traj m c (t.val - 3)).dq (ix3 0 y d)) = Y
  have hy := y.isLt
  rcases (by omega : y.val / 2048 = 0 ∨ y.val / 2048 = 1 ∨ y.val / 2048 = 2 ∨ y.val / 2048 = 3) with e | e | e | e <;> simp [e]

/-- After the first rows of keys of a head the query gradient is the sum of their shares. -/
theorem dq_rows (c : Dev nD) (h : Fin 16) (y : Fin 8192) (d : Fin 192) (n : ℕ) (hn : n < 16) :
    (traj m c (64 * h.val + 4 * n + 4)).dq (ix3 0 y d) = ∑ j : Fin (n + 1), share m c h y d ⟨j.val, by omega⟩ := by
  have hN : cfg0.N = 1024 := N_0
  induction n with
  | zero =>
    have e := dq_row m c ⟨64 * h.val + 3, by omega⟩ (by show (64 * h.val + 3) % 4 = 3; omega) y d
    rw [if_pos (by show (64 * h.val + 3 - 3) % 64 = 0; omega), zero_add] at e
    refine e.trans ?_
    rw [Fin.sum_univ_one]
    congr 1
    · exact Fin.ext (by show (64 * h.val + 3) / 64 = h.val; omega)
    · exact Fin.ext (by show (64 * h.val + 3) / 4 % 16 = 0; omega)
  | succ n ih =>
    have e := dq_row m c ⟨64 * h.val + 4 * n + 7, by omega⟩ (by show (64 * h.val + 4 * n + 7) % 4 = 3; omega) y d
    rw [if_neg (by show ¬ (64 * h.val + 4 * n + 7 - 3) % 64 = 0; omega)] at e
    refine e.trans ?_
    rw [Fin.sum_univ_castSucc]
    refine congrArg₂ _ (ih (by omega)) ?_
    congr 1
    · exact Fin.ext (by show (64 * h.val + 4 * n + 7) / 64 = h.val; omega)
    · exact Fin.ext (by show (64 * h.val + 4 * n + 7) / 4 % 16 = n + 1; omega)

/-- A head ends with its query gradient: summed over all the columns. -/
theorem dq_final (c : Dev nD) (t : Fin cfg0.N) (ht : t.val % 64 = 63) (y : Fin 8192) (d : Fin 192) :
    (traj m c (t.val + 1)).dq (ix3 0 y d) = ∑ x : Fin 8192, (headOf m c (hd t)).D y x * (headOf m c (hd t)).k x d := by
  rw [← sum_col (fun x => (headOf m c (hd t)).D y x * (headOf m c (hd t)).k x d)]
  have e := dq_rows m c (hd t) y d 15 (by omega)
  rw [show 64 * (hd t).val + 4 * 15 + 4 = t.val + 1 by show 64 * (t.val / 64) + 4 * 15 + 4 = _; omega] at e
  exact e

end Cert.KernelIdeal.Bwd

end
-- ==== Proof.ArrayValue.lean ====
module

public import proofs.«01_k».proof.Proof.TrajValue
public import proofs.«01_k».proof.Proof.Region
public import Idealize.ShloMosaic.Lib.Pipeline.Value

/-! # What the kernel's result arrays end with, in terms of the contents of its operand arrays -/

@[expose] public section

set_option maxRecDepth 16384

noncomputable section

namespace Cert.KernelIdeal.Bwd

open Idealize.ShloMosaic Idealize.ShloMosaic.TcCoe Idealize.ShloMosaic.Tactic
open Idealize.SL.Sem
open Idealize.ShloMosaic.Pipeline (Dat)
open Cert.KernelIdeal.Gen

/-- The query gradient of sixteen heads. -/
def outQ (A : Fin 16 → Head) : FVec Ideal S16x8192x192 .f32 := fun i => ∑ x : Fin 8192, (A (i 0)).D (i 1) x * (A (i 0)).k x (i 2)
/-- The key gradient. -/
def outK (A : Fin 16 → Head) : FVec Ideal S16x8192x192 .f32 := fun i => ∑ y : Fin 8192, (A (i 0)).D y (i 1) * (A (i 0)).q y (i 2)
/-- The value gradient. -/
def outV (A : Fin 16 → Head) : FVec Ideal S16x8192x128 .f32 := fun i => ∑ y : Fin 8192, (A (i 0)).P y (i 1) * (A (i 0)).g y (i 2)

theorem stand6 : ∀ t : Fin grid0.N, win0_6.index t 0 = t.val / 64 ∧ win0_6.index t 1 = 0 ∧ win0_6.index t 2 = 0 := by decide +kernel
theorem stand7 : ∀ t : Fin grid0.N, win0_7.index t 0 = t.val / 64 ∧ win0_7.index t 1 = t.val / 4 % 16 ∧ win0_7.index t 2 = 0 := by decide +kernel
theorem stand8 : ∀ t : Fin grid0.N, win0_8.index t 0 = t.val / 64 ∧ win0_8.index t 1 = t.val / 4 % 16 ∧ win0_8.index t 2 = 0 := by decide +kernel

theorem read6 (c : Dev nD) (G : Buf (Elt Ideal) ((c : Thread nD τ).loc main_v24_0)) (t : Fin cfg0.N) (y : Fin 8192) (d : Fin 192) :
    (((cfg0.win 6).blk t).view.read (Elt Ideal) G : FVec Ideal S1x8192x192 .f32) (ix3 0 y d) = (G : FVec Ideal S16x8192x192 .f32) (ix3 (hd t) y d) := by
  rw [View.read_apply]
  show G _ = G _
  have i0 := stand6 t
  congr 1; funext a; apply Fin.ext
  match a with
  | ⟨0, _⟩ => show win0_6.index t 0 * 1 + 1 * 0 = t.val / 64; rw [i0.1]; omega
  | ⟨1, _⟩ => show win0_6.index t 1 * 8192 + 1 * y.val = y.val; rw [i0.2.1]; omega
  | ⟨2, _⟩ => show win0_6.index t 2 * 192 + 1 * d.val = d.val; rw [i0.2.2]; omega
theorem read7 (c : Dev nD) (G : Buf (Elt Ideal) ((c : Thread nD τ).loc main_v24_1)) (t : Fin cfg0.N) (x : Fin 512) (d : Fin 192) :
    (((cfg0.win 7).blk t).view.read (Elt Ideal) G : FVec Ideal S1x512x192 .f32) (ix3 0 x d) = (G : FVec Ideal S16x8192x192 .f32) (ix3 (hd t) (col (ky t) x) d) := by
  rw [View.read_apply]
  show G _ = G _
  have i0 := stand7 t
  congr 1; funext a; apply Fin.ext
  match a with
  | ⟨0, _⟩ => show win0_7.index t 0 * 1 + 1 * 0 = t.val / 64; rw [i0.1]; omega
  | ⟨1, _⟩ => show win0_7.index t 1 * 512 + 1 * x.val = 512 * (t.val / 4 % 16) + x.val; rw [i0.2.1]; omega
  | ⟨2, _⟩ => show win0_7.index t 2 * 192 + 1 * d.val = d.val; rw [i0.2.2]; omega
theorem read8 (c : Dev nD) (G : Buf (Elt Ideal) ((c : Thread nD τ).loc main_v24_2)) (t : Fin cfg0.N) (x : Fin 512) (d : Fin 128) :
    (((cfg0.win 8).blk t).view.read (Elt Ideal) G : FVec Ideal S1x512x128 .f32) (ix3 0 x d) = (G : FVec Ideal S16x8192x128 .f32) (ix3 (hd t) (col (ky t) x) d) := by
  rw [View.read_apply]
  show G _ = G _
  have i0 := stand8 t
  congr 1; funext a; apply Fin.ext
  match a with
  | ⟨0, _⟩ => show win0_8.index t 0 * 1 + 1 * 0 = t.val / 64; rw [i0.1]; omega
  | ⟨1, _⟩ => show win0_8.index t 1 * 512 + 1 * x.val = 512 * (t.val / 4 % 16) + x.val; rw [i0.2.1]; omega
  | ⟨2, _⟩ => show win0_8.index t 2 * 128 + 1 * d.val = d.val; rw [i0.2.2]; omega

theorem pay20_at (a : Vec Ideal S512x192 .f32) (x : Fin 512) (d : Fin 192) : k0_pay20 a (ix3 0 x d) = a (ix2 x d) := by pointwise [k0_pay20]
theorem pay21_at (a : Vec Ideal S512x128 .f32) (x : Fin 512) (d : Fin 128) : k0_pay21 a (ix3 0 x d) = a (ix2 x d) := by pointwise [k0_pay21]

variable (m : (ℓ : Loc nD τ sig) → Buf (Elt Ideal) ℓ)

theorem flushed6 (c : Dev nD) (t : Fin cfg0.N) (hf : (cfg0.win 6).flush t = true) :
    (dats m 0 c).flushed 6 t = ((cfg0.win 6).blk t).view.read (Elt Ideal) (outQ (headOf m c)) := by
  have ht : t.val % 64 = 63 := by have := (flush0_6 t).mp hf; omega
  show (cfg0.win 6).cut (grid0.coords t) ((dats m 0 c).after 6 t) = _
  rw [after6]
  funext j
  obtain ⟨z, y, d, rfl⟩ : ∃ (z : Fin 1) (y : Fin 8192) (d : Fin 192), j = ix3 z y d := ⟨_, _, _, eq_ix3 j⟩
  obtain rfl : z = 0 := Subsingleton.elim _ _
  exact (dq_final m c t ht y d).trans (read6 c (outQ (headOf m c)) t y d).symm
theorem flushed7 (c : Dev nD) (t : Fin cfg0.N) (hf : (cfg0.win 7).flush t = true) :
    (dats m 0 c).flushed 7 t = ((cfg0.win 7).blk t).view.read (Elt Ideal) (outK (headOf m c)) := by
  have ht : t.val % 4 = 3 := by have := (flush0_7 t).mp hf; omega
  show (cfg0.win 7).cut (grid0.coords t) ((dats m 0 c).after 7 t) = _
  rw [after7]
  funext j
  obtain ⟨z, y, d, rfl⟩ : ∃ (z : Fin 1) (y : Fin 512) (d : Fin 192), j = ix3 z y d := ⟨_, _, _, eq_ix3 j⟩
  obtain rfl : z = 0 := Subsingleton.elim _ _
  exact ((pay20_at _ y d).trans (dk_final m c t ht y d)).trans (read7 c (outK (headOf m c)) t y d).symm
theorem flushed8 (c : Dev nD) (t : Fin cfg0.N) (hf : (cfg0.win 8).flush t = true) :
    (dats m 0 c).flushed 8 t = ((cfg0.win 8).blk t).view.read (Elt Ideal) (outV (headOf m c)) := by
  have ht : t.val % 4 = 3 := by have := (flush0_8 t).mp hf; omega
  show (cfg0.win 8).cut (grid0.coords t) ((dats m 0 c).after 8 t) = _
  rw [after8]
  funext j
  obtain ⟨z, y, d, rfl⟩ : ∃ (z : Fin 1) (y : Fin 512) (d : Fin 128), j = ix3 z y d := ⟨_, _, _, eq_ix3 j⟩
  obtain rfl : z = 0 := Subsingleton.elim _ _
  exact ((pay21_at _ y d).trans (dv_final m c t ht y d)).trans (read8 c (outV (headOf m c)) t y d).symm

/-- The query gradient the kernel leaves. -/
theorem final6 (c : Dev nD) : (dats m 0 c).arrAt 6 cfg0.N = outQ (headOf m c) :=
  (dats m 0 c).arrAt_eq_of_cover 6 (outQ (headOf m c)) (flushed6 m c) fun i => by
    have hN : cfg0.N = 1024 := N_0
    have h0 : (i 0 : ℕ) < 16 := (i 0).isLt
    have h1 : (i 1 : ℕ) < 8192 := (i 1).isLt
    have h2 : (i 2 : ℕ) < 192 := (i 2).isLt
    let t : Fin cfg0.N := ⟨64 * (i 0 : ℕ) + 63, by omega⟩
    have hv : t.val = 64 * (i 0 : ℕ) + 63 := rfl
    refine ⟨t, (flush0_6 t).mpr (by omega), ?_⟩
    show i ∈ ((View.whole main_v24_0).slice (win0_6.rect t)).set
    rw [View.set_slice_whole, Rect.mem_set_unit]
    have i0 := stand6 t
    intro a
    match a with
    | ⟨0, _⟩ => show win0_6.index t 0 * 1 ≤ (i 0 : ℕ) ∧ (i 0 : ℕ) < win0_6.index t 0 * 1 + 1; rw [i0.1]; omega
    | ⟨1, _⟩ => show win0_6.index t 1 * 8192 ≤ (i 1 : ℕ) ∧ (i 1 : ℕ) < win0_6.index t 1 * 8192 + 8192; rw [i0.2.1]; omega
    | ⟨2, _⟩ => show win0_6.index t 2 * 192 ≤ (i 2 : ℕ) ∧ (i 2 : ℕ) < win0_6.index t 2 * 192 + 192; rw [i0.2.2]; omega
/-- The key gradient. -/
theorem final7 (c : Dev nD) : (dats m 0 c).arrAt 7 cfg0.N = outK (headOf m c) :=
  (dats m 0 c).arrAt_eq_of_cover 7 (outK (headOf m c)) (flushed7 m c) fun i => by
    have hN : cfg0.N = 1024 := N_0
    have h0 : (i 0 : ℕ) < 16 := (i 0).isLt
    have h1 : (i 1 : ℕ) < 8192 := (i 1).isLt
    have h2 : (i 2 : ℕ) < 192 := (i 2).isLt
    let t : Fin cfg0.N := ⟨64 * (i 0 : ℕ) + 4 * ((i 1 : ℕ) / 512) + 3, by omega⟩
    have hv : t.val = 64 * (i 0 : ℕ) + 4 * ((i 1 : ℕ) / 512) + 3 := rfl
    refine ⟨t, (flush0_7 t).mpr (by omega), ?_⟩
    show i ∈ ((View.whole main_v24_1).slice (win0_7.rect t)).set
    rw [View.set_slice_whole, Rect.mem_set_unit]
    have i0 := stand7 t
    intro a
    match a with
    | ⟨0, _⟩ => show win0_7.index t 0 * 1 ≤ (i 0 : ℕ) ∧ (i 0 : ℕ) < win0_7.index t 0 * 1 + 1; rw [i0.1]; omega
    | ⟨1, _⟩ => show win0_7.index t 1 * 512 ≤ (i 1 : ℕ) ∧ (i 1 : ℕ) < win0_7.index t 1 * 512 + 512; rw [i0.2.1]; omega
    | ⟨2, _⟩ => show win0_7.index t 2 * 192 ≤ (i 2 : ℕ) ∧ (i 2 : ℕ) < win0_7.index t 2 * 192 + 192; rw [i0.2.2]; omega
/-- The value gradient. -/
theorem final8 (c : Dev nD) : (dats m 0 c).arrAt 8 cfg0.N = outV (headOf m c) :=
  (dats m 0 c).arrAt_eq_of_cover 8 (outV (headOf m c)) (flushed8 m c) fun i => by
    have hN : cfg0.N = 1024 := N_0
    have h0 : (i 0 : ℕ) < 16 := (i 0).isLt
    have h1 : (i 1 : ℕ) < 8192 := (i 1).isLt
    have h2 : (i 2 : ℕ) < 128 := (i 2).isLt
    let t : Fin cfg0.N := ⟨64 * (i 0 : ℕ) + 4 * ((i 1 : ℕ) / 512) + 3, by omega⟩
    have hv : t.val = 64 * (i 0 : ℕ) + 4 * ((i 1 : ℕ) / 512) + 3 := rfl
    refine ⟨t, (flush0_8 t).mpr (by omega), ?_⟩
    show i ∈ ((View.whole main_v24_2).slice (win0_8.rect t)).set
    rw [View.set_slice_whole, Rect.mem_set_unit]
    have i0 := stand8 t
    intro a
    match a with
    | ⟨0, _⟩ => show win0_8.index t 0 * 1 ≤ (i 0 : ℕ) ∧ (i 0 : ℕ) < win0_8.index t 0 * 1 + 1; rw [i0.1]; omega
    | ⟨1, _⟩ => show win0_8.index t 1 * 512 ≤ (i 1 : ℕ) ∧ (i 1 : ℕ) < win0_8.index t 1 * 512 + 512; rw [i0.2.1]; omega
    | ⟨2, _⟩ => show win0_8.index t 2 * 128 ≤ (i 2 : ℕ) ∧ (i 2 : ℕ) < win0_8.index t 2 * 128 + 128; rw [i0.2.2]; omega

variable (ρ : Dev nD → PrngReg)

/-- The run, read: the three gradients of the operand arrays, and the arguments unchanged. -/
theorem run_value : θ_run defs (onTc (τ := τ) (main (F := Ideal))) ⟨m, fun _ => 0, ρ⟩ fun r => ∀ c : Dev nD,
      r.2.mem ((c : Thread nD τ).loc main_v24_0) = outQ (headOf m c)
      ∧ r.2.mem ((c : Thread nD τ).loc main_v24_1) = outK (headOf m c)
      ∧ r.2.mem ((c : Thread nD τ).loc main_v24_2) = outV (headOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 6).trans (final6 m c), ((h.1 c).1 7).trans (final7 m c), ((h.1 c).1 8).trans (final8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 5).trans (((dats m 0 c).arrAt_in 5 rfl _).trans ((A_eq m c 5).trans (V_main_arg3 m c)))⟩) (run_main m ρ)

end Cert.KernelIdeal.Bwd

end
-- ==== Proof.RowMath.lean ====
module

public import Idealize.ShloMosaic.PureOps.Ideal

/-! # Attention's backward over the reals, and its two forms over the extended reals

The kernel works from each row's log of the sum of exponentials and each row's output; the plain form works from the
exponentials less the row's maximum. Over real operands both are the same real numbers. -/

@[expose] public section

noncomputable section

namespace Cert.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_mul {ι : Type} (s : Finset ι) (f g : ι → ℝ) : ∑ i ∈ s, (f i : EReal) * (g i : EReal) = ((∑ i ∈ s, f i * g i : ℝ) : EReal) := by
  rw [coe_sum]
  exact Finset.sum_congr rfl fun i _ => (EReal.coe_mul _ _).symm

theorem div_real {y : ℝ} (h : y ≠ 0) (x : ℝ) : Ideal.div (x : EReal) (y : EReal) = ((x / y : ℝ) : EReal) := by
  rw [Ideal.div_coe h, ← EReal.coe_mul, mul_one_div]

/-- One head's operands, over the reals. -/
structure Real' where
  q : Fin 8192 → Fin 192 → ℝ
  k : Fin 8192 → Fin 192 → ℝ
  v : Fin 8192 → Fin 128 → ℝ
  g : Fin 8192 → Fin 128 → ℝ

namespace Real'
variable (R : Real') (y c : Fin 8192)

/-- The score of row `y` at column `c`. -/
def S : ℝ := ∑ d : Fin 192, R.q y d * R.k c d
/-- The masked score. -/
def M : EReal := if c ≤ y then (R.S y c : EReal) else ⊥
/-- The row's maximum. -/
def top : EReal := Finset.univ.fold max ⊥ fun c : Fin 8192 => R.M y c
def μ : ℝ := (R.top y).toReal
/-- The exponential less the maximum. -/
def E : ℝ := if c ≤ y then Real.exp (R.S y c - R.μ y) else 0
def L : ℝ := ∑ c : Fin 8192, R.E y c
/-- The probability. -/
def p : ℝ := R.E y c / R.L y
/-- The gradient with respect to the probability. -/
def dp : ℝ := ∑ e : Fin 128, R.g y e * R.v c e
/-- The gradient with respect to the score. -/
def ds : ℝ := R.p y c * (R.dp y c - ∑ x : Fin 8192, R.p y x * R.dp y x)

theorem top_eq : R.top y = (R.μ y : EReal) := by
  have e : R.top y = Finset.univ.sup fun c : Fin 8192 => R.M y c := rfl
  refine (EReal.coe_toReal ?_ ?_).symm
  · rw [e]
    refine ne_of_lt ((Finset.sup_lt_iff bot_lt_top).mpr fun c _ => ?_)
    unfold M
    split_ifs
    · exact EReal.coe_lt_top _
    · exact bot_lt_top
  · rw [e]
    refine ne_of_gt (lt_of_lt_of_le ?_ (Finset.le_sup (f := fun c : Fin 8192 => R.M y c) (Finset.mem_univ y)))
    show ⊥ < R.M y y
    unfold M
    rw [if_pos le_rfl]
    exact EReal.bot_lt_coe _

theorem E_eq : Ideal.exp (R.M y c - R.top y) = (R.E y c : EReal) := by
  rw [top_eq]
  unfold M E
  split_ifs
  · rw [← EReal.coe_sub, Ideal.exp_coe]
  · rw [EReal.bot_sub, Ideal.exp_bot, EReal.coe_zero]

theorem E_nonneg : 0 ≤ R.E y c := by
  unfold E
  split_ifs
  · exact (Real.exp_pos _).le
  · exact le_rfl

theorem L_pos : 0 < R.L y := by
  refine Finset.sum_pos' (fun c _ => R.E_nonneg y c) ⟨y, Finset.mem_univ y, ?_⟩
  unfold E
  rw [if_pos le_rfl]
  exact Real.exp_pos _

theorem L_eq : ∑ c : Fin 8192, Ideal.exp (R.M y c - R.top y) = (R.L y : EReal) := by
  unfold L
  rw [coe_sum]
  exact Finset.sum_congr rfl fun c _ => R.E_eq y c

theorem log_eq : R.top y + Ideal.log (R.L y : EReal) = ((R.μ y + Real.log (R.L y) : ℝ) : EReal) := by
  rw [top_eq, Ideal.log_coe, if_neg (not_le.mpr (R.L_pos y)), EReal.coe_add]

theorem p_of_log (h : c ≤ y) : Real.exp (R.S y c - (R.μ y + Real.log (R.L y))) = R.p y c := by
  unfold p E
  rw [if_pos h, ← sub_sub, Real.exp_sub, Real.exp_log (R.L_pos y)]
theorem p_zero (h : ¬ c ≤ y) : R.p y c = 0 := by
  unfold p E
  rw [if_neg h, zero_div]

/-- The row's output meets its gradient in the sum over the columns. -/
theorem out_dp : ∑ e : Fin 128, R.g y e * ∑ x : Fin 8192, R.p y x * R.v x e = ∑ x : Fin 8192, R.p y x * R.dp y x := by
  simp only [Finset.mul_sum, dp]
  rw [Finset.sum_comm]
  exact Finset.sum_congr rfl fun x _ => Finset.sum_congr rfl fun e _ => by ring

/-- The plain form of the score's gradient. -/
theorem ds_plain : (R.dp y c / R.L y + -∑ x : Fin 8192, R.dp y x * (1 / (R.L y * R.L y)) * R.E y x) * R.E y c = R.ds y c := by
  have h := (R.L_pos y).ne'
  have e : ∑ x : Fin 8192, R.dp y x * (1 / (R.L y * R.L y)) * R.E y x = (∑ x : Fin 8192, R.p y x * R.dp y x) / R.L y := by
    rw [Finset.sum_div]
    refine Finset.sum_congr rfl fun x _ => ?_
    unfold p
    field_simp
  rw [e]
  unfold ds p
  field_simp
  ring

end Real'

end Cert.Attn

end
-- ==== Proof.HostValue.lean ====
module

public import proofs.«01_k».proof.Proof.RowMath
public import proofs.«01_k».proof.Proof.BlockValue
public import proofs.«01_k».proof.Proof.TrajValue
public import proofs.«01_k».proof.Proof.Gen.KernelIdeal.Frame
public import Idealize.ShloMosaic.Lib.Pointwise
public import Idealize.ShloMosaic.Lib.StableHlo.ReadAt

/-! # What the operations before the kernel hand it, element by element -/

@[expose] public section

set_option maxRecDepth 16384

noncomputable section

namespace Cert.KernelIdeal.Bwd

open Idealize.ShloMosaic Idealize.ShloMosaic.TcCoe Idealize.ShloMosaic.Tactic
open Cert.KernelIdeal Cert.KernelIdeal.Gen

/-- The masked scores. -/
def hS (q k : FVec Ideal S16x8192x192 .f32) : FVec Ideal S16x8192x8192 .f32 :=
  select
    (broadcastInDim S16x8192x8192 ![1, 2] bcast_S8192x8192_S16x8192x8192_1_2
      (cmpi .sge (broadcastInDim S8192x8192 ![0, 1] bcast_S8192x1_S8192x8192_0_1 (broadcastInDim S8192x1 ![0] bcast_S8192_S8192x1_0 (iotaInDim S8192 32 0)))
        (broadcastInDim S8192x8192 ![0, 1] bcast_S1x8192_S8192x8192_0_1 (broadcastInDim S1x8192 ![1] bcast_S8192_S1x8192_1 (iotaInDim S8192 32 0)))))
    (Host.dotGeneral dot_S16x8192x192_S16x8192x192_S16x8192x8192_2_2_1_1_0_0 none q k)
    (broadcastInDim S16x8192x8192 ![] bcast_S_S16x8192x8192 (id (constant S_ .f32 0xFF800000#32)))
/-- The rows' maxima. -/
def hM (s : FVec Ideal S16x8192x8192 .f32) : FVec Ideal S16x8192x1 .f32 :=
  broadcastInDim S16x8192x1 ![0, 1] bcast_S16x8192_S16x8192x1_0_1 (Host.reduce FloatOps.maximumf s (constant S_ .f32 0xFF800000#32) reducesTo_S16x8192x8192_S16x8192_d2 h_S_)
/-- The exponentials less the maxima. -/
def hE (s : FVec Ideal S16x8192x8192 .f32) (t : FVec Ideal S16x8192x1 .f32) : FVec Ideal S16x8192x8192 .f32 :=
  Host.exp (subf s (broadcastInDim S16x8192x8192 ![0, 1, 2] bcast_S16x8192x1_S16x8192x8192_0_1_2 t))
/-- Their sums. -/
def hL (e : FVec Ideal S16x8192x8192 .f32) : FVec Ideal S16x8192x1 .f32 :=
  broadcastInDim S16x8192x1 ![0, 1] bcast_S16x8192_S16x8192x1_0_1 (Host.reduceAdd e (constant S_ .f32 0x00000000#32) reducesTo_S16x8192x8192_S16x8192_d2 h_S_)
/-- The rows' outputs. -/
def hO (e : FVec Ideal S16x8192x8192 .f32) (l : FVec Ideal S16x8192x1 .f32) (v : FVec Ideal S16x8192x128 .f32) : FVec Ideal S16x8192x128 .f32 :=
  Host.dotGeneral dot_S16x8192x8192_S16x8192x128_S16x8192x128_2_1_1_2_0_0 none
    (Host.divf e (broadcastInDim S16x8192x8192 ![0, 1, 2] bcast_S16x8192x1_S16x8192x8192_0_1_2 l)) v
/-- The logs of the sums of exponentials, repeated along the lanes. -/
def hLse (t l : FVec Ideal S16x8192x1 .f32) : FVec Ideal S16x8192x128 .f32 :=
  broadcastInDim S16x8192x128 ![0, 1, 2] bcast_S16x8192x1_S16x8192x128_0_1_2 (addf t (Host.log l))

theorem low_eq : Ideal.ofBits .f32 0xFF800000#32 = ⊥ := by
  simp [Ideal.ofBits, Ideal.ieee]

theorem hS_at (q k : FVec Ideal S16x8192x192 .f32) (h : Fin 16) (y c : Fin 8192) :
    hS q k (ix3 h y c) = if c ≤ y then ∑ d : Fin 192, q (ix3 h y d) * k (ix3 h c d) else ⊥ := by
  pointwise [hS]
  rw [WordCmp.cmpi_sge_ofNat (by omega) (by omega)]
  show Scalar.select _ _ (Ideal.ofBits .f32 0xFF800000#32) = _
  rw [low_eq]
  pointwise
  by_cases hc : c ≤ y
  · rw [if_pos hc, if_pos (by simpa using hc)]
  · rw [if_neg hc, if_neg (by simpa using hc)]
theorem hM_at (s : FVec Ideal S16x8192x8192 .f32) (h : Fin 16) (y : Fin 8192) (z : Fin 1) :
    hM s (ix3 h y z) = Finset.univ.fold max ⊥ fun c : Fin 8192 => s (ix3 h y c) := by
  pointwise [hM]
  rw [low_eq]
theorem hE_at (s : FVec Ideal S16x8192x8192 .f32) (t : FVec Ideal S16x8192x1 .f32) (h : Fin 16) (y c : Fin 8192) :
    hE s t (ix3 h y c) = Ideal.exp (s (ix3 h y c) - t (ix3 h y 0)) := by
  pointwise [hE]
theorem hL_at (e : FVec Ideal S16x8192x8192 .f32) (h : Fin 16) (y : Fin 8192) (z : Fin 1) : hL e (ix3 h y z) = ∑ c : Fin 8192, e (ix3 h y c) := by
  pointwise [hL]
theorem hO_at (e : FVec Ideal S16x8192x8192 .f32) (l : FVec Ideal S16x8192x1 .f32) (v : FVec Ideal S16x8192x128 .f32) (h : Fin 16) (y : Fin 8192) (d : Fin 128) :
    hO e l v (ix3 h y d) = ∑ c : Fin 8192, Ideal.div (e (ix3 h y c)) (l (ix3 h y 0)) * v (ix3 h c d) := by
  pointwise [hO]
theorem hLse_at (t l : FVec Ideal S16x8192x1 .f32) (h : Fin 16) (y : Fin 8192) (z : Fin 128) : hLse t l (ix3 h y z) = t (ix3 h y 0) + Ideal.log (l (ix3 h y 0)) := by
  pointwise [hLse]

variable (m : (ℓ : Loc nD τ sig) → Buf (Elt Ideal) ℓ)

/-- The arguments. -/
abbrev argQ (c : Dev nD) : FVec Ideal S16x8192x192 .f32 := m ((c : Thread nD τ).loc main_arg0)
abbrev argK (c : Dev nD) : FVec Ideal S16x8192x192 .f32 := m ((c : Thread nD τ).loc main_arg1)
abbrev argV (c : Dev nD) : FVec Ideal S16x8192x128 .f32 := m ((c : Thread nD τ).loc main_arg2)
abbrev argG (c : Dev nD) : FVec Ideal S16x8192x128 .f32 := m ((c : Thread nD τ).loc main_arg3)

theorem given_q (c : Dev nD) : V m c main_v21 = (argQ m c : FVec Ideal S16x8192x192 .f32) := by
  unfold V
  simp only [hostOps0, hostOps0_1, hostOps0_2, List.cons_append, List.nil_append, List.flatten_cons, List.flatten_nil, List.append_nil]
  after_reads_simp
  rfl
theorem given_k (c : Dev nD) : V m c main_v22 = (argK m c : FVec Ideal S16x8192x192 .f32) := by
  unfold V
  simp only [hostOps0, hostOps0_1, hostOps0_2, List.cons_append, List.nil_append, List.flatten_cons, List.flatten_nil, List.append_nil]
  after_reads_simp
  rfl
theorem given_v (c : Dev nD) : V m c main_v23 = (argV m c : FVec Ideal S16x8192x128 .f32) := by
  unfold V
  simp only [hostOps0, hostOps0_1, hostOps0_2, List.cons_append, List.nil_append, List.flatten_cons, List.flatten_nil, List.append_nil]
  after_reads_simp
  rfl
theorem given_lse (c : Dev nD) : V m c main_v20 = hLse (hM (hS (argQ m c) (argK m c))) (hL (hE (hS (argQ m c) (argK m c)) (hM (hS (argQ m c) (argK m c))))) := by
  unfold V
  simp only [hostOps0, hostOps0_1, hostOps0_2, List.cons_append, List.nil_append, List.flatten_cons, List.flatten_nil, List.append_nil]
  after_reads_simp
  try simp -implicitDefEqProofs only [StableHlo.TRef.toBuf, StableHlo.TRef.ofBuf, cast_cast, cast_eq]
  rfl
theorem given_o (c : Dev nD) : V m c main_v17 = hO (hE (hS (argQ m c) (argK m c)) (hM (hS (argQ m c) (argK m c)))) (hL (hE (hS (argQ m c) (argK m c)) (hM (hS (argQ m c) (argK m c))))) (argV m c) := by
  unfold V
  simp only [hostOps0, hostOps0_1, hostOps0_2, List.cons_append, List.nil_append, List.flatten_cons, List.flatten_nil, List.append_nil]
  after_reads_simp
  try simp -implicitDefEqProofs only [StableHlo.TRef.toBuf, StableHlo.TRef.ofBuf, cast_cast, cast_eq]
  rfl

/-! ## The heads over real arguments -/

open Cert.Attn

/-- Every element is a real number. -/
def Finite {s : Shape} (x : FVec Ideal s .f32) : Prop := ∀ i, x i = ((x i : EReal).toReal : EReal)

/-- Head `h` of the arguments, over the reals. -/
def realOf (q k : FVec Ideal S16x8192x192 .f32) (v g : FVec Ideal S16x8192x128 .f32) (h : Fin 16) : Real' where
  q y d := (q (ix3 h y d) : EReal).toReal
  k y d := (k (ix3 h y d) : EReal).toReal
  v y e := (v (ix3 h y e) : EReal).toReal
  g y e := (g (ix3 h y e) : EReal).toReal

section heads
variable {q k : FVec Ideal S16x8192x192 .f32} {v g : FVec Ideal S16x8192x128 .f32}

theorem hS_real (hq : Finite q) (hk : Finite k) (h : Fin 16) (y c : Fin 8192) : hS q k (ix3 h y c) = (realOf q k v g h).M y c := by
  rw [hS_at]
  unfold Real'.M Real'.S
  split_ifs
  · rw [← coe_sum_mul]
    exact Finset.sum_congr rfl fun d _ => congrArg₂ _ (hq _) (hk _)
  · rfl
theorem hM_real (hq : Finite q) (hk : Finite k) (h : Fin 16) (y : Fin 8192) (z : Fin 1) : hM (hS q k) (ix3 h y z) = (realOf q k v g h).top y := by
  rw [hM_at]
  unfold Real'.top
  simp only [hS_real (v := v) (g := g) hq hk]
theorem hE_real (hq : Finite q) (hk : Finite k) (h : Fin 16) (y c : Fin 8192) : hE (hS q k) (hM (hS q k)) (ix3 h y c) = ((realOf q k v g h).E y c : EReal) := by
  rw [hE_at, hS_real (v := v) (g := g) hq hk, hM_real (v := v) (g := g) hq hk, Real'.E_eq]
theorem hL_real (hq : Finite q) (hk : Finite k) (h : Fin 16) (y : Fin 8192) (z : Fin 1) : hL (hE (hS q k) (hM (hS q k))) (ix3 h y z) = ((realOf q k v g h).L y : EReal) := by
  rw [hL_at]
  unfold Real'.L
  rw [coe_sum]
  exact Finset.sum_congr rfl fun c _ => hE_real hq hk h y c

/-- Head `h` as the operations before the kernel make it of the arguments. -/
def headAt (q k : FVec Ideal S16x8192x192 .f32) (v g : FVec Ideal S16x8192x128 .f32) (h : Fin 16) : Head :=
  headFrom q k v (hO (hE (hS q k) (hM (hS q k))) (hL (hE (hS q k) (hM (hS q k)))) v)
    (hLse (hM (hS q k)) (hL (hE (hS q k) (hM (hS q k))))) g h

theorem head_P (hq : Finite q) (hk : Finite k) (h : Fin 16) (y c : Fin 8192) : (headAt q k v g h).P y c = ((realOf q k v g h).p y c : EReal) := by
  unfold Head.P
  split_ifs with hc
  · rw [← Real'.p_of_log _ _ _ hc, ← Ideal.exp_coe, EReal.coe_sub]
    congr 1
    refine congrArg₂ _ ?_ ?_
    · unfold Real'.S
      rw [← coe_sum_mul]
      exact Finset.sum_congr rfl fun d _ => congrArg₂ _ (hq _) (hk _)
    · refine (hLse_at _ _ h y 0).trans ?_
      rw [hM_real (v := v) (g := g) hq hk, hL_real (v := v) (g := g) hq hk, Real'.log_eq]
  · rw [Real'.p_zero _ _ _ hc, EReal.coe_zero]

theorem head_o (hq : Finite q) (hk : Finite k) (hv : Finite v) (h : Fin 16) (y : Fin 8192) (e : Fin 128) :
    (headAt q k v g h).o y e = ((∑ x : Fin 8192, (realOf q k v g h).p y x * (realOf q k v g h).v x e : ℝ) : EReal) := by
  refine (hO_at _ _ v h y e).trans ?_
  rw [← coe_sum_mul]
  refine Finset.sum_congr rfl fun c _ => congrArg₂ _ ?_ (hv _)
  rw [hE_real (v := v) (g := g) hq hk, hL_real (v := v) (g := g) hq hk, div_real (Real'.L_pos _ y).ne']
  rfl

theorem head_D (hq : Finite q) (hk : Finite k) (hv : Finite v) (hg : Finite g) (h : Fin 16) (y c : Fin 8192) :
    (headAt q k v g h).D y c = ((realOf q k v g h).ds y c : EReal) := by
  unfold Head.D Real'.ds
  rw [head_P hq hk, EReal.coe_mul, EReal.coe_sub]
  refine congrArg₂ _ rfl (congrArg₂ _ ?_ ?_)
  · unfold Real'.dp
    rw [← coe_sum_mul]
    exact Finset.sum_congr rfl fun e _ => congrArg₂ _ (hg _) (hv _)
  · rw [← Real'.out_dp, ← coe_sum_mul]
    exact Finset.sum_congr rfl fun e _ => congrArg₂ _ (hg _) (head_o hq hk hv h y e)
end heads

theorem headOf_eq (c : Dev nD) (h : Fin 16) : headOf m c h = headAt (argQ m c) (argK m c) (argV m c) (argG m c) h := by
  unfold headOf headAt
  rw [given_q, given_k, given_v, given_o, given_lse, V_main_arg3]

end Cert.KernelIdeal.Bwd

end
-- ==== Proof.RefValue.lean ====
module

public import proofs.«01_k».proof.Proof.HostValue
public import proofs.«01_k».proof.Proof.Gen.ReferenceIdeal.Run
public import Idealize.ShloMosaic.Lib.Pointwise
public import Idealize.ShloMosaic.Lib.WordCmp

/-! # The reference's gradients, element by element -/

@[expose] public section

set_option maxRecDepth 16384

noncomputable section

namespace Cert.ReferenceIdeal.Bwd

open Idealize.ShloMosaic Idealize.ShloMosaic.TcCoe Idealize.ShloMosaic.Tactic
open Cert.ReferenceIdeal Cert.ReferenceIdeal.Gen
open Cert.Attn
open Cert.KernelIdeal.Bwd (Finite realOf low_eq)

/-- Where a column is not later than the row. -/
def rMask : IVec S16x8192x8192 1 :=
  broadcastInDim S16x8192x8192 ![1, 2] bcast_S8192x8192_S16x8192x8192_1_2
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))
/-- The masked scores. -/
def rS (q k : FVec Ideal S16x8192x192 .f32) : FVec Ideal S16x8192x8192 .f32 :=
  select rMask (Host.dotGeneral dot_S16x8192x192_S16x8192x192_S16x8192x8192_2_2_1_1_0_0 none q k)
    (broadcastInDim S16x8192x8192 ![] bcast_S_S16x8192x8192 (id (constant S_ .f32 0xFF800000#32)))
/-- The rows' maxima. -/
def rM (s : FVec Ideal S16x8192x8192 .f32) : FVec Ideal S16x8192 .f32 :=
  maximumf (broadcastInDim S16x8192 ![] bcast_S_S16x8192 (constant S_ .f32 0xFF800000#32))
    (Host.reduce FloatOps.maximumf s (constant S_ .f32 0xFF800000#32) reducesTo_S16x8192x8192_S16x8192_d2 h_S_)
/-- The exponentials less the maxima. -/
def rE (s : FVec Ideal S16x8192x8192 .f32) (t : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 t)))
/-- Their sums. -/
def rL (e : FVec Ideal S16x8192x8192 .f32) : FVec Ideal S16x8192x1 .f32 :=
  broadcastInDim S16x8192x1 ![0, 1] bcast_S16x8192_S16x8192x1_0_1 (Host.reduceAdd e (constant S_ .f32 0x00000000#32) reducesTo_S16x8192x8192_S16x8192_d2 h_S_)
/-- The value gradient. -/
def rV (e : FVec Ideal S16x8192x8192 .f32) (l : FVec Ideal S16x8192x1 .f32) (g : FVec Ideal S16x8192x128 .f32) : FVec Ideal S16x8192x128 .f32 :=
  transpose S16x8192x128 [0, 2, 1] (Host.dotGeneral dot_S16x8192x128_S16x8192x8192_S16x128x8192_1_1_2_2_0_0 none g
    (Host.divf e (broadcastInDim S16x8192x8192 ![0, 1, 2] bcast_S16x8192x1_S16x8192x8192_0_1_2 l))) transposes_S16x128x8192_S16x8192x128_0_2_1
/-- The gradient with respect to the probabilities. -/
def rDp (g v : FVec Ideal S16x8192x128 .f32) : FVec Ideal S16x8192x8192 .f32 :=
  Host.dotGeneral dot_S16x8192x128_S16x8192x128_S16x8192x8192_2_2_1_1_0_0 none g v
/-- The gradient with respect to the scores. -/
def rDs (dp e : FVec Ideal S16x8192x8192 .f32) (l : FVec Ideal S16x8192x1 .f32) : FVec Ideal S16x8192x8192 .f32 :=
  select rMask
    (mulf (addf (Host.divf dp (broadcastInDim S16x8192x8192 ![0, 1, 2] bcast_S16x8192x1_S16x8192x8192_0_1_2 l))
      (broadcastInDim S16x8192x8192 ![0, 1] bcast_S16x8192_S16x8192x8192_0_1
        (Host.reduceAdd (Host.negf (shapeCast S16x8192x1 (Host.reduceAdd (mulf (mulf dp (broadcastInDim S16x8192x8192 ![0, 1, 2] bcast_S16x8192x1_S16x8192x8192_0_1_2
            (Host.divf (broadcastInDim S16x8192x1 ![] bcast_S_S16x8192x1 (constant S_ .f32 0x3F800000#32)) (mulf l l)))) e)
          (constant S_ .f32 0x00000000#32) reducesTo_S16x8192x8192_S16x8192_d2 h_S_) shapeCasts_S16x8192_S16x8192x1)) (constant S_ .f32 0x00000000#32) reducesTo_S16x8192x1_S16x8192_d2 h_S_))) e)
    (broadcastInDim S16x8192x8192 ![] bcast_S_S16x8192x8192 (constant S_ .f32 0x00000000#32))
/-- The key gradient. -/
def rK (ds : FVec Ideal S16x8192x8192 .f32) (q : FVec Ideal S16x8192x192 .f32) : FVec Ideal S16x8192x192 .f32 :=
  Host.dotGeneral dot_S16x8192x8192_S16x8192x192_S16x8192x192_1_1_2_2_0_0 none ds q
/-- The query gradient. -/
def rQ (ds : FVec Ideal S16x8192x8192 .f32) (k : FVec Ideal S16x8192x192 .f32) : FVec Ideal S16x8192x192 .f32 :=
  Host.dotGeneral dot_S16x8192x8192_S16x8192x192_S16x8192x192_2_1_1_2_0_0 none ds k

theorem rMask_at (h : Fin 16) (y c : Fin 8192) : rMask (ix3 h y c) = if c ≤ y then 1#1 else 0#1 := by
  pointwise [rMask]
  rw [WordCmp.cmpi_sge_ofNat (by omega) (by omega)]
  by_cases hc : c ≤ y
  · rw [if_pos hc, decide_eq_true (by simpa using hc)]; rfl
  · rw [if_neg hc, decide_eq_false (by simpa using hc)]; rfl
theorem select_mask (x y : FVec Ideal S16x8192x8192 .f32) (h : Fin 16) (r c : Fin 8192) :
    select rMask x y (ix3 h r c) = if c ≤ r then x (ix3 h r c) else y (ix3 h r c) := by
  show Scalar.select (rMask (ix3 h r c)) (x (ix3 h r c)) (y (ix3 h r c)) = _
  rw [rMask_at]
  split_ifs <;> rfl
theorem rS_at (q k : FVec Ideal S16x8192x192 .f32) (h : Fin 16) (y c : Fin 8192) :
    rS q k (ix3 h y c) = if c ≤ y then ∑ d : Fin 192, q (ix3 h y d) * k (ix3 h c d) else ⊥ := by
  unfold rS
  rw [select_mask]
  split_ifs
  · pointwise
  · exact low_eq
theorem max_at {s : Shape} (x z : FVec Ideal s .f32) (i : s.Idx) : maximumf x z i = max (x i : EReal) (z i : EReal) := rfl
theorem low_at (h : Fin 16) (y : Fin 8192) : broadcastInDim S16x8192 ![] bcast_S_S16x8192 (constant (F := Ideal) S_ .f32 0xFF800000#32) (ix2 h y) = ⊥ := low_eq
theorem reduce_at (s : FVec Ideal S16x8192x8192 .f32) (h : Fin 16) (y : Fin 8192) :
    Host.reduce FloatOps.maximumf s (constant S_ .f32 0xFF800000#32) reducesTo_S16x8192x8192_S16x8192_d2 h_S_ (ix2 h y) = Finset.univ.fold max ⊥ fun c : Fin 8192 => s (ix3 h y c) := by
  pointwise
  rw [low_eq]
theorem rM_at (s : FVec Ideal S16x8192x8192 .f32) (h : Fin 16) (y : Fin 8192) :
    rM s (ix2 h y) = Finset.univ.fold max ⊥ fun c : Fin 8192 => s (ix3 h y c) := by
  unfold rM
  rw [max_at, reduce_at, low_at]
  exact max_eq_right bot_le
theorem rE_at (s : FVec Ideal S16x8192x8192 .f32) (t : FVec Ideal S16x8192 .f32) (h : Fin 16) (y c : Fin 8192) :
    rE s t (ix3 h y c) = Ideal.exp (s (ix3 h y c) - t (ix2 h y)) := by
  pointwise [rE]
theorem rL_at (e : FVec Ideal S16x8192x8192 .f32) (h : Fin 16) (y : Fin 8192) (z : Fin 1) : rL e (ix3 h y z) = ∑ c : Fin 8192, e (ix3 h y c) := by
  pointwise [rL]
theorem rV_at (e : FVec Ideal S16x8192x8192 .f32) (l : FVec Ideal S16x8192x1 .f32) (g : FVec Ideal S16x8192x128 .f32) (h : Fin 16) (c : Fin 8192) (d : Fin 128) :
    rV e l g (ix3 h c d) = ∑ y : Fin 8192, g (ix3 h y d) * Ideal.div (e (ix3 h y c)) (l (ix3 h y 0)) := by
  pointwise [rV]
theorem rDp_at (g v : FVec Ideal S16x8192x128 .f32) (h : Fin 16) (y c : Fin 8192) : rDp g v (ix3 h y c) = ∑ e : Fin 128, g (ix3 h y e) * v (ix3 h c e) := by
  pointwise [rDp]
theorem rK_at (ds : FVec Ideal S16x8192x8192 .f32) (q : FVec Ideal S16x8192x192 .f32) (h : Fin 16) (c : Fin 8192) (d : Fin 192) :
    rK ds q (ix3 h c d) = ∑ y : Fin 8192, ds (ix3 h y c) * q (ix3 h y d) := by
  pointwise [rK]
theorem rQ_at (ds : FVec Ideal S16x8192x8192 .f32) (k : FVec Ideal S16x8192x192 .f32) (h : Fin 16) (y : Fin 8192) (d : Fin 192) :
    rQ ds k (ix3 h y d) = ∑ c : Fin 8192, ds (ix3 h y c) * k (ix3 h c d) := by
  pointwise [rQ]
theorem rDs_at (dp e : FVec Ideal S16x8192x8192 .f32) (l : FVec Ideal S16x8192x1 .f32) (h : Fin 16) (y c : Fin 8192) :
    rDs dp e l (ix3 h y c) = if c ≤ y then
      (Ideal.div (dp (ix3 h y c)) (l (ix3 h y 0)) + -∑ x : Fin 8192, dp (ix3 h y x) * Ideal.div 1 (l (ix3 h y 0) * l (ix3 h y 0)) * e (ix3 h y x)) * e (ix3 h y c) else 0 := by
  unfold rDs
  rw [select_mask]
  split_ifs
  · pointwise
    rw [Fin.sum_univ_one]
  · pointwise

end Cert.ReferenceIdeal.Bwd

end
-- ==== Proof.RefReal.lean ====
module

public import proofs.«01_k».proof.Proof.RefValue
public import Idealize.ShloMosaic.Lib.Quiescent

/-! # The reference over real arguments, its run and its frame -/

@[expose] public section

set_option maxRecDepth 16384

noncomputable section

namespace Cert.ReferenceIdeal.Bwd

open Idealize.ShloMosaic Idealize.ShloMosaic.TcCoe Idealize.ShloMosaic.Tactic Idealize.SL.Sem
open Cert.ReferenceIdeal Cert.ReferenceIdeal.Gen
open Cert.Attn
open Cert.KernelIdeal.Bwd (Finite realOf)

section heads
variable {q k : FVec Ideal S16x8192x192 .f32} {v g : FVec Ideal S16x8192x128 .f32}

/-- The exponentials, the sums and the score's gradient as the reference makes them of its arguments. -/
def fE (q k : FVec Ideal S16x8192x192 .f32) : FVec Ideal S16x8192x8192 .f32 := rE (rS q k) (rM (rS q k))
def fL (q k : FVec Ideal S16x8192x192 .f32) : FVec Ideal S16x8192x1 .f32 := rL (fE q k)
def fDs (q k : FVec Ideal S16x8192x192 .f32) (v g : FVec Ideal S16x8192x128 .f32) : FVec Ideal S16x8192x8192 .f32 := rDs (rDp g v) (fE q k) (fL q k)

theorem rS_real (hq : Finite q) (hk : Finite k) (h : Fin 16) (y c : Fin 8192) : rS q k (ix3 h y c) = (realOf q k v g h).M y c := by
  rw [rS_at]
  unfold Real'.M Real'.S
  split_ifs
  · rw [← coe_sum_mul]
    exact Finset.sum_congr rfl fun d _ => congrArg₂ _ (hq _) (hk _)
  · rfl
theorem rM_real (hq : Finite q) (hk : Finite k) (h : Fin 16) (y : Fin 8192) : rM (rS q k) (ix2 h y) = (realOf q k v g h).top y := by
  rw [rM_at]
  unfold Real'.top
  simp only [rS_real (v := v) (g := g) hq hk]
theorem fE_real (hq : Finite q) (hk : Finite k) (h : Fin 16) (y c : Fin 8192) : fE q k (ix3 h y c) = ((realOf q k v g h).E y c : EReal) := by
  unfold fE
  rw [rE_at, rS_real (v := v) (g := g) hq hk, rM_real (v := v) (g := g) hq hk, Real'.E_eq]
theorem fL_real (hq : Finite q) (hk : Finite k) (h : Fin 16) (y : Fin 8192) (z : Fin 1) : fL q k (ix3 h y z) = ((realOf q k v g h).L y : EReal) := by
  unfold fL
  rw [rL_at]
  unfold Real'.L
  rw [coe_sum]
  exact Finset.sum_congr rfl fun c _ => fE_real hq hk h y c
theorem rDp_real (hv : Finite v) (hg : Finite g) (h : Fin 16) (y c : Fin 8192) : rDp g v (ix3 h y c) = ((realOf q k v g h).dp y c : EReal) := by
  rw [rDp_at]
  unfold Real'.dp
  rw [← coe_sum_mul]
  exact Finset.sum_congr rfl fun e _ => congrArg₂ _ (hg _) (hv _)

theorem fDs_real (hq : Finite q) (hk : Finite k) (hv : Finite v) (hg : Finite g) (h : Fin 16) (y c : Fin 8192) :
    fDs q k v g (ix3 h y c) = ((realOf q k v g h).ds y c : EReal) := by
  have hL := ((realOf q k v g h).L_pos y).ne'
  unfold fDs
  rw [rDs_at, fL_real (v := v) (g := g) hq hk]
  simp only [rDp_real (q := q) (k := k) hv hg, fE_real (v := v) (g := g) hq hk]
  split_ifs with hc
  · rw [← EReal.coe_mul, ← EReal.coe_one, div_real (mul_ne_zero hL hL), div_real hL]
    simp only [← EReal.coe_mul]
    rw [← coe_sum, ← EReal.coe_neg, ← EReal.coe_add, ← EReal.coe_mul, Real'.ds_plain]
  · unfold Real'.ds
    rw [Real'.p_zero _ _ _ hc, zero_mul, EReal.coe_zero]

theorem rV_real (hq : Finite q) (hk : Finite k) (h : Fin 16) (c : Fin 8192) (e : Fin 128) :
    rV (fE q k) (fL q k) g (ix3 h c e) = ∑ y : Fin 8192, g (ix3 h y e) * ((realOf q k v g h).p y c : EReal) := by
  rw [rV_at]
  refine Finset.sum_congr rfl fun y _ => congrArg₂ _ rfl ?_
  rw [fE_real (v := v) (g := g) hq hk, fL_real (v := v) (g := g) hq hk, div_real (Real'.L_pos _ y).ne']
  rfl
end heads

variable (m : (ℓ : Loc nD τ sig) → Buf (Elt Ideal) ℓ)

abbrev argQ (c : Dev nD) : FVec Ideal S16x8192x192 .f32 := m ((c : Thread nD τ).loc main_arg0)
abbrev argK (c : Dev nD) : FVec Ideal S16x8192x192 .f32 := m ((c : Thread nD τ).loc main_arg1)
abbrev argV (c : Dev nD) : FVec Ideal S16x8192x128 .f32 := m ((c : Thread nD τ).loc main_arg2)
abbrev argG (c : Dev nD) : FVec Ideal S16x8192x128 .f32 := m ((c : Thread nD τ).loc main_arg3)

theorem res_q (c : Dev nD) : Value.res_main_v54 m c = rQ (fDs (argQ m c) (argK m c) (argV m c) (argG m c)) (argK m c) := rfl
theorem res_k (c : Dev nD) : Value.res_main_v53 m c = rK (fDs (argQ m c) (argK m c) (argV m c) (argG m c)) (argQ m c) := rfl

variable (ρ : Dev nD → PrngReg)

/-- The reference's run. -/
theorem run_value : θ_run defs (onTc (τ := τ) (main (F := Ideal))) ⟨m, fun _ => 0, ρ⟩ fun r => ∀ c : Dev nD,
      r.2.mem ((c : Thread nD τ).loc main_v54) = rQ (fDs (argQ m c) (argK m c) (argV m c) (argG m c)) (argK m c)
      ∧ r.2.mem ((c : Thread nD τ).loc main_v53) = rK (fDs (argQ m c) (argK m c) (argV m c) (argG m c)) (argQ m c)
      ∧ r.2.mem ((c : Thread nD τ).loc main_v38) = rV (fE (argQ m c) (argK m c)) (fL (argQ m c) (argK m c)) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (res_q m c), (h c).2.1.trans (res_k m c), (h c).2.2.1, (h c).2.2.2⟩) (Value.run m ρ)

/-- The reference leaves its arguments, and has no semaphores. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => (h c).2.2.2, sem_eq_zero_of_no_sems (by decide) r.2⟩) (Value.run m ρ)

end Cert.ReferenceIdeal.Bwd

end
-- ==== Proof.Agree.lean ====
module

public import proofs.«01_k».proof.Defs
public import proofs.«01_k».proof.Proof.Frames
public import proofs.«01_k».proof.Proof.ArrayValue
public import proofs.«01_k».proof.Proof.HostValue
public import proofs.«01_k».proof.Proof.RefReal
public import proofs.«01_k».proof.Proof.Gen.ReferenceIdeal

/-! # The kernel's arrays and the reference's are equal at finite arguments -/

@[expose] public section

set_option maxRecDepth 16384

noncomputable section

namespace Cert.Proof

open Idealize.ShloMosaic Idealize.ShloMosaic.TcCoe Idealize.ShloMosaic.Tactic Idealize.SL.Sem
open Cert.KernelIdeal Cert.Attn
open Cert.KernelIdeal.Bwd (Finite realOf headAt headOf head_P head_D outQ outK outV)
open Cert.ReferenceIdeal.Bwd (rQ rK rV fE fL fDs rQ_at rK_at fDs_real rV_real)

section arrays
variable {q k : FVec Ideal S16x8192x192 .f32} {v g : FVec Ideal S16x8192x128 .f32}

theorem outQ_eq (hq : Finite q) (hk : Finite k) (hv : Finite v) (hg : Finite g) : outQ (headAt q k v g) = rQ (fDs q k v g) k := by
  funext i
  obtain ⟨h, y, d, rfl⟩ : ∃ (h : Fin 16) (y : Fin 8192) (d : Fin 192), i = ix3 h y d := ⟨i 0, i 1, i 2, eq_ix3 i⟩
  rw [rQ_at]
  refine Finset.sum_congr rfl fun x _ => congrArg₂ _ ?_ rfl
  rw [fDs_real hq hk hv hg]
  exact head_D hq hk hv hg h y x

theorem outK_eq (hq : Finite q) (hk : Finite k) (hv : Finite v) (hg : Finite g) : outK (headAt q k v g) = rK (fDs q k v g) q := by
  funext i
  obtain ⟨h, x, d, rfl⟩ : ∃ (h : Fin 16) (x : Fin 8192) (d : Fin 192), i = ix3 h x d := ⟨i 0, i 1, i 2, eq_ix3 i⟩
  rw [rK_at]
  refine Finset.sum_congr rfl fun y _ => congrArg₂ _ ?_ rfl
  rw [fDs_real hq hk hv hg]
  exact head_D hq hk hv hg h y x

theorem outV_eq (hq : Finite q) (hk : Finite k) : outV (headAt q k v g) = rV (fE q k) (fL q k) g := by
  funext i
  obtain ⟨h, x, e, rfl⟩ : ∃ (h : Fin 16) (x : Fin 8192) (e : Fin 128), i = ix3 h x e := ⟨i 0, i 1, i 2, eq_ix3 i⟩
  rw [rV_real (v := v) hq hk]
  refine Finset.sum_congr rfl fun y _ => (mul_comm _ _).trans (congrArg₂ _ rfl ?_)
  exact head_P hq hk h y x
end arrays

/-! ## The precondition -/

theorem facts_finite : Cert.Pre_finite.Facts := ⟨by decide, by decide⟩

theorem high_eq : Ideal.ofBits .f32 0x7F800000#32 = ⊤ := by
  simp [Ideal.ofBits, Ideal.ieee]

/-- An extended real of absolute value below infinity is a real. -/
theorem real_of_lt {x : EReal} (h : Ideal.cmp .olt (max x (-x)) ⊤ = 1#1) : x = (x.toReal : EReal) := by
  induction x with
  | bot => simp [Ideal.cmp] at h
  | top => simp [Ideal.cmp] at h
  | coe r => rfl

/-- An array whose entries are all below infinity in absolute value is real. -/
theorem finite_of {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) (i : s.Idx) : x i = ((x i).toReal : EReal) := by
  have h' := congrFun h i
  refine real_of_lt ?_
  rw [← high_eq]
  exact h'

end Cert.Proof

end
-- ==== Proof.GateValue.lean ====
module

public import proofs.«01_k».proof.Proof.Gen.Kernel2Ideal.Value
public import Idealize.ShloMosaic.Lib.Pointwise

/-! # The gradient of the gated hidden layer: what the call leaves in its two arrays -/

@[expose] public section

set_option maxRecDepth 16384

noncomputable section

namespace Cert.Kernel2Ideal.Gate

open Idealize.ShloMosaic Idealize.ShloMosaic.TcCoe Idealize.ShloMosaic.Tactic Idealize.SL.Sem
open Cert.Kernel2Ideal Cert.Kernel2Ideal.Gen

/-- The logistic function as the kernel writes it. -/
def logi (g : EReal) : EReal := Ideal.div 1 (1 + Ideal.exp (0 - g))
/-- The gate's gradient at one entry, of the product `p`, the gate's argument and the factor `u`. -/
def cellG (p g u : EReal) : EReal := p * Ideal.ofBits .f32 0x3F000000#32 * u * (logi g * (1 + g * (1 - logi g)))
/-- The factor's gradient at one entry. -/
def cellU (p g : EReal) : EReal := p * Ideal.ofBits .f32 0x3F000000#32 * (g * logi g)

section pieces
variable (w : Vec Ideal S512x2048 .bf16) (a : Vec Ideal S256x2048 .f32) (g u : Vec Ideal S256x512 .bf16) (ρ : Fin 256) (c : Fin 512)

theorem g0 : k0_pay10 (k0_pay9 w a g u) (ix2 ρ c) = cellG (∑ d : Fin 2048, a (ix2 ρ d) * w (ix2 c d)) (g (ix2 ρ c)) (u (ix2 ρ c)) := by
  unfold cellG logi
  pointwise [k0_pay10, k0_pay9, k0_pay8, k0_pay7, k0_pay6]
theorem g1 : k0_pay15 (k0_pay3 w a) g u (ix2 ρ c) = cellG (∑ d : Fin 2048, a (ix2 ρ d) * w (ix2 c d)) (g (ix2 ρ c)) (u (ix2 ρ c)) := by
  unfold cellG logi
  pointwise [k0_pay15, k0_pay14, k0_pay13, k0_pay12, k0_pay3]
theorem g2 : k0_pay20 (k0_pay17 (k0_pay4 w a)) g u (ix2 ρ c) = cellG (∑ d : Fin 2048, a (ix2 ρ d) * w (ix2 c d)) (g (ix2 ρ c)) (u (ix2 ρ c)) := by
  unfold cellG logi
  pointwise [k0_pay20, k0_pay19, k0_pay18, k0_pay17, k0_pay4]
theorem g3 : k0_pay1 (k0_pay23 g) (k0_pay24 g) (k0_pay25 (k0_pay5 w a) u) (ix2 ρ c) = cellG (∑ d : Fin 2048, a (ix2 ρ d) * w (ix2 c d)) (g (ix2 ρ c)) (u (ix2 ρ c)) := by
  unfold cellG logi
  pointwise [k0_pay1, k0_pay23, k0_pay24, k0_pay25, k0_pay22, k0_pay5]
theorem u0 : k0_pay11 (k0_pay6 w a) (k0_pay7 g) (k0_pay8 g) (ix2 ρ c) = cellU (∑ d : Fin 2048, a (ix2 ρ d) * w (ix2 c d)) (g (ix2 ρ c)) := by
  unfold cellU logi
  pointwise [k0_pay11, k0_pay8, k0_pay7, k0_pay6]
theorem u1 : k0_pay16 (k0_pay3 w a) g (ix2 ρ c) = cellU (∑ d : Fin 2048, a (ix2 ρ d) * w (ix2 c d)) (g (ix2 ρ c)) := by
  unfold cellU logi
  pointwise [k0_pay16, k0_pay14, k0_pay13, k0_pay12, k0_pay3]
theorem u2 : k0_pay21 (k0_pay17 (k0_pay4 w a)) g (ix2 ρ c) = cellU (∑ d : Fin 2048, a (ix2 ρ d) * w (ix2 c d)) (g (ix2 ρ c)) := by
  unfold cellU logi
  pointwise [k0_pay21, k0_pay19, k0_pay18, k0_pay17, k0_pay4]
theorem u3 : k0_pay2 (k0_pay22 (k0_pay5 w a)) (k0_pay23 g) (k0_pay24 g) (ix2 ρ c) = cellU (∑ d : Fin 2048, a (ix2 ρ d) * w (ix2 c d)) (g (ix2 ρ c)) := by
  unfold cellU logi
  pointwise [k0_pay2, k0_pay23, k0_pay24, k0_pay22, k0_pay5]
end pieces

/-- A load of whole rows, at one entry. -/
theorem ld_rows {n1 n2 k1 : ℕ} {e : EltTy} (x : Vec Ideal ⟨2, ![n1, n2]⟩ e) (o : ℕ) (inb : ∀ a, (![o, 0] : Fin 2 → ℕ) a + (![k1, n2] : Fin 2 → ℕ) a ≤ (⟨2, ![n1, n2]⟩ : Shape).size a)
    (ρ : Fin k1) (d : Fin n2) (y : Fin n1) (hy : y.val = o + ρ.val) :
    View.ld (Val := Elt Ideal) x (Rect.unit (s := ⟨2, ![n1, n2]⟩) ![o, 0] ![k1, n2] inb) (ix2 ρ d) = x (ix2 y d) := by
  refine congrArg x (funext fun a => Fin.ext ?_)
  match a with
  | 0 => show o + 1 * ρ.val = y.val; omega
  | 1 => show 0 + 1 * d.val = d.val; omega

/-- Where a store of whole rows puts an entry. -/
theorem emb_rows {n1 n2 k1 : ℕ} (o : ℕ) (inb : ∀ a, (![o, 0] : Fin 2 → ℕ) a + (![k1, n2] : Fin 2 → ℕ) a ≤ (⟨2, ![n1, n2]⟩ : Shape).size a)
    (ρ : Fin k1) (d : Fin n2) (y : Fin n1) (hy : y.val = o + ρ.val) :
    (Rect.unit (s := ⟨2, ![n1, n2]⟩) ![o, 0] ![k1, n2] inb).emb (ix2 ρ d) = ix2 y d := by
  refine funext fun a => Fin.ext ?_
  match a with
  | 0 => show o + 1 * ρ.val = y.val; omega
  | 1 => show 0 + 1 * d.val = d.val; omega

variable (x0 : Vec Ideal S1024x2048 .f32) (x1 : Vec Ideal S512x2048 .bf16) (x2 x3 : Vec Ideal S1024x512 .bf16)

/-- What one grid point computes of its four blocks. -/
def blockG : Vec Ideal S1024x512 .bf16 := fun j => cellG (∑ d : Fin 2048, x0 (ix2 (j 0) d) * x1 (ix2 (j 1) d)) (x2 j) (x3 j)
def blockU : Vec Ideal S1024x512 .bf16 := fun j => cellU (∑ d : Fin 2048, x0 (ix2 (j 0) d) * x1 (ix2 (j 1) d)) (x2 j)

theorem piece_sum (o : ℕ) (ho : o + 256 ≤ 1024) (inb) (inb0) (ρ : Fin 256) (c : Fin 512) :
    (∑ d : Fin 2048, View.ld (Val := Elt Ideal) (e' := .f32) x0 (Rect.unit (s := S1024x2048) ![o, 0] ![256, 2048] inb) (ix2 ρ d) * View.ld (Val := Elt Ideal) (e' := .bf16) x1 (Rect.unit (s := S512x2048) ![0, 0] ![512, 2048] inb0) (ix2 c d) : EReal)
      = ∑ d : Fin 2048, x0 (ix2 ⟨o + ρ.val, by omega⟩ d) * x1 (ix2 c d) :=
  Finset.sum_congr rfl fun d _ => congrArg₂ (fun x y : EReal => x * y) (ld_rows x0 o inb ρ d ⟨o + ρ.val, by omega⟩ rfl) (ld_rows x1 0 inb0 c d c (by omega))

/-- The entry a row block's store leaves is the block's own value there. -/
theorem put_G (o : ℕ) (ho : o + 256 ≤ 1024) (inb) (inb0) (inbr) (ρ : Fin 256) (c : Fin 512) :
    cellG (∑ d : Fin 2048, View.ld (Val := Elt Ideal) (e' := .f32) x0 (Rect.unit (s := S1024x2048) ![o, 0] ![256, 2048] inb) (ix2 ρ d) * View.ld (Val := Elt Ideal) (e' := .bf16) x1 (Rect.unit (s := S512x2048) ![0, 0] ![512, 2048] inb0) (ix2 c d))
        (View.ld (Val := Elt Ideal) (e' := .bf16) x2 (Rect.unit (s := S1024x512) ![o, 0] ![256, 512] inbr) (ix2 ρ c)) (View.ld (Val := Elt Ideal) (e' := .bf16) x3 (Rect.unit (s := S1024x512) ![o, 0] ![256, 512] inbr) (ix2 ρ c))
      = blockG x0 x1 x2 x3 ((Rect.unit (s := S1024x512) ![o, 0] ![256, 512] inbr).emb (ix2 ρ c)) := by
  rw [piece_sum x0 x1 o ho inb inb0 ρ c]
  refine Eq.trans ?_ (congrArg (blockG x0 x1 x2 x3) (emb_rows (n1 := 1024) (n2 := 512) o inbr ρ c ⟨o + ρ.val, by omega⟩ rfl)).symm
  exact congrArg₂ (cellG _) (ld_rows x2 o inbr ρ c ⟨o + ρ.val, by omega⟩ rfl) (ld_rows x3 o inbr ρ c ⟨o + ρ.val, by omega⟩ rfl)
theorem put_U (o : ℕ) (ho : o + 256 ≤ 1024) (inb) (inb0) (inbr) (ρ : Fin 256) (c : Fin 512) :
    cellU (∑ d : Fin 2048, View.ld (Val := Elt Ideal) (e' := .f32) x0 (Rect.unit (s := S1024x2048) ![o, 0] ![256, 2048] inb) (ix2 ρ d) * View.ld (Val := Elt Ideal) (e' := .bf16) x1 (Rect.unit (s := S512x2048) ![0, 0] ![512, 2048] inb0) (ix2 c d))
        (View.ld (Val := Elt Ideal) (e' := .bf16) x2 (Rect.unit (s := S1024x512) ![o, 0] ![256, 512] inbr) (ix2 ρ c))
      = blockU x0 x1 x2 ((Rect.unit (s := S1024x512) ![o, 0] ![256, 512] inbr).emb (ix2 ρ c)) := by
  rw [piece_sum x0 x1 o ho inb inb0 ρ c]
  refine Eq.trans ?_ (congrArg (blockU x0 x1 x2) (emb_rows (n1 := 1024) (n2 := 512) o inbr ρ c ⟨o + ρ.val, by omega⟩ rfl)).symm
  exact congrArg (cellU _) (ld_rows x2 o inbr ρ c ⟨o + ρ.val, by omega⟩ rfl)

theorem out4 : out0_4 x0 x1 x2 x3 = blockG x0 x1 x2 x3 := by
  unfold_out out0_4
  refine funext fun y => View.canon_apply_of_pieces (blockG x0 x1 x2 x3) _ ?_ y (cover0_4 _ _ _ _ y)
  intro p hp x
  simp only [List.mem_cons, List.not_mem_nil, or_false] at hp
  rcases hp with rfl | rfl | rfl | rfl
  all_goals obtain ⟨ρ, c, rfl⟩ : ∃ (ρ : Fin 256) (c : Fin 512), x = ix2 ρ c := ⟨_, _, eq_ix2 x⟩
  · exact (g3 _ _ _ _ ρ c).trans (put_G x0 x1 x2 x3 768 (by omega) _ _ _ ρ c)
  · exact (g2 _ _ _ _ ρ c).trans (put_G x0 x1 x2 x3 512 (by omega) _ _ _ ρ c)
  · exact (g1 _ _ _ _ ρ c).trans (put_G x0 x1 x2 x3 256 (by omega) _ _ _ ρ c)
  · exact (g0 _ _ _ _ ρ c).trans (put_G x0 x1 x2 x3 0 (by omega) _ _ _ ρ c)
theorem out5 : out0_5 x0 x1 x2 x3 = blockU x0 x1 x2 := by
  unfold_out out0_5
  refine funext fun y => View.canon_apply_of_pieces (blockU x0 x1 x2) _ ?_ y (cover0_5 _ _ _ _ y)
  intro p hp x
  simp only [List.mem_cons, List.not_mem_nil, or_false] at hp
  rcases hp with rfl | rfl | rfl | rfl
  all_goals obtain ⟨ρ, c, rfl⟩ : ∃ (ρ : Fin 256) (c : Fin 512), x = ix2 ρ c := ⟨_, _, eq_ix2 x⟩
  · exact (u3 _ _ _ ρ c).trans (put_U x0 x1 x2 768 (by omega) _ _ _ ρ c)
  · exact (u2 _ _ _ ρ c).trans (put_U x0 x1 x2 512 (by omega) _ _ _ ρ c)
  · exact (u1 _ _ _ ρ c).trans (put_U x0 x1 x2 256 (by omega) _ _ _ ρ c)
  · exact (u0 _ _ _ ρ c).trans (put_U x0 x1 x2 0 (by omega) _ _ _ ρ c)

/-! ## Blocks and arrays -/

theorem at0 : ∀ t : Fin grid0.N, win0_0.index t 0 = t.val / 8 ∧ win0_0.index t 1 = 0 := by decide +kernel
theorem at1 : ∀ t : Fin grid0.N, win0_1.index t 0 = t.val % 8 ∧ win0_1.index t 1 = 0 := by decide +kernel
theorem at2 : ∀ t : Fin grid0.N, win0_2.index t 0 = t.val / 8 ∧ win0_2.index t 1 = t.val % 8 := by decide +kernel
theorem at3 : ∀ t : Fin grid0.N, win0_3.index t 0 = t.val / 8 ∧ win0_3.index t 1 = t.val % 8 := by decide +kernel
theorem at4 : ∀ t : Fin grid0.N, win0_4.index t 0 = t.val / 8 ∧ win0_4.index t 1 = t.val % 8 := by decide +kernel
theorem at5 : ∀ t : Fin grid0.N, win0_5.index t 0 = t.val / 8 ∧ win0_5.index t 1 = t.val % 8 := by decide +kernel

/-- The row and the column of the arrays that a point's block holds. -/
def rowOf (t : Fin cfg0.N) (y : Fin 1024) : Fin 8192 := ⟨1024 * (t.val / 8) + y.val, by have : cfg0.N = 64 := N_0; omega⟩
def colOf (t : Fin cfg0.N) (c : Fin 512) : Fin 4096 := ⟨512 * (t.val % 8) + c.val, by omega⟩

section reads
variable (c : Dev nD) (t : Fin cfg0.N)

theorem read_dy (G : Buf (Elt Ideal) ((c : Thread nD τ).loc main_arg3)) (y : Fin 1024) (d : Fin 2048) :
    (((cfg0.win 0).blk t).view.read (Elt Ideal) G : FVec Ideal S1024x2048 .f32) (ix2 y d) = (G : FVec Ideal S8192x2048 .f32) (ix2 (rowOf t y) d) := by
  rw [View.read_apply]
  show G _ = G _
  have i0 := at0 t
  congr 1; funext a; apply Fin.ext
  match a with
  | ⟨0, _⟩ => show win0_0.index t 0 * 1024 + 1 * y.val = 1024 * (t.val / 8) + y.val; rw [i0.1]; omega
  | ⟨1, _⟩ => show win0_0.index t 1 * 2048 + 1 * d.val = d.val; rw [i0.2]; omega
theorem read_wd (G : Buf (Elt Ideal) ((c : Thread nD τ).loc main_arg2)) (x : Fin 512) (d : Fin 2048) :
    (((cfg0.win 1).blk t).view.read (Elt Ideal) G : FVec Ideal S512x2048 .bf16) (ix2 x d) = (G : FVec Ideal S4096x2048 .bf16) (ix2 (colOf t x) d) := by
  rw [View.read_apply]
  show G _ = G _
  have i0 := at1 t
  congr 1; funext a; apply Fin.ext
  match a with
  | ⟨0, _⟩ => show win0_1.index t 0 * 512 + 1 * x.val = 512 * (t.val % 8) + x.val; rw [i0.1]; omega
  | ⟨1, _⟩ => show win0_1.index t 1 * 2048 + 1 * d.val = d.val; rw [i0.2]; omega
theorem read_g (G : Buf (Elt Ideal) ((c : Thread nD τ).loc main_arg0)) (y : Fin 1024) (x : Fin 512) :
    (((cfg0.win 2).blk t).view.read (Elt Ideal) G : FVec Ideal S1024x512 .bf16) (ix2 y x) = (G : FVec Ideal S8192x4096 .bf16) (ix2 (rowOf t y) (colOf t x)) := by
  rw [View.read_apply]
  show G _ = G _
  have i0 := at2 t
  congr 1; funext a; apply Fin.ext
  match a with
  | ⟨0, _⟩ => show win0_2.index t 0 * 1024 + 1 * y.val = 1024 * (t.val / 8) + y.val; rw [i0.1]; omega
  | ⟨1, _⟩ => show win0_2.index t 1 * 512 + 1 * x.val = 512 * (t.val % 8) + x.val; rw [i0.2]; omega
theorem read_u (G : Buf (Elt Ideal) ((c : Thread nD τ).loc main_arg1)) (y : Fin 1024) (x : Fin 512) :
    (((cfg0.win 3).blk t).view.read (Elt Ideal) G : FVec Ideal S1024x512 .bf16) (ix2 y x) = (G : FVec Ideal S8192x4096 .bf16) (ix2 (rowOf t y) (colOf t x)) := by
  rw [View.read_apply]
  show G _ = G _
  have i0 := at3 t
  congr 1; funext a; apply Fin.ext
  match a with
  | ⟨0, _⟩ => show win0_3.index t 0 * 1024 + 1 * y.val = 1024 * (t.val / 8) + y.val; rw [i0.1]; omega
  | ⟨1, _⟩ => show win0_3.index t 1 * 512 + 1 * x.val = 512 * (t.val % 8) + x.val; rw [i0.2]; omega
theorem read_dg (G : Buf (Elt Ideal) ((c : Thread nD τ).loc main_v0_0)) (y : Fin 1024) (x : Fin 512) :
    (((cfg0.win 4).blk t).view.read (Elt Ideal) G : FVec Ideal S1024x512 .bf16) (ix2 y x) = (G : FVec Ideal S8192x4096 .bf16) (ix2 (rowOf t y) (colOf t x)) := by
  rw [View.read_apply]
  show G _ = G _
  have i0 := at4 t
  congr 1; funext a; apply Fin.ext
  match a with
  | ⟨0, _⟩ => show win0_4.index t 0 * 1024 + 1 * y.val = 1024 * (t.val / 8) + y.val; rw [i0.1]; omega
  | ⟨1, _⟩ => show win0_4.index t 1 * 512 + 1 * x.val = 512 * (t.val % 8) + x.val; rw [i0.2]; omega
theorem read_du (G : Buf (Elt Ideal) ((c : Thread nD τ).loc main_v0_1)) (y : Fin 1024) (x : Fin 512) :
    (((cfg0.win 5).blk t).view.read (Elt Ideal) G : FVec Ideal S1024x512 .bf16) (ix2 y x) = (G : FVec Ideal S8192x4096 .bf16) (ix2 (rowOf t y) (colOf t x)) := by
  rw [View.read_apply]
  show G _ = G _
  have i0 := at5 t
  congr 1; funext a; apply Fin.ext
  match a with
  | ⟨0, _⟩ => show win0_5.index t 0 * 1024 + 1 * y.val = 1024 * (t.val / 8) + y.val; rw [i0.1]; omega
  | ⟨1, _⟩ => show win0_5.index t 1 * 512 + 1 * x.val = 512 * (t.val % 8) + x.val; rw [i0.2]; omega
end reads

section arrays
variable (g u : FVec Ideal S8192x4096 .bf16) (wd : FVec Ideal S4096x2048 .bf16) (dy : FVec Ideal S8192x2048 .f32)

/-- The gate's gradient the call leaves. -/
def outG : FVec Ideal S8192x4096 .bf16 := fun j => cellG (∑ d : Fin 2048, dy (ix2 (j 0) d) * wd (ix2 (j 1) d)) (g j) (u j)
/-- The factor's gradient the call leaves. -/
def outU : FVec Ideal S8192x4096 .bf16 := fun j => cellU (∑ d : Fin 2048, dy (ix2 (j 0) d) * wd (ix2 (j 1) d)) (g j)
end arrays

variable (m : (ℓ : Loc nD τ sig) → Buf (Elt Ideal) ℓ)

/-- The four arguments on a device. -/
abbrev argG (c : Dev nD) : FVec Ideal S8192x4096 .bf16 := m ((c : Thread nD τ).loc main_arg0)
abbrev argU (c : Dev nD) : FVec Ideal S8192x4096 .bf16 := m ((c : Thread nD τ).loc main_arg1)
abbrev argW (c : Dev nD) : FVec Ideal S4096x2048 .bf16 := m ((c : Thread nD τ).loc main_arg2)
abbrev argY (c : Dev nD) : FVec Ideal S8192x2048 .f32 := m ((c : Thread nD τ).loc main_arg3)

/-- The two blocks a point multiplies. -/
abbrev blkY (c : Dev nD) (t : Fin cfg0.N) : FVec Ideal S1024x2048 .f32 := iblk m c 0 t
abbrev blkW (c : Dev nD) (t : Fin cfg0.N) : FVec Ideal S512x2048 .bf16 := iblk m c 1 t

theorem sum_blocks (c : Dev nD) (t : Fin cfg0.N) (y : Fin 1024) (x : Fin 512) :
    (∑ d : Fin 2048, blkY m c t (ix2 y d) * blkW m c t (ix2 x d) : EReal)
      = ∑ d : Fin 2048, argY m c (ix2 (rowOf t y) d) * argW m c (ix2 (colOf t x) d) :=
  Finset.sum_congr rfl fun d _ => congrArg₂ (fun a b : EReal => a * b) (read_dy c t (m ((c : Thread nD τ).loc main_arg3)) y d) (read_wd c t (m ((c : Thread nD τ).loc main_arg2)) x d)

theorem flushed4 (c : Dev nD) (t : Fin cfg0.N) (hf : (cfg0.win 4).flush t = true) :
    (dats m 0 c).flushed 4 t = ((cfg0.win 4).blk t).view.read (Elt Ideal) (outG (argG m c) (argU m c) (argW m c) (argY m c)) := by
  rw [Value.flushed4, out4]
  funext j
  obtain ⟨y, x, rfl⟩ : ∃ (y : Fin 1024) (x : Fin 512), j = ix2 y x := ⟨_, _, eq_ix2 j⟩
  refine Eq.trans ?_ (read_dg c t (outG (argG m c) (argU m c) (argW m c) (argY m c)) y x).symm
  show cellG _ _ _ = cellG _ _ _
  have h1 := sum_blocks m c t y x
  have h2 := read_g c t (m ((c : Thread nD τ).loc main_arg0)) y x
  have h3 := read_u c t (m ((c : Thread nD τ).loc main_arg1)) y x
  exact (congrArg (fun p => cellG p _ _) h1).trans (congrArg₂ (cellG _) h2 h3)
theorem flushed5 (c : Dev nD) (t : Fin cfg0.N) (hf : (cfg0.win 5).flush t = true) :
    (dats m 0 c).flushed 5 t = ((cfg0.win 5).blk t).view.read (Elt Ideal) (outU (argG m c) (argW m c) (argY m c)) := by
  rw [Value.flushed5, out5]
  funext j
  obtain ⟨y, x, rfl⟩ : ∃ (y : Fin 1024) (x : Fin 512), j = ix2 y x := ⟨_, _, eq_ix2 j⟩
  refine Eq.trans ?_ (read_du c t (outU (argG m c) (argW m c) (argY m c)) y x).symm
  show cellU _ _ = cellU _ _
  exact congrArg₂ cellU (sum_blocks m c t y x) (read_g c t (m ((c : Thread nD τ).loc main_arg0)) y x)

theorem final4 (c : Dev nD) : (dats m 0 c).arrAt 4 cfg0.N = outG (argG m c) (argU m c) (argW m c) (argY m c) :=
  (dats m 0 c).arrAt_eq_of_cover 4 (outG (argG m c) (argU m c) (argW m c) (argY m c)) (flushed4 m c) fun i => by
    have hN : cfg0.N = 64 := N_0
    have h0 : (i 0 : ℕ) < 8192 := (i 0).isLt
    have h1 : (i 1 : ℕ) < 4096 := (i 1).isLt
    let t : Fin cfg0.N := ⟨8 * ((i 0 : ℕ) / 1024) + (i 1 : ℕ) / 512, by omega⟩
    have hv : t.val = 8 * ((i 0 : ℕ) / 1024) + (i 1 : ℕ) / 512 := rfl
    refine ⟨t, flush0_4 t, ?_⟩
    show i ∈ ((View.whole main_v0_0).slice (win0_4.rect t)).set
    rw [View.set_slice_whole, Rect.mem_set_unit]
    have i0 := at4 t
    intro a
    match a with
    | ⟨0, _⟩ => show win0_4.index t 0 * 1024 ≤ (i 0 : ℕ) ∧ (i 0 : ℕ) < win0_4.index t 0 * 1024 + 1024; rw [i0.1]; omega
    | ⟨1, _⟩ => show win0_4.index t 1 * 512 ≤ (i 1 : ℕ) ∧ (i 1 : ℕ) < win0_4.index t 1 * 512 + 512; rw [i0.2]; omega
theorem final5 (c : Dev nD) : (dats m 0 c).arrAt 5 cfg0.N = outU (argG m c) (argW m c) (argY m c) :=
  (dats m 0 c).arrAt_eq_of_cover 5 (outU (argG m c) (argW m c) (argY m c)) (flushed5 m c) fun i => by
    have hN : cfg0.N = 64 := N_0
    have h0 : (i 0 : ℕ) < 8192 := (i 0).isLt
    have h1 : (i 1 : ℕ) < 4096 := (i 1).isLt
    let t : Fin cfg0.N := ⟨8 * ((i 0 : ℕ) / 1024) + (i 1 : ℕ) / 512, by omega⟩
    have hv : t.val = 8 * ((i 0 : ℕ) / 1024) + (i 1 : ℕ) / 512 := rfl
    refine ⟨t, flush0_5 t, ?_⟩
    show i ∈ ((View.whole main_v0_1).slice (win0_5.rect t)).set
    rw [View.set_slice_whole, Rect.mem_set_unit]
    have i0 := at5 t
    intro a
    match a with
    | ⟨0, _⟩ => show win0_5.index t 0 * 1024 ≤ (i 0 : ℕ) ∧ (i 0 : ℕ) < win0_5.index t 0 * 1024 + 1024; rw [i0.1]; omega
    | ⟨1, _⟩ => show win0_5.index t 1 * 512 ≤ (i 1 : ℕ) ∧ (i 1 : ℕ) < win0_5.index t 1 * 512 + 512; rw [i0.2]; omega

end Cert.Kernel2Ideal.Gate

end
-- ==== Proof.GateAgree.lean ====
module

public import proofs.«01_k».proof.Proof.GateValue
public import proofs.«01_k».proof.Proof.Agree
public import proofs.«01_k».proof.Proof.Gen.Reference2Ideal.Run

/-! # The gated hidden layer's gradients: the call's arrays and the reference's are equal -/

@[expose] public section

set_option maxRecDepth 16384

noncomputable section

namespace Cert.Reference2Ideal.Gate

open Idealize.ShloMosaic Idealize.ShloMosaic.TcCoe Idealize.ShloMosaic.Tactic Idealize.SL.Sem
open Cert.Reference2Ideal Cert.Reference2Ideal.Gen

section terms
variable (g u : FVec Ideal S8192x4096 .bf16) (wd : FVec Ideal S4096x2048 .bf16) (dy : FVec Ideal S8192x2048 .f32)

/-- The logistic function of the gate's argument, as the reference has it. -/
def rS : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 g bitsLt_bf16_f32))))
/-- The hidden layer's gradient. -/
def rP : FVec Ideal S8192x4096 .f32 :=
  Host.dotGeneral dot_S8192x2048_S4096x2048_S8192x4096_1_1_0_0_n_n none (mulf (broadcastInDim S8192x2048 ![] bcast_S_S8192x2048 (constant S_ .f32 0x3F000000#32)) dy) (extf .f32 wd bitsLt_bf16_f32)
/-- The reference's gradient of the gate. -/
def rG : FVec Ideal S8192x4096 .bf16 :=
  truncf .bf16 (addf (mulf (mulf (rP wd dy) (extf .f32 u bitsLt_bf16_f32)) (rS g))
    (mulf (mulf (extf .f32 g bitsLt_bf16_f32) (mulf (rP wd dy) (extf .f32 u bitsLt_bf16_f32))) (mulf (rS g) (subf (broadcastInDim S8192x4096 ![] bcast_S_S8192x4096 (constant S_ .f32 0x3F800000#32)) (rS g))))) bitsLt_bf16_f32
/-- The reference's gradient of the factor. -/
def rU : FVec Ideal S8192x4096 .bf16 := truncf .bf16 (mulf (mulf (extf .f32 g bitsLt_bf16_f32) (rS g)) (rP wd dy)) bitsLt_bf16_f32

theorem rS_at (y : Fin 8192) (c : Fin 4096) : rS g (ix2 y c) = Ideal.div 1 (1 + Ideal.exp (-(g (ix2 y c)))) := by
  pointwise [rS]
theorem rP_at (y : Fin 8192) (c : Fin 4096) : rP wd dy (ix2 y c) = ∑ d : Fin 2048, (Ideal.ofBits .f32 0x3F000000#32 * dy (ix2 y d)) * wd (ix2 c d) := by
  pointwise [rP]
theorem rG_at (y : Fin 8192) (c : Fin 4096) : rG g u wd dy (ix2 y c) = rP wd dy (ix2 y c) * u (ix2 y c) * rS g (ix2 y c) + g (ix2 y c) * (rP wd dy (ix2 y c) * u (ix2 y c)) * (rS g (ix2 y c) * (1 - rS g (ix2 y c))) := by
  pointwise [rG]
theorem rU_at (y : Fin 8192) (c : Fin 4096) : rU g wd dy (ix2 y c) = g (ix2 y c) * rS g (ix2 y c) * rP wd dy (ix2 y c) := by
  pointwise [rU]
end terms

variable (m : (ℓ : Loc nD τ sig) → Buf (Elt Ideal) ℓ) (ρ : Dev nD → PrngReg)

/-- The reference's run, with its two arrays named. -/
theorem run_value : θ_run defs (onTc (τ := τ) (main (F := Ideal))) ⟨m, fun _ => 0, ρ⟩ fun r => ∀ c : Dev nD,
      r.2.mem ((c : Thread nD τ).loc main_v14) = rG (m ((c : Thread nD τ).loc main_arg0)) (m ((c : Thread nD τ).loc main_arg1)) (m ((c : Thread nD τ).loc main_arg2)) (m ((c : Thread nD τ).loc main_arg3))
      ∧ r.2.mem ((c : Thread nD τ).loc main_v15) = rU (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Value.run m ρ

/-- The reference leaves its arguments, and has no semaphores. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => (h c).2.2, sem_eq_zero_of_no_sems (by decide) r.2⟩) (Value.run m ρ)

end Cert.Reference2Ideal.Gate

namespace Cert.Gate

open Idealize.ShloMosaic Idealize.ShloMosaic.TcCoe Idealize.ShloMosaic.Tactic Idealize.SL.Sem
open Cert.Attn (coe_sum coe_sum_mul div_real)
open Cert.Kernel2Ideal.Gate (logi cellG cellU outG outU)
open Cert.Reference2Ideal.Gate (rS rP rG rU rS_at rP_at rG_at rU_at)

theorem half_eq : Ideal.ofBits .f32 0x3F000000#32 = ((1 / 2 : ℝ) : EReal) := by
  simp [Ideal.ofBits, Ideal.ieee]
  rw [← EReal.coe_mul]
  congr 1
  norm_num

/-- The logistic function of a real. -/
theorem logi_real (r : ℝ) : logi (r : EReal) = ((1 / (1 + Real.exp (-r)) : ℝ) : EReal) := by
  have hp : (1 + Real.exp (-r)) ≠ 0 := by positivity
  unfold logi
  rw [zero_sub, ← EReal.coe_neg, Ideal.exp_coe, ← EReal.coe_one, ← EReal.coe_add]
  exact div_real hp 1
theorem logi_top : logi ⊤ = 1 := by
  have h : Ideal.exp (0 - ⊤) = 0 := by rw [zero_sub, EReal.neg_top]; rfl
  rw [logi, h]
  simp [Ideal.div]
theorem logi_bot : logi ⊥ = 0 := by
  have h : Ideal.exp (0 - ⊥) = ⊤ := by rw [zero_sub, EReal.neg_bot]; rfl
  have h1 : (1 : EReal) + ⊤ = ⊤ := EReal.coe_add_top 1
  rw [logi, h, h1]
  simp [Ideal.div]

/-- The two ways of writing the gate's gradient at one entry. -/
theorem gate_eq (a u : ℝ) (g : EReal) : (a : EReal) * u * (logi g * (1 + g * (1 - logi g))) = a * u * logi g + g * (a * u) * (logi g * (1 - logi g)) := by
  induction g with
  | bot => rw [logi_bot]; simp
  | top =>
    have h : (1 : EReal) - 1 = 0 := by rw [← EReal.coe_one, ← EReal.coe_sub, sub_self, EReal.coe_zero]
    rw [logi_top, h]; simp
  | coe r =>
    rw [logi_real]
    generalize 1 / (1 + Real.exp (-r)) = s
    norm_cast
    ring

section arrays
variable {g u : FVec Ideal Cert.Kernel2Ideal.S8192x4096 .bf16} {wd : FVec Ideal Cert.Kernel2Ideal.S4096x2048 .bf16} {dy : FVec Ideal Cert.Kernel2Ideal.S8192x2048 .f32}

theorem prod_eq (hw : ∀ i, wd i = ((wd i : EReal).toReal : EReal)) (hy : ∀ i, dy i = ((dy i : EReal).toReal : EReal)) (y : Fin 8192) (c : Fin 4096) :
    ∃ a : ℝ, (∑ d : Fin 2048, dy (ix2 y d) * wd (ix2 c d) : EReal) * Ideal.ofBits .f32 0x3F000000#32 = (a : EReal) ∧ rP wd dy (ix2 y c) = (a : EReal) := by
  refine ⟨(∑ d : Fin 2048, (dy (ix2 y d) : EReal).toReal * (wd (ix2 c d) : EReal).toReal) * (1 / 2), ?_, ?_⟩
  · rw [half_eq, EReal.coe_mul, ← coe_sum_mul]
    exact congrArg (· * _) (Finset.sum_congr rfl fun d _ => congrArg₂ (fun a b : EReal => a * b) (hy _) (hw _))
  · rw [rP_at, Finset.sum_mul, coe_sum]
    refine Finset.sum_congr rfl fun d _ => ?_
    rw [half_eq, hy, hw, EReal.toReal_coe, EReal.toReal_coe, ← EReal.coe_mul, ← EReal.coe_mul]
    congr 1; ring

theorem outG_eq (hu : ∀ i, u i = ((u i : EReal).toReal : EReal)) (hw : ∀ i, wd i = ((wd i : EReal).toReal : EReal)) (hy : ∀ i, dy i = ((dy i : EReal).toReal : EReal)) :
    outG g u wd dy = rG g u wd dy := by
  funext i
  obtain ⟨y, c, rfl⟩ : ∃ (y : Fin 8192) (c : Fin 4096), i = ix2 y c := ⟨_, _, eq_ix2 i⟩
  obtain ⟨a, h1, h2⟩ := prod_eq hw hy y c
  have hs : rS g (ix2 y c) = logi (g (ix2 y c)) := by rw [rS_at, logi, zero_sub]
  rw [rG_at, h2, hs, hu]
  refine Eq.trans ?_ (gate_eq a _ _)
  show cellG _ _ _ = _
  unfold cellG
  refine congrArg (· * _) (congrArg₂ (fun a b : EReal => a * b) h1 (hu _))
theorem outU_eq (hw : ∀ i, wd i = ((wd i : EReal).toReal : EReal)) (hy : ∀ i, dy i = ((dy i : EReal).toReal : EReal)) :
    outU g wd dy = rU g wd dy := by
  funext i
  obtain ⟨y, c, rfl⟩ : ∃ (y : Fin 8192) (c : Fin 4096), i = ix2 y c := ⟨_, _, eq_ix2 i⟩
  obtain ⟨a, h1, h2⟩ := prod_eq hw hy y c
  have hs : rS g (ix2 y c) = logi (g (ix2 y c)) := by rw [rS_at, logi, zero_sub]
  rw [rU_at, h2, hs, mul_comm]
  show cellU _ _ = _
  unfold cellU
  exact congrArg (· * _) h1
end arrays

end Cert.Gate

namespace Cert.Proof

open Idealize.ShloMosaic Idealize.ShloMosaic.TcCoe Idealize.SL.Sem
open Cert.Kernel2Ideal.Gate (outG outU argG argU argW argY final4 final5)
open Cert.Reference2Ideal.Gate (rG rU)

theorem facts_finite2 : Cert.Pre_finite2.Facts := ⟨by decide, by decide, by decide, by decide⟩

/-- The call's two gradients are the reference's. -/
theorem agree2 (hF : Cert.Pre_finite2.Facts) : Cert.algebraic_Kernel2Ideal_Reference2Ideal_pre_finite2 := by
  intro m g m' g' hpre hargs
  refine ⟨fun c => outG (argG m c) (argU m c) (argW m c) (argY m c), fun c => outU (argG m c) (argW m c) (argY m c), ?_, ?_⟩
  · exact (θ_run _ _ _).mono (fun r h c => ⟨(h c).1.trans (final4 m c), (h c).2.1.trans (final5 m c), (h c).2.2⟩) (Cert.Kernel2Ideal.Value.run_blocks m g)
  refine (θ_run _ _ _).mono (fun r h c => ?_) (Cert.Reference2Ideal.Gate.run_value m' g')
  obtain ⟨e0, e1, e2, e3⟩ := hargs c
  have hu : ∀ i, argU m c i = ((argU m c i : EReal).toReal : EReal) := finite_of hF.bcast_S_S8192x4096 _ (hpre c).1
  have hw : ∀ i, argW m c i = ((argW m c i : EReal).toReal : EReal) := finite_of hF.bcast_S_S4096x2048 _ (hpre c).2.1
  have hy : ∀ i, argY m c i = ((argY m c i : EReal).toReal : EReal) := finite_of hF.bcast_S_S8192x2048 _ (hpre c).2.2
  obtain ⟨h14, h15, hrest⟩ := h c
  refine ⟨h14.trans ?_, h15.trans ?_, hrest⟩
  · exact (congr (congr (congr (congrArg rG e0) e1) e2) e3).trans (Cert.Gate.outG_eq hu hw hy).symm
  · exact (congr (congr (congrArg rU e0) e2) e3).trans (Cert.Gate.outU_eq hw hy).symm

end Cert.Proof

end
-- ==== Proof.FwdRow.lean ====
module

public import proofs.«01_k».proof.Proof.RowMath

/-! # A row's running maximum and running sums

The forward kernel reads a row's columns in runs, keeping the maximum so far, the sum of exponentials less it, and that
sum weighted by the values; a new maximum rescales the two sums. After the row's last unmasked column the three are the
row's maximum, its sum of exponentials and its weighted sum. -/

@[expose] public section

noncomputable section

namespace Cert.Attn

open Idealize.ShloMosaic

/-- A row's masked scores by column. -/
structure Line where
  w : ℕ → EReal
  real : ∀ c, w c = ⊥ ∨ ∃ r : ℝ, w c = (r : EReal)
  first : ∃ r : ℝ, w 0 = (r : EReal)

namespace Line
variable (W : Line)

/-- The maximum over the first `n` columns. -/
def mx (n : ℕ) : EReal := (Finset.range n).sup W.w
/-- The first `n` columns' exponentials less `μ`, summed. -/
def sum (μ : EReal) (n : ℕ) : EReal := ∑ c ∈ Finset.range n, Ideal.exp (W.w c - μ)
/-- The same, weighted. -/
def wsum (u : ℕ → ℝ) (μ : EReal) (n : ℕ) : EReal := ∑ c ∈ Finset.range n, Ideal.exp (W.w c - μ) * (u c : EReal)

theorem mx_zero : W.mx 0 = ⊥ := rfl

theorem mx_add (n k : ℕ) : max (W.mx n) (Finset.univ.fold max ⊥ fun x : Fin k => W.w (n + x.val)) = W.mx (n + k) := by
  show W.mx n ⊔ (Finset.univ.sup fun x : Fin k => W.w (n + x.val)) = W.mx (n + k)
  apply le_antisymm
  · refine sup_le (Finset.sup_mono (Finset.range_mono (Nat.le_add_right n k))) (Finset.sup_le fun x _ => ?_)
    exact Finset.le_sup (f := W.w) (Finset.mem_range.mpr (Nat.add_lt_add_left x.isLt n))
  · refine Finset.sup_le fun c hc => ?_
    rw [Finset.mem_range] at hc
    by_cases h : c < n
    · exact le_sup_of_le_left (Finset.le_sup (f := W.w) (Finset.mem_range.mpr h))
    · refine le_sup_of_le_right ?_
      have e : W.w c = (fun x : Fin k => W.w (n + x.val)) ⟨c - n, by omega⟩ := by
        show W.w c = W.w (n + (c - n))
        congr 1
        omega
      rw [e]
      exact Finset.le_sup (f := fun x : Fin k => W.w (n + x.val)) (Finset.mem_univ _)

theorem sum_add (μ : EReal) (n k : ℕ) : W.sum μ n + ∑ x : Fin k, Ideal.exp (W.w (n + x.val) - μ) = W.sum μ (n + k) := by
  unfold sum
  rw [Finset.sum_range_add, Finset.sum_range (n := k)]

theorem wsum_add (u : ℕ → ℝ) (μ : EReal) (n k : ℕ) :
    W.wsum u μ n + ∑ x : Fin k, Ideal.exp (W.w (n + x.val) - μ) * (u (n + x.val) : EReal) = W.wsum u μ (n + k) := by
  unfold wsum
  rw [Finset.sum_range_add, Finset.sum_range (n := k)]

theorem mx_real {n : ℕ} (h : 0 < n) : W.mx n = ((W.mx n).toReal : EReal) := by
  refine (EReal.coe_toReal ?_ ?_).symm
  · refine ne_of_lt ((Finset.sup_lt_iff bot_lt_top).mpr fun c _ => ?_)
    rcases W.real c with e | ⟨r, e⟩ <;> rw [e]
    · exact bot_lt_top
    · exact EReal.coe_lt_top _
  · refine ne_of_gt (lt_of_lt_of_le ?_ (Finset.le_sup (f := W.w) (Finset.mem_range.mpr h)))
    obtain ⟨r, e⟩ := W.first
    rw [e]
    exact EReal.bot_lt_coe _

/-- A column's exponential less a real number. -/
def ex (μ : ℝ) (c : ℕ) : ℝ := (Ideal.exp (W.w c - (μ : EReal)) : EReal).toReal

theorem ex_eq (μ : ℝ) (c : ℕ) : Ideal.exp (W.w c - (μ : EReal)) = (W.ex μ c : EReal) := by
  unfold ex
  rcases W.real c with e | ⟨r, e⟩ <;> rw [e]
  · rw [EReal.bot_sub, Ideal.exp_bot, EReal.toReal_zero, EReal.coe_zero]
  · rw [← EReal.coe_sub, Ideal.exp_coe, EReal.toReal_coe]

theorem ex_shift (μ ν : ℝ) (c : ℕ) : Real.exp (μ - ν) * W.ex μ c = W.ex ν c := by
  unfold ex
  rcases W.real c with e | ⟨r, e⟩ <;> rw [e]
  · rw [EReal.bot_sub, EReal.bot_sub, Ideal.exp_bot, EReal.toReal_zero, mul_zero]
  · rw [← EReal.coe_sub, ← EReal.coe_sub, Ideal.exp_coe, Ideal.exp_coe, EReal.toReal_coe, EReal.toReal_coe, ← Real.exp_add]
    congr 1
    ring

theorem sum_real (μ : ℝ) (n : ℕ) : W.sum (μ : EReal) n = ((∑ c ∈ Finset.range n, W.ex μ c : ℝ) : EReal) := by
  rw [coe_sum]
  exact Finset.sum_congr rfl fun c _ => W.ex_eq μ c
theorem wsum_real (u : ℕ → ℝ) (μ : ℝ) (n : ℕ) : W.wsum u (μ : EReal) n = ((∑ c ∈ Finset.range n, W.ex μ c * u c : ℝ) : EReal) := by
  rw [← coe_sum_mul]
  exact Finset.sum_congr rfl fun c _ => by rw [W.ex_eq]

/-- Rescaling the sum to a later maximum. -/
theorem sum_scale {n n' : ℕ} (h' : 0 < n') : Ideal.exp (W.mx n - W.mx n') * W.sum (W.mx n) n = W.sum (W.mx n') n := by
  rcases Nat.eq_zero_or_pos n with rfl | h
  · show _ * (0 : EReal) = 0
    rw [mul_zero]
  · rw [W.mx_real h, W.mx_real h', sum_real, sum_real, ← EReal.coe_sub, Ideal.exp_coe, ← EReal.coe_mul, Finset.mul_sum]
    exact congrArg _ (Finset.sum_congr rfl fun c _ => W.ex_shift _ _ c)
theorem wsum_scale (u : ℕ → ℝ) {n n' : ℕ} (h' : 0 < n') : Ideal.exp (W.mx n - W.mx n') * W.wsum u (W.mx n) n = W.wsum u (W.mx n') n := by
  rcases Nat.eq_zero_or_pos n with rfl | h
  · show _ * (0 : EReal) = 0
    rw [mul_zero]
  · rw [W.mx_real h, W.mx_real h', wsum_real, wsum_real, ← EReal.coe_sub, Ideal.exp_coe, ← EReal.coe_mul, Finset.mul_sum]
    exact congrArg _ (Finset.sum_congr rfl fun c _ => by rw [← mul_assoc, W.ex_shift])

/-- Columns that are all masked change none of the three. -/
theorem mx_rest {n N : ℕ} (h : n ≤ N) (hw : ∀ c, n ≤ c → W.w c = ⊥) : W.mx N = W.mx n := by
  apply le_antisymm
  · refine Finset.sup_le fun c _ => ?_
    by_cases hc : c < n
    · exact Finset.le_sup (f := W.w) (Finset.mem_range.mpr hc)
    · rw [hw c (not_lt.mp hc)]
      exact bot_le
  · exact Finset.sup_mono (Finset.range_mono h)
theorem sum_rest {n N : ℕ} (μ : ℝ) (h : n ≤ N) (hw : ∀ c, n ≤ c → W.w c = ⊥) : W.sum (μ : EReal) N = W.sum (μ : EReal) n := by
  refine (Finset.sum_subset (Finset.range_mono h) fun c _ hc => ?_).symm
  rw [hw c (by simpa using hc), EReal.bot_sub, Ideal.exp_bot]
theorem wsum_rest {n N : ℕ} (u : ℕ → ℝ) (μ : ℝ) (h : n ≤ N) (hw : ∀ c, n ≤ c → W.w c = ⊥) :
    W.wsum u (μ : EReal) N = W.wsum u (μ : EReal) n := by
  refine (Finset.sum_subset (Finset.range_mono h) fun c _ hc => ?_).symm
  rw [hw c (by simpa using hc), EReal.bot_sub, Ideal.exp_bot, zero_mul]

end Line

namespace Real'
variable (R : Real') (y : Fin 8192)

/-- Row `y`'s masked scores. -/
def line : Line where
  w c := if h : c < 8192 then R.M y ⟨c, h⟩ else ⊥
  real c := by
    unfold M
    split_ifs
    · exact Or.inr ⟨_, rfl⟩
    · exact Or.inl rfl
    · exact Or.inl rfl
  first := by
    rw [dif_pos (by norm_num)]
    unfold M
    rw [if_pos (show (⟨0, by norm_num⟩ : Fin 8192) ≤ y from Nat.zero_le _)]
    exact ⟨_, rfl⟩
/-- Column `e` of the values. -/
def val (e : Fin 128) (c : ℕ) : ℝ := if h : c < 8192 then R.v ⟨c, h⟩ e else 0

theorem line_of_lt {c : ℕ} (h : c < 8192) : (R.line y).w c = R.M y ⟨c, h⟩ := dif_pos h
theorem line_after {c : ℕ} (h : y.val < c) : (R.line y).w c = ⊥ := by
  show (if h : c < 8192 then R.M y ⟨c, h⟩ else ⊥) = ⊥
  split_ifs
  · exact if_neg (not_le.mpr h)
  · rfl
theorem val_of_lt (e : Fin 128) {c : ℕ} (h : c < 8192) : R.val e c = R.v ⟨c, h⟩ e := dif_pos h

theorem line_all : (R.line y).mx 8192 = R.top y := by
  show (Finset.range 8192).sup (R.line y).w = Finset.univ.sup fun c : Fin 8192 => R.M y c
  apply le_antisymm
  · refine Finset.sup_le fun c hc => ?_
    rw [R.line_of_lt y (Finset.mem_range.mp hc)]
    exact Finset.le_sup (f := fun c : Fin 8192 => R.M y c) (Finset.mem_univ _)
  · refine Finset.sup_le fun c _ => ?_
    refine le_of_eq_of_le ?_ (Finset.le_sup (f := (R.line y).w) (Finset.mem_range.mpr c.isLt))
    exact (R.line_of_lt y c.isLt).symm

/-- After all unmasked columns the running maximum is the row's. -/
theorem line_mx {n : ℕ} (hy : y.val < n) (hn : n ≤ 8192) : (R.line y).mx n = R.top y := by
  rw [← line_all]
  exact ((R.line y).mx_rest hn fun c hc => R.line_after y (lt_of_lt_of_le hy hc)).symm
theorem line_sum {n : ℕ} (hy : y.val < n) (hn : n ≤ 8192) : (R.line y).sum ((R.line y).mx n) n = (R.L y : EReal) := by
  rw [R.line_mx y hy hn, top_eq, ← (R.line y).sum_rest _ hn fun c hc => R.line_after y (lt_of_lt_of_le hy hc), ← L_eq, Line.sum, Finset.sum_range, top_eq]
  exact Finset.sum_congr rfl fun c _ => by rw [R.line_of_lt y c.isLt]
theorem line_wsum (e : Fin 128) {n : ℕ} (hy : y.val < n) (hn : n ≤ 8192) :
    (R.line y).wsum (R.val e) ((R.line y).mx n) n = ((∑ c : Fin 8192, R.E y c * R.v c e : ℝ) : EReal) := by
  rw [R.line_mx y hy hn, top_eq, ← (R.line y).wsum_rest _ _ hn fun c hc => R.line_after y (lt_of_lt_of_le hy hc), ← coe_sum_mul, Line.wsum, Finset.sum_range]
  refine Finset.sum_congr rfl fun c _ => ?_
  rw [R.line_of_lt y c.isLt, R.val_of_lt e c.isLt, ← top_eq, E_eq]

/-- The weighted sum over the sum is the row's output. -/
theorem out_eq (e : Fin 128) : Ideal.div ((∑ c : Fin 8192, R.E y c * R.v c e : ℝ) : EReal) (R.L y : EReal) = ((∑ c : Fin 8192, R.p y c * R.v c e : ℝ) : EReal) := by
  rw [div_real (R.L_pos y).ne', Finset.sum_div]
  exact congrArg _ (Finset.sum_congr rfl fun c _ => by unfold p; ring)

end Real'

end Cert.Attn

end
-- ==== Proof.FwdBlock.lean ====
module

public import proofs.«01_k».proof.Proof.FwdRow
public import proofs.«01_k».proof.Proof.Gen.Kernel3Ideal.Skeleton
public import Idealize.ShloMosaic.Lib.Pointwise
public import Idealize.ShloMosaic.Lib.WordCmp

/-! # One tile of the forward kernel

A tile is a list of runs of 256 columns, each with its masked scores and its values. The three scratch arrays step over
the list: the maximum first, then, rescaled to it, the two sums. -/

@[expose] public section

set_option maxRecDepth 16384

noncomputable section

namespace Cert.Kernel3Ideal.Fwd

open Idealize.ShloMosaic Idealize.ShloMosaic.TcCoe Idealize.ShloMosaic.Tactic
open Cert.Kernel3Ideal Cert.Kernel3Ideal.Gen Cert.Attn

/-- A run's scores and values. -/
structure Chunk where
  s : FVec Ideal S1024x256 .f32
  v : FVec Ideal S1x256x128 .bf16

/-- The maximum over one more run. -/
def rowMax (m : FVec Ideal S1024x1 .f32) (s : FVec Ideal S1024x256 .f32) : FVec Ideal S1024x1 .f32 :=
  maximumf m (shapeCast S1024x1 (multiReduction .maximumf [1] S1024 s 0xFF800000#32 reduces_S1024x256_S1024 (.inl rfl) rfl) shapeCasts_S1024_S1024x1)
/-- A run's exponentials. -/
def expOf (m : FVec Ideal S1024x1 .f32) (s : FVec Ideal S1024x256 .f32) : FVec Ideal S1024x256 .f32 :=
  exp (subf s (broadcastTo S1024x256 m broadcasts_S1024x1_S1024x256))
/-- The sum over one more run. -/
def rowSum (m l : FVec Ideal S1024x1 .f32) (s : FVec Ideal S1024x256 .f32) : FVec Ideal S1024x1 .f32 :=
  addf l (shapeCast S1024x1 (multiReduction .add [1] S1024 (expOf m s) 0x00000000#32 reduces_S1024x256_S1024 (.inl rfl) rfl) shapeCasts_S1024_S1024x1)
/-- The weighted sum over one more run. -/
def rowAcc (m : FVec Ideal S1024x1 .f32) (a : FVec Ideal S1024x128 .f32) (c : Chunk) : FVec Ideal S1024x128 .f32 :=
  addf a (matmul dot_S1024x256_S256x128_S1024x128_1_0_0_1_n_n none (truncf .bf16 (expOf m c.s) bitsLt_bf16_f32)
    (shapeCast S256x128 c.v shapeCasts_S1x256x128_S256x128) (constant S1024x128 .f32 0x00000000#32))

/-- The three scratch arrays. -/
structure State where
  m : FVec Ideal S1024x1 .f32
  l : FVec Ideal S1024x1 .f32
  a : FVec Ideal S1024x128 .f32

def mNew (m : FVec Ideal S1024x1 .f32) (cs : List Chunk) : FVec Ideal S1024x1 .f32 := cs.foldl (fun m c => rowMax m c.s) m
/-- The rescaling factors. -/
def scale (m m' : FVec Ideal S1024x1 .f32) : FVec Ideal S1024x1 .f32 := exp (subf m m')
/-- The state after a tile. -/
def State.next (σ : State) (cs : List Chunk) : State where
  m := mNew σ.m cs
  l := cs.foldl (fun l c => rowSum (mNew σ.m cs) l c.s) (mulf (scale σ.m (mNew σ.m cs)) σ.l)
  a := cs.foldl (rowAcc (mNew σ.m cs)) (mulf (broadcastTo S1024x128 (scale σ.m (mNew σ.m cs)) broadcasts_S1024x1_S1024x128) σ.a)

/-! ## Element by element -/

theorem low : Ideal.ofBits .f32 0xFF800000#32 = ⊥ := by
  simp [Ideal.ofBits, Ideal.ieee]

theorem rowMax_at (m : FVec Ideal S1024x1 .f32) (s : FVec Ideal S1024x256 .f32) (y : Fin 1024) :
    rowMax m s (ix2 y 0) = max (m (ix2 y 0)) (Finset.univ.fold max ⊥ fun x : Fin 256 => s (ix2 y x)) := by
  pointwise [rowMax]
  rw [low]
theorem expOf_at (m : FVec Ideal S1024x1 .f32) (s : FVec Ideal S1024x256 .f32) (y : Fin 1024) (x : Fin 256) :
    expOf m s (ix2 y x) = Ideal.exp (s (ix2 y x) - m (ix2 y 0)) := by
  pointwise [expOf]
theorem rowSum_at (m l : FVec Ideal S1024x1 .f32) (s : FVec Ideal S1024x256 .f32) (y : Fin 1024) :
    rowSum m l s (ix2 y 0) = l (ix2 y 0) + ∑ x : Fin 256, Ideal.exp (s (ix2 y x) - m (ix2 y 0)) := by
  pointwise [rowSum, expOf]
theorem rowAcc_at (m : FVec Ideal S1024x1 .f32) (a : FVec Ideal S1024x128 .f32) (c : Chunk) (y : Fin 1024) (e : Fin 128) :
    rowAcc m a c (ix2 y e) = a (ix2 y e) + ∑ x : Fin 256, Ideal.exp (c.s (ix2 y x) - m (ix2 y 0)) * c.v (ix3 0 x e) := by
  pointwise [rowAcc, expOf]
theorem scale_at (m m' : FVec Ideal S1024x1 .f32) (y : Fin 1024) : scale m m' (ix2 y 0) = Ideal.exp (m (ix2 y 0) - m' (ix2 y 0)) := by
  pointwise [scale]

/-! ## Over a row -/

/-- The runs hold columns `n`, `n + 256`, … of each row. -/
def Holds (W : Fin 1024 → Line) (u : Fin 128 → ℕ → ℝ) : ℕ → List Chunk → Prop
  | _, [] => True
  | n, c :: cs => (∀ y (x : Fin 256), c.s (ix2 y x) = (W y).w (n + x.val)) ∧ (∀ (x : Fin 256) e, c.v (ix3 0 x e) = (u e (n + x.val) : EReal)) ∧ Holds W u (n + 256) cs

/-- The state is the rows' after `n` columns. -/
structure After (W : Fin 1024 → Line) (u : Fin 128 → ℕ → ℝ) (n : ℕ) (σ : State) : Prop where
  m : ∀ y, σ.m (ix2 y 0) = (W y).mx n
  l : ∀ y, σ.l (ix2 y 0) = (W y).sum ((W y).mx n) n
  a : ∀ y e, σ.a (ix2 y e) = (W y).wsum (u e) ((W y).mx n) n

variable {W : Fin 1024 → Line} {u : Fin 128 → ℕ → ℝ}

theorem mNew_at : ∀ (cs : List Chunk) (n : ℕ) (m : FVec Ideal S1024x1 .f32), Holds W u n cs → (∀ y, m (ix2 y 0) = (W y).mx n) →
    ∀ y, mNew m cs (ix2 y 0) = (W y).mx (n + 256 * cs.length)
  | [], n, m, _, hm, y => hm y
  | c :: cs, n, m, h, hm, y => by
    have e := mNew_at cs (n + 256) (rowMax m c.s) h.2.2 (fun y => by
      rw [rowMax_at, hm y, ← (W y).mx_add n 256]
      congr 2
      funext x
      exact h.1 y x) y
    rw [List.length_cons, show n + 256 * (cs.length + 1) = n + 256 + 256 * cs.length by ring]
    exact e

theorem sum_at (m : FVec Ideal S1024x1 .f32) (y : Fin 1024) : ∀ (cs : List Chunk) (n : ℕ) (l : FVec Ideal S1024x1 .f32), Holds W u n cs →
    l (ix2 y 0) = (W y).sum (m (ix2 y 0)) n →
    cs.foldl (fun l c => rowSum m l c.s) l (ix2 y 0) = (W y).sum (m (ix2 y 0)) (n + 256 * cs.length)
  | [], n, l, _, hl => hl
  | c :: cs, n, l, h, hl => by
    have e := sum_at m y cs (n + 256) (rowSum m l c.s) h.2.2 (by
      rw [rowSum_at, hl, ← (W y).sum_add _ n 256]
      exact congrArg _ (Finset.sum_congr rfl fun x _ => by rw [h.1 y x]))
    rw [List.length_cons, show n + 256 * (cs.length + 1) = n + 256 + 256 * cs.length by ring]
    exact e

theorem acc_at (m : FVec Ideal S1024x1 .f32) (y : Fin 1024) (f : Fin 128) : ∀ (cs : List Chunk) (n : ℕ) (a : FVec Ideal S1024x128 .f32), Holds W u n cs →
    a (ix2 y f) = (W y).wsum (u f) (m (ix2 y 0)) n →
    cs.foldl (rowAcc m) a (ix2 y f) = (W y).wsum (u f) (m (ix2 y 0)) (n + 256 * cs.length)
  | [], n, a, _, ha => ha
  | c :: cs, n, a, h, ha => by
    have e := acc_at m y f cs (n + 256) (rowAcc m a c) h.2.2 (by
      rw [rowAcc_at, ha, ← (W y).wsum_add _ _ n 256]
      exact congrArg _ (Finset.sum_congr rfl fun x _ => by rw [h.1 y x, h.2.1 x f]))
    rw [List.length_cons, show n + 256 * (cs.length + 1) = n + 256 + 256 * cs.length by ring]
    exact e

/-- A tile takes the rows' state over its columns. -/
theorem After.next {n : ℕ} {σ : State} (H : After W u n σ) {cs : List Chunk} (h : Holds W u n cs) (hc : 0 < cs.length) :
    After W u (n + 256 * cs.length) (σ.next cs) := by
  have hm := mNew_at cs n σ.m h H.m
  have hn : 0 < n + 256 * cs.length := by omega
  refine ⟨hm, fun y => ?_, fun y e => ?_⟩
  · rw [← hm y]
    refine sum_at (mNew σ.m cs) y cs n _ h ?_
    show scale σ.m (mNew σ.m cs) (ix2 y 0) * σ.l (ix2 y 0) = _
    rw [scale_at, hm y, H.m y, H.l y, (W y).sum_scale hn]
  · rw [← hm y]
    refine acc_at (mNew σ.m cs) y e cs n _ h ?_
    have hb : (mulf (broadcastTo S1024x128 (scale σ.m (mNew σ.m cs)) broadcasts_S1024x1_S1024x128) σ.a) (ix2 y e)
        = scale σ.m (mNew σ.m cs) (ix2 y 0) * σ.a (ix2 y e) := by pointwise
    rw [hb, scale_at, hm y, H.m y, H.a y e, (W y).wsum_scale (u e) hn]

/-! ## The state before the first tile -/

theorem mask : Named.named (F := Ideal) κ "mask" (φ := .f32) 0xF149F2CA#32 = ⊥ :=
  IdealRules.named_const.ideal_named_scalar _ _ _ _ rfl

/-- The state the first point starts from. -/
def State.zero : State := ⟨k0_pay1 (F := Ideal), k0_pay2 (F := Ideal), k0_pay3 (F := Ideal)⟩

theorem After.zero : After W u 0 State.zero := by
  refine ⟨fun y => ?_, fun y => ?_, fun y e => ?_⟩
  · show k0_pay1 (F := Ideal) (ix2 y 0) = ⊥
    pointwise [k0_pay1]
    exact mask
  · show k0_pay2 (F := Ideal) (ix2 y 0) = 0
    pointwise [k0_pay2]
  · show k0_pay3 (F := Ideal) (ix2 y e) = 0
    pointwise [k0_pay3]

/-! ## A run's scores -/

/-- The plain scores. -/
def dotOf (q : FVec Ideal S1x1024x192 .bf16) (k : FVec Ideal S1x256x192 .bf16) : FVec Ideal S1024x256 .f32 :=
  matmul dot_S1024x192_S256x192_S1024x256_1_1_0_0_n_n none (shapeCast S1024x192 q shapeCasts_S1x1024x192_S1024x192)
    (shapeCast S256x192 k shapeCasts_S1x256x192_S256x192) (constant S1024x256 .f32 0x00000000#32)
/-- The scores masked where row `r + y` stands before column `o + x`. -/
def maskOf (r o : BitVec 32) (s : FVec Ideal S1024x256 .f32) : FVec Ideal S1024x256 .f32 :=
  select (cmpi .sge (addi (iota .tc S1024x256 32 [0] iota_S1024x256_d0_w32) (broadcast S1024x256 r))
    (addi (iota .tc S1024x256 32 [1] iota_S1024x256_d1_w32) (broadcast S1024x256 o))) s
    (broadcast S1024x256 (Named.named (F := Ideal) κ "mask" (φ := .f32) 0xF149F2CA#32))

theorem dotOf_at (q : FVec Ideal S1x1024x192 .bf16) (k : FVec Ideal S1x256x192 .bf16) (y : Fin 1024) (x : Fin 256) :
    dotOf q k (ix2 y x) = ∑ d : Fin 192, q (ix3 0 y d) * k (ix3 0 x d) := by
  pointwise [dotOf]
theorem maskOf_at {r o : ℕ} (hr : r < 2048) (ho : o < 2048) (s : FVec Ideal S1024x256 .f32) (y : Fin 1024) (x : Fin 256) :
    maskOf (BitVec.ofNat 32 r) (BitVec.ofNat 32 o) s (ix2 y x) = if o + x.val ≤ r + y.val then s (ix2 y x) else ⊥ := by
  pointwise [maskOf]
  rw [mask, show IntOp.addi (BitVec.ofNat 32 y.val) (BitVec.ofNat 32 r) = BitVec.ofNat 32 (y.val + r) from (BitVec.ofNat_add ..).symm,
    show IntOp.addi (BitVec.ofNat 32 x.val) (BitVec.ofNat 32 o) = BitVec.ofNat 32 (x.val + o) from (BitVec.ofNat_add ..).symm,
    WordCmp.cmpi_sge_ofNat (by omega) (by omega)]
  pointwise
  by_cases h : o + x.val ≤ r + y.val
  · rw [if_pos h, if_pos (by omega)]
  · rw [if_neg h, if_neg (by omega)]

end Cert.Kernel3Ideal.Fwd

end
-- ==== Proof.FwdTile.lean ====
module

public import proofs.«01_k».proof.Proof.FwdBlock
public import proofs.«01_k».proof.Proof.Gen.Kernel3Ideal.Frame
public import Idealize.ShloMosaic.Lib.VecWindow

/-! # What a point of the forward kernel leaves

Every case that works on a tile leaves the next state of the scratch arrays, over the tile's runs of columns. -/

@[expose] public section

set_option maxRecDepth 16384

noncomputable section

namespace Cert.Kernel3Ideal.Fwd

open Idealize.ShloMosaic Idealize.ShloMosaic.TcCoe Idealize.ShloMosaic.Tactic
open Cert.Kernel3Ideal Cert.Kernel3Ideal.Gen Cert.Attn

/-! ## The tile's runs -/

def qOf (q : Vec Ideal S1x1024x192 .bf16) : Vec Ideal S1x1024x192 .bf16 :=
  View.ld (Val := Elt Ideal) q (Rect.unit (s := S1x1024x192) ![0, 0, 0] S1x1024x192.size (by decide))
def kOf (k : Vec Ideal S1x2048x192 .bf16) (a : Fin 8) : Vec Ideal S1x256x192 .bf16 :=
  View.ld (Val := Elt Ideal) k (Rect.unit (s := S1x2048x192) ![0, 256 * a.val, 0] S1x256x192.size (by revert a; decide))
def vOf (v : Vec Ideal S1x2048x128 .bf16) (a : Fin 8) : Vec Ideal S1x256x128 .bf16 :=
  View.ld (Val := Elt Ideal) v (Rect.unit (s := S1x2048x128) ![0, 256 * a.val, 0] S1x256x128.size (by revert a; decide))

/-- A run whose columns all stand at or before every row. -/
def raw (q : Vec Ideal S1x1024x192 .bf16) (k : Vec Ideal S1x2048x192 .bf16) (v : Vec Ideal S1x2048x128 .bf16) (a : Fin 8) : Chunk :=
  ⟨dotOf (qOf q) (kOf k a), vOf v a⟩
/-- A run on the diagonal, the rows starting `r` after the tile's first column. -/
def cutAt (r : ℕ) (q : Vec Ideal S1x1024x192 .bf16) (k : Vec Ideal S1x2048x192 .bf16) (v : Vec Ideal S1x2048x128 .bf16) (a : Fin 8) : Chunk :=
  ⟨maskOf (BitVec.ofNat 32 r) (BitVec.ofNat 32 (256 * a.val)) (dotOf (qOf q) (kOf k a)), vOf v a⟩

/-- A tile below the diagonal. -/
def below (q : Vec Ideal S1x1024x192 .bf16) (k : Vec Ideal S1x2048x192 .bf16) (v : Vec Ideal S1x2048x128 .bf16) : List Chunk :=
  [raw q k v 0, raw q k v 1, raw q k v 2, raw q k v 3, raw q k v 4, raw q k v 5, raw q k v 6, raw q k v 7]
/-- The tile on the diagonal, for an even block of rows. -/
def edge (q : Vec Ideal S1x1024x192 .bf16) (k : Vec Ideal S1x2048x192 .bf16) (v : Vec Ideal S1x2048x128 .bf16) : List Chunk :=
  [cutAt 0 q k v 0, cutAt 0 q k v 1, cutAt 0 q k v 2, cutAt 0 q k v 3]
/-- The tile on the diagonal, for an odd block of rows. -/
def edge1 (q : Vec Ideal S1x1024x192 .bf16) (k : Vec Ideal S1x2048x192 .bf16) (v : Vec Ideal S1x2048x128 .bf16) : List Chunk :=
  [raw q k v 0, raw q k v 1, raw q k v 2, raw q k v 3, cutAt 1024 q k v 4, cutAt 1024 q k v 5, cutAt 1024 q k v 6, cutAt 1024 q k v 7]

/-! ## The cases -/

/-- The scratch arrays of a point's outcome. -/
def stateOf {α β : Type} (o : α × β × FVec Ideal S1024x1 .f32 × FVec Ideal S1024x1 .f32 × FVec Ideal S1024x128 .f32) : State := ⟨o.2.2.1, o.2.2.2.1, o.2.2.2.2⟩

variable (c : Dev nD) (i : grid0.Coords) (arg3 : Memref sig .tc .vmem S1x1024x192 .bf16) (harg3 : arg3.IsWhole) (arg4 : Memref sig .tc .vmem S1x2048x192 .bf16) (harg4 : arg4.IsWhole) (arg5 : Memref sig .tc .vmem S1x2048x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
  (x0 : Vec Ideal S1x1024x192 .bf16) (x1 : Vec Ideal S1x2048x192 .bf16) (x2 : Vec Ideal S1x2048x128 .bf16) (xs0 xs1 : Vec Ideal S1024x1 .f32) (xs2 : Vec Ideal S1024x128 .f32)

/-- The state a first point loads back. -/
def fresh : State :=
  ⟨arg8.view.readCov (Val := Elt Ideal) [⟨Rect.unit (s := S1024x1) ![0, 0] S1024x1.size (by decide), k0_pay1 (F := Ideal)⟩] (Rect.unit (s := S1024x1) ![0, 0] S1024x1.size (by decide)).toLoadRect,
    arg9.view.readCov (Val := Elt Ideal) [⟨Rect.unit (s := S1024x1) ![0, 0] S1024x1.size (by decide), k0_pay2 (F := Ideal)⟩] (Rect.unit (s := S1024x1) ![0, 0] S1024x1.size (by decide)).toLoadRect,
    arg10.view.readCov (Val := Elt Ideal) [⟨Rect.unit (s := S1024x128) ![0, 0] S1024x128.size (by decide), k0_pay3 (F := Ideal)⟩] (Rect.unit (s := S1024x128) ![0, 0] S1024x128.size (by decide)).toLoadRect⟩
theorem fresh_eq : fresh arg8 arg9 arg10 = State.zero := by
  unfold fresh State.zero
  rw [View.readCov_full, View.readCov_full, View.readCov_full]

/-- The state a later point loads back. -/
def held : State :=
  ⟨arg8.view.readAt (Elt Ideal) (Rect.unit (s := S1024x1) ![0, 0] S1024x1.size (by decide)).toLoadRect (harg8.unread xs0),
    arg9.view.readAt (Elt Ideal) (Rect.unit (s := S1024x1) ![0, 0] S1024x1.size (by decide)).toLoadRect (harg9.unread xs1),
    arg10.view.readAt (Elt Ideal) (Rect.unit (s := S1024x128) ![0, 0] S1024x128.size (by decide)).toLoadRect (harg10.unread xs2)⟩
theorem held_eq : held arg8 harg8 arg9 harg9 arg10 harg10 xs0 xs1 xs2 = ⟨xs0, xs1, xs2⟩ := by
  unfold held
  rw [View.readAt_full, View.readAt_full, View.readAt_full, harg8.read_unread, harg9.read_unread, harg10.read_unread]

theorem next_fresh (B : Vec Ideal S1x1024x192 .bf16 → Vec Ideal S1x2048x192 .bf16 → Vec Ideal S1x2048x128 .bf16 → List Chunk) :
    (fresh arg8 arg9 arg10).next (B (arg3.view.read (Elt Ideal) (harg3.unread x0)) (arg4.view.read (Elt Ideal) (harg4.unread x1)) (arg5.view.read (Elt Ideal) (harg5.unread x2)))
      = State.zero.next (B x0 x1 x2) := by
  rw [fresh_eq, harg3.read_unread, harg4.read_unread, harg5.read_unread]
theorem next_held (B : Vec Ideal S1x1024x192 .bf16 → Vec Ideal S1x2048x192 .bf16 → Vec Ideal S1x2048x128 .bf16 → List Chunk) :
    (held arg8 harg8 arg9 harg9 arg10 harg10 xs0 xs1 xs2).next (B (arg3.view.read (Elt Ideal) (harg3.unread x0)) (arg4.view.read (Elt Ideal) (harg4.unread x1)) (arg5.view.read (Elt Ideal) (harg5.unread x2)))
      = State.next ⟨xs0, xs1, xs2⟩ (B x0 x1 x2) := by
  rw [held_eq, harg3.read_unread, harg4.read_unread, harg5.read_unread]

/-- The piece that stores a column, or the sums, whole. -/
def col (w : FVec Ideal S1024x1 .f32) : View.Piece (Elt Ideal) S1024x1 .f32 := ⟨Rect.unit (s := S1024x1) ![0, 0] S1024x1.size (by decide), w⟩
def mat (w : FVec Ideal S1024x128 .f32) : View.Piece (Elt Ideal) S1024x128 .f32 := ⟨Rect.unit (s := S1024x128) ![0, 0] S1024x128.size (by decide), w⟩
def res (w : FVec Ideal S1x1024x128 .f32) : View.Piece (Elt Ideal) S1x1024x128 .f32 := ⟨Rect.unit (s := S1x1024x128) ![0, 0, 0] S1x1024x128.size (by decide), w⟩
/-- The same column, or sums, stored. -/
def same1 (w : FVec Ideal S1024x1 .f32) : FVec Ideal S1024x1 .f32 := shapeCast S1024x1 w shapeCasts_S1024x1_S1024x1
def same2 (w : FVec Ideal S1024x128 .f32) : FVec Ideal S1024x128 .f32 := shapeCast S1024x128 w shapeCasts_S1024x128_S1024x128

/-- Stores of a whole state leave it. -/
theorem stored {σ σ' : State} (h : σ = σ') {L0 L1 T0 T1 : List (View.Piece (Elt Ideal) S1024x1 .f32)} {L2 T2 : List (View.Piece (Elt Ideal) S1024x128 .f32)}
    (e : L0 = col (same1 σ.m) :: T0 ∧ L1 = col (same1 σ.l) :: T1 ∧ L2 = mat (same2 σ.a) :: T2) :
    (⟨VS0_0.read (Elt Ideal) (VS0_0.writes (Elt Ideal) VS0_0.junk L0), VS0_1.read (Elt Ideal) (VS0_1.writes (Elt Ideal) VS0_1.junk L1),
      VS0_2.read (Elt Ideal) (VS0_2.writes (Elt Ideal) VS0_2.junk L2)⟩ : State) = σ' := by
  unfold same1 same2 col mat at e
  rw [← h, e.1, e.2.1, e.2.2, View.read_writes_full VS0_0, View.read_writes_full VS0_1, View.read_writes_full VS0_2, shapeCast_self, shapeCast_self, shapeCast_self]

theorem case_A (hc0 : cond0_0 i) (hc1 : ¬cond0_1 i) (hc2 : cond0_2 i) (hc3 : ¬cond0_3 i) (hc4 : ¬cond0_4 i) :
    (⟨sout0_A_0 c i arg3 harg3 arg4 harg4 arg5 harg5 arg6 harg6 arg7 harg7 arg8 harg8 arg9 harg9 arg10 harg10 hc0 hc1 hc2 hc3 hc4 x0 x1 x2, sout0_A_1 c i arg3 harg3 arg4 harg4 arg5 harg5 arg6 harg6 arg7 harg7 arg8 harg8 arg9 harg9 arg10 harg10 hc0 hc1 hc2 hc3 hc4 x0 x1 x2, sout0_A_2 c i arg3 harg3 arg4 harg4 arg5 harg5 arg6 harg6 arg7 harg7 arg8 harg8 arg9 harg9 arg10 harg10 hc0 hc1 hc2 hc3 hc4 x0 x1 x2⟩ : State) = State.next State.zero (edge x0 x1 x2) :=
  stored (next_fresh arg3 harg3 arg4 harg4 arg5 harg5 arg8 arg9 arg10 x0 x1 x2 edge)
    (T0 := [col (k0_pay1 (F := Ideal))]) (T1 := [col (k0_pay2 (F := Ideal))]) (T2 := [mat (k0_pay3 (F := Ideal))]) (by
      refine ⟨?_, ?_, ?_⟩ <;> sl_kernel_rfl)
theorem case_D (hc0 : cond0_0 i) (hc1 : ¬cond0_1 i) (hc2 : ¬cond0_2 i) (hc3 : cond0_3 i) (hc4 : ¬cond0_4 i) :
    (⟨sout0_D_0 c i arg3 harg3 arg4 harg4 arg5 harg5 arg6 harg6 arg7 harg7 arg8 harg8 arg9 harg9 arg10 harg10 hc0 hc1 hc2 hc3 hc4 x0 x1 x2, sout0_D_1 c i arg3 harg3 arg4 harg4 arg5 harg5 arg6 harg6 arg7 harg7 arg8 harg8 arg9 harg9 arg10 harg10 hc0 hc1 hc2 hc3 hc4 x0 x1 x2, sout0_D_2 c i arg3 harg3 arg4 harg4 arg5 harg5 arg6 harg6 arg7 harg7 arg8 harg8 arg9 harg9 arg10 harg10 hc0 hc1 hc2 hc3 hc4 x0 x1 x2⟩ : State) = State.next State.zero (edge1 x0 x1 x2) :=
  stored (next_fresh arg3 harg3 arg4 harg4 arg5 harg5 arg8 arg9 arg10 x0 x1 x2 edge1)
    (T0 := [col (k0_pay1 (F := Ideal))]) (T1 := [col (k0_pay2 (F := Ideal))]) (T2 := [mat (k0_pay3 (F := Ideal))]) (by
      refine ⟨?_, ?_, ?_⟩ <;> sl_kernel_rfl)
theorem case_E (hc0 : cond0_0 i) (hc1 : cond0_1 i) (hc2 : ¬cond0_2 i) (hc3 : ¬cond0_3 i) (hc4 : ¬cond0_4 i) :
    (⟨sout0_E_0 c i arg3 harg3 arg4 harg4 arg5 harg5 arg6 harg6 arg7 harg7 arg8 harg8 arg9 harg9 arg10 harg10 hc0 hc1 hc2 hc3 hc4 x0 x1 x2, sout0_E_1 c i arg3 harg3 arg4 harg4 arg5 harg5 arg6 harg6 arg7 harg7 arg8 harg8 arg9 harg9 arg10 harg10 hc0 hc1 hc2 hc3 hc4 x0 x1 x2, sout0_E_2 c i arg3 harg3 arg4 harg4 arg5 harg5 arg6 harg6 arg7 harg7 arg8 harg8 arg9 harg9 arg10 harg10 hc0 hc1 hc2 hc3 hc4 x0 x1 x2⟩ : State) = State.next State.zero (below x0 x1 x2) :=
  stored (next_fresh arg3 harg3 arg4 harg4 arg5 harg5 arg8 arg9 arg10 x0 x1 x2 below)
    (T0 := [col (k0_pay1 (F := Ideal))]) (T1 := [col (k0_pay2 (F := Ideal))]) (T2 := [mat (k0_pay3 (F := Ideal))]) (by
      refine ⟨?_, ?_, ?_⟩ <;> sl_kernel_rfl)
theorem case_F (hc0 : ¬cond0_0 i) (hc1 : ¬cond0_1 i) (hc2 : cond0_2 i) (hc3 : ¬cond0_3 i) (hc4 : ¬cond0_4 i) :
    (⟨sout0_F_0 c i arg3 harg3 arg4 harg4 arg5 harg5 arg6 harg6 arg7 harg7 arg8 harg8 arg9 harg9 arg10 harg10 hc0 hc1 hc2 hc3 hc4 x0 x1 x2 xs0 xs1 xs2, sout0_F_1 c i arg3 harg3 arg4 harg4 arg5 harg5 arg6 harg6 arg7 harg7 arg8 harg8 arg9 harg9 arg10 harg10 hc0 hc1 hc2 hc3 hc4 x0 x1 x2 xs0 xs1 xs2, sout0_F_2 c i arg3 harg3 arg4 harg4 arg5 harg5 arg6 harg6 arg7 harg7 arg8 harg8 arg9 harg9 arg10 harg10 hc0 hc1 hc2 hc3 hc4 x0 x1 x2 xs0 xs1 xs2⟩ : State) = State.next ⟨xs0, xs1, xs2⟩ (edge x0 x1 x2) :=
  stored (next_held arg3 harg3 arg4 harg4 arg5 harg5 arg8 harg8 arg9 harg9 arg10 harg10 x0 x1 x2 xs0 xs1 xs2 edge)
    (T0 := []) (T1 := []) (T2 := []) (by
      refine ⟨?_, ?_, ?_⟩ <;> sl_kernel_rfl)
theorem case_G (hc0 : ¬cond0_0 i) (hc1 : ¬cond0_1 i) (hc2 : ¬cond0_2 i) (hc3 : cond0_3 i) (hc4 : ¬cond0_4 i) :
    (⟨sout0_G_0 c i arg3 harg3 arg4 harg4 arg5 harg5 arg6 harg6 arg7 harg7 arg8 harg8 arg9 harg9 arg10 harg10 hc0 hc1 hc2 hc3 hc4 x0 x1 x2 xs0 xs1 xs2, sout0_G_1 c i arg3 harg3 arg4 harg4 arg5 harg5 arg6 harg6 arg7 harg7 arg8 harg8 arg9 harg9 arg10 harg10 hc0 hc1 hc2 hc3 hc4 x0 x1 x2 xs0 xs1 xs2, sout0_G_2 c i arg3 harg3 arg4 harg4 arg5 harg5 arg6 harg6 arg7 harg7 arg8 harg8 arg9 harg9 arg10 harg10 hc0 hc1 hc2 hc3 hc4 x0 x1 x2 xs0 xs1 xs2⟩ : State) = State.next ⟨xs0, xs1, xs2⟩ (edge1 x0 x1 x2) :=
  stored (next_held arg3 harg3 arg4 harg4 arg5 harg5 arg8 harg8 arg9 harg9 arg10 harg10 x0 x1 x2 xs0 xs1 xs2 edge1)
    (T0 := []) (T1 := []) (T2 := []) (by
      refine ⟨?_, ?_, ?_⟩ <;> sl_kernel_rfl)
theorem case_H (hc0 : ¬cond0_0 i) (hc1 : cond0_1 i) (hc2 : ¬cond0_2 i) (hc3 : ¬cond0_3 i) (hc4 : ¬cond0_4 i) :
    (⟨sout0_H_0 c i arg3 harg3 arg4 harg4 arg5 harg5 arg6 harg6 arg7 harg7 arg8 harg8 arg9 harg9 arg10 harg10 hc0 hc1 hc2 hc3 hc4 x0 x1 x2 xs0 xs1 xs2, sout0_H_1 c i arg3 harg3 arg4 harg4 arg5 harg5 arg6 harg6 arg7 harg7 arg8 harg8 arg9 harg9 arg10 harg10 hc0 hc1 hc2 hc3 hc4 x0 x1 x2 xs0 xs1 xs2, sout0_H_2 c i arg3 harg3 arg4 harg4 arg5 harg5 arg6 harg6 arg7 harg7 arg8 harg8 arg9 harg9 arg10 harg10 hc0 hc1 hc2 hc3 hc4 x0 x1 x2 xs0 xs1 xs2⟩ : State) = State.next ⟨xs0, xs1, xs2⟩ (below x0 x1 x2) :=
  stored (next_held arg3 harg3 arg4 harg4 arg5 harg5 arg8 harg8 arg9 harg9 arg10 harg10 x0 x1 x2 xs0 xs1 xs2 below)
    (T0 := []) (T1 := []) (T2 := []) (by
      refine ⟨?_, ?_, ?_⟩ <;> sl_kernel_rfl)
theorem case_I (hc0 : ¬cond0_0 i) (hc1 : ¬cond0_1 i) (hc2 : cond0_2 i) (hc3 : ¬cond0_3 i) (hc4 : cond0_4 i) :
    (⟨sout0_I_0 c i arg3 harg3 arg4 harg4 arg5 harg5 arg6 harg6 arg7 harg7 arg8 harg8 arg9 harg9 arg10 harg10 hc0 hc1 hc2 hc3 hc4 x0 x1 x2 xs0 xs1 xs2, sout0_I_1 c i arg3 harg3 arg4 harg4 arg5 harg5 arg6 harg6 arg7 harg7 arg8 harg8 arg9 harg9 arg10 harg10 hc0 hc1 hc2 hc3 hc4 x0 x1 x2 xs0 xs1 xs2, sout0_I_2 c i arg3 harg3 arg4 harg4 arg5 harg5 arg6 harg6 arg7 harg7 arg8 harg8 arg9 harg9 arg10 harg10 hc0 hc1 hc2 hc3 hc4 x0 x1 x2 xs0 xs1 xs2⟩ : State) = State.next ⟨xs0, xs1, xs2⟩ (edge x0 x1 x2) :=
  stored (next_held arg3 harg3 arg4 harg4 arg5 harg5 arg8 harg8 arg9 harg9 arg10 harg10 x0 x1 x2 xs0 xs1 xs2 edge)
    (T0 := []) (T1 := []) (T2 := []) (by
      refine ⟨?_, ?_, ?_⟩ <;> sl_kernel_rfl)
theorem case_J (hc0 : ¬cond0_0 i) (hc1 : ¬cond0_1 i) (hc2 : ¬cond0_2 i) (hc3 : cond0_3 i) (hc4 : cond0_4 i) :
    (⟨sout0_J_0 c i arg3 harg3 arg4 harg4 arg5 harg5 arg6 harg6 arg7 harg7 arg8 harg8 arg9 harg9 arg10 harg10 hc0 hc1 hc2 hc3 hc4 x0 x1 x2 xs0 xs1 xs2, sout0_J_1 c i arg3 harg3 arg4 harg4 arg5 harg5 arg6 harg6 arg7 harg7 arg8 harg8 arg9 harg9 arg10 harg10 hc0 hc1 hc2 hc3 hc4 x0 x1 x2 xs0 xs1 xs2, sout0_J_2 c i arg3 harg3 arg4 harg4 arg5 harg5 arg6 harg6 arg7 harg7 arg8 harg8 arg9 harg9 arg10 harg10 hc0 hc1 hc2 hc3 hc4 x0 x1 x2 xs0 xs1 xs2⟩ : State) = State.next ⟨xs0, xs1, xs2⟩ (edge1 x0 x1 x2) :=
  stored (next_held arg3 harg3 arg4 harg4 arg5 harg5 arg8 harg8 arg9 harg9 arg10 harg10 x0 x1 x2 xs0 xs1 xs2 edge1)
    (T0 := []) (T1 := []) (T2 := []) (by
      refine ⟨?_, ?_, ?_⟩ <;> sl_kernel_rfl)

/-! ## The stored results -/

/-- A whole column, or the sums, loaded back. -/
def load1 (arg : Memref sig .tc .vmem S1024x1 .f32) (w : FVec Ideal S1024x1 .f32) : Vec Ideal S1024x1 .f32 :=
  arg.view.readCov (Val := Elt Ideal) [col w] (Rect.unit (s := S1024x1) ![0, 0] S1024x1.size (by decide)).toLoadRect
def load2 (arg : Memref sig .tc .vmem S1024x128 .f32) (w : FVec Ideal S1024x128 .f32) : Vec Ideal S1024x128 .f32 :=
  arg.view.readCov (Val := Elt Ideal) [mat w] (Rect.unit (s := S1024x128) ![0, 0] S1024x128.size (by decide)).toLoadRect
theorem load1_eq (w : FVec Ideal S1024x1 .f32) : load1 arg8 (same1 w) = w := by
  unfold load1 col same1
  rw [View.readCov_full, shapeCast_self]
theorem load2_eq (w : FVec Ideal S1024x128 .f32) : load2 arg10 (same2 w) = w := by
  unfold load2 mat same2
  rw [View.readCov_full, shapeCast_self]

/-- The results stored from a whole state just stored. -/
theorem put {σ σ' : State} (h : σ = σ') {L3 L4 : List (View.Piece (Elt Ideal) S1x1024x128 .f32)}
    (e : L3 = [res (k0_pay8 (F := Ideal) (load2 arg10 (same2 σ.a)) (load1 arg9 (same1 σ.l)))] ∧ L4 = [res (k0_pay9 (F := Ideal) (load1 arg8 (same1 σ.m)) (load1 arg9 (same1 σ.l)))]) :
    VO0_3.read (Elt Ideal) (VO0_3.writes (Elt Ideal) VO0_3.junk L3) = k0_pay8 (F := Ideal) σ'.a σ'.l ∧ VO0_4.read (Elt Ideal) (VO0_4.writes (Elt Ideal) VO0_4.junk L4) = k0_pay9 (F := Ideal) σ'.m σ'.l := by
  unfold res at e
  rw [← h, e.1, e.2, View.read_writes_full VO0_3, View.read_writes_full VO0_4, load1_eq, load1_eq, load2_eq]
  exact ⟨rfl, rfl⟩
/-- The results stored from a state not touched. -/
theorem keep {σ σ' : State} (h : σ = σ') {L3 L4 : List (View.Piece (Elt Ideal) S1x1024x128 .f32)}
    (e : L3 = [res (k0_pay8 (F := Ideal) σ.a σ.l)] ∧ L4 = [res (k0_pay9 (F := Ideal) σ.m σ.l)]) :
    VO0_3.read (Elt Ideal) (VO0_3.writes (Elt Ideal) VO0_3.junk L3) = k0_pay8 (F := Ideal) σ'.a σ'.l ∧ VO0_4.read (Elt Ideal) (VO0_4.writes (Elt Ideal) VO0_4.junk L4) = k0_pay9 (F := Ideal) σ'.m σ'.l := by
  unfold res at e
  rw [← h, e.1, e.2, View.read_writes_full VO0_3, View.read_writes_full VO0_4]
  exact ⟨rfl, rfl⟩

theorem out_I (hc0 : ¬cond0_0 i) (hc1 : ¬cond0_1 i) (hc2 : cond0_2 i) (hc3 : ¬cond0_3 i) (hc4 : cond0_4 i) :
    out0_I_3 c i arg3 harg3 arg4 harg4 arg5 harg5 arg6 harg6 arg7 harg7 arg8 harg8 arg9 harg9 arg10 harg10 hc0 hc1 hc2 hc3 hc4 x0 x1 x2 xs0 xs1 xs2 = k0_pay8 (F := Ideal) (State.next ⟨xs0, xs1, xs2⟩ (edge x0 x1 x2)).a (State.next ⟨xs0, xs1, xs2⟩ (edge x0 x1 x2)).l
      ∧ out0_I_4 c i arg3 harg3 arg4 harg4 arg5 harg5 arg6 harg6 arg7 harg7 arg8 harg8 arg9 harg9 arg10 harg10 hc0 hc1 hc2 hc3 hc4 x0 x1 x2 xs0 xs1 xs2 = k0_pay9 (F := Ideal) (State.next ⟨xs0, xs1, xs2⟩ (edge x0 x1 x2)).m (State.next ⟨xs0, xs1, xs2⟩ (edge x0 x1 x2)).l :=
  put arg8 arg9 arg10 (next_held arg3 harg3 arg4 harg4 arg5 harg5 arg8 harg8 arg9 harg9 arg10 harg10 x0 x1 x2 xs0 xs1 xs2 edge) (by
    refine ⟨?_, ?_⟩ <;> sl_kernel_rfl)
theorem out_J (hc0 : ¬cond0_0 i) (hc1 : ¬cond0_1 i) (hc2 : ¬cond0_2 i) (hc3 : cond0_3 i) (hc4 : cond0_4 i) :
    out0_J_3 c i arg3 harg3 arg4 harg4 arg5 harg5 arg6 harg6 arg7 harg7 arg8 harg8 arg9 harg9 arg10 harg10 hc0 hc1 hc2 hc3 hc4 x0 x1 x2 xs0 xs1 xs2 = k0_pay8 (F := Ideal) (State.next ⟨xs0, xs1, xs2⟩ (edge1 x0 x1 x2)).a (State.next ⟨xs0, xs1, xs2⟩ (edge1 x0 x1 x2)).l
      ∧ out0_J_4 c i arg3 harg3 arg4 harg4 arg5 harg5 arg6 harg6 arg7 harg7 arg8 harg8 arg9 harg9 arg10 harg10 hc0 hc1 hc2 hc3 hc4 x0 x1 x2 xs0 xs1 xs2 = k0_pay9 (F := Ideal) (State.next ⟨xs0, xs1, xs2⟩ (edge1 x0 x1 x2)).m (State.next ⟨xs0, xs1, xs2⟩ (edge1 x0 x1 x2)).l :=
  put arg8 arg9 arg10 (next_held arg3 harg3 arg4 harg4 arg5 harg5 arg8 harg8 arg9 harg9 arg10 harg10 x0 x1 x2 xs0 xs1 xs2 edge1) (by
    refine ⟨?_, ?_⟩ <;> sl_kernel_rfl)
theorem out_C (hc0 : ¬cond0_0 i) (hc1 : ¬cond0_1 i) (hc2 : ¬cond0_2 i) (hc3 : ¬cond0_3 i) (hc4 : cond0_4 i) :
    out0_C_3 c i arg3 harg3 arg4 harg4 arg5 harg5 arg6 harg6 arg7 harg7 arg8 harg8 arg9 harg9 arg10 harg10 hc0 hc1 hc2 hc3 hc4 x0 x1 x2 xs0 xs1 xs2 = k0_pay8 (F := Ideal) xs2 xs1 ∧ out0_C_4 c i arg3 harg3 arg4 harg4 arg5 harg5 arg6 harg6 arg7 harg7 arg8 harg8 arg9 harg9 arg10 harg10 hc0 hc1 hc2 hc3 hc4 x0 x1 x2 xs0 xs1 xs2 = k0_pay9 (F := Ideal) xs0 xs1 :=
  keep (held_eq arg8 harg8 arg9 harg9 arg10 harg10 xs0 xs1 xs2) (by
    refine ⟨?_, ?_⟩ <;> sl_kernel_rfl)

end Cert.Kernel3Ideal.Fwd

end
-- ==== Proof.FwdValue.lean ====
module

public import proofs.«01_k».proof.Proof.FwdTile
public import proofs.«01_k».proof.Proof.Gen.Kernel3Ideal.Value

/-! # The forward kernel's scratch arrays and results, over the reals

After a point the scratch arrays hold its rows' running maximum and sums over the columns seen so far, and the last point
of a block of rows stores the rows' attention and the logarithm of their sums. -/

@[expose] public section

set_option maxRecDepth 16384

noncomputable section

namespace Cert.Kernel3Ideal.Fwd

open Idealize.ShloMosaic Idealize.ShloMosaic.TcCoe Idealize.ShloMosaic.Tactic Idealize.SL.Sem
open Cert.Kernel3Ideal Cert.Kernel3Ideal.Gen Cert.Attn

/-! ## A tile's runs, over the reals -/

/-- The three blocks hold rows `1024 i …` of the queries and rows `2048 j …` of the keys and the values. -/
structure Blocks (R : Real') (i j : ℕ) (q : Vec Ideal S1x1024x192 .bf16) (k : Vec Ideal S1x2048x192 .bf16) (v : Vec Ideal S1x2048x128 .bf16) : Prop where
  q : ∀ (y : Fin 1024) (d : Fin 192) (r : Fin 8192), r.val = 1024 * i + y.val → q (ix3 0 y d) = (R.q r d : EReal)
  k : ∀ (x : Fin 2048) (d : Fin 192) (c : Fin 8192), c.val = 2048 * j + x.val → k (ix3 0 x d) = (R.k c d : EReal)
  v : ∀ (x : Fin 2048) (e : Fin 128) (c : Fin 8192), c.val = 2048 * j + x.val → v (ix3 0 x e) = (R.v c e : EReal)

/-- The rows of block `i`. -/
def rows (R : Real') (i : Fin 8) (y : Fin 1024) : Line := R.line ⟨1024 * i.val + y.val, by omega⟩

theorem qOf_at (q : Vec Ideal S1x1024x192 .bf16) (y : Fin 1024) (d : Fin 192) : qOf q (ix3 0 y d) = q (ix3 0 y d) := by
  refine congrArg q (funext fun a => Fin.ext ?_)
  match a with
  | 0 => rfl
  | 1 => show 0 + 1 * y.val = y.val; omega
  | 2 => show 0 + 1 * d.val = d.val; omega
theorem kOf_at (k : Vec Ideal S1x2048x192 .bf16) (a : Fin 8) (x : Fin 256) (d : Fin 192) : kOf k a (ix3 0 x d) = k (ix3 0 ⟨256 * a.val + x.val, by omega⟩ d) := by
  refine congrArg k (funext fun b => Fin.ext ?_)
  match b with
  | 0 => rfl
  | 1 => show 256 * a.val + 1 * x.val = 256 * a.val + x.val; omega
  | 2 => show 0 + 1 * d.val = d.val; omega
theorem vOf_at (v : Vec Ideal S1x2048x128 .bf16) (a : Fin 8) (x : Fin 256) (e : Fin 128) : vOf v a (ix3 0 x e) = v (ix3 0 ⟨256 * a.val + x.val, by omega⟩ e) := by
  refine congrArg v (funext fun b => Fin.ext ?_)
  match b with
  | 0 => rfl
  | 1 => show 256 * a.val + 1 * x.val = 256 * a.val + x.val; omega
  | 2 => show 0 + 1 * e.val = e.val; omega

section runs
variable {R : Real'} {i : Fin 8} {j : ℕ} {q : Vec Ideal S1x1024x192 .bf16} {k : Vec Ideal S1x2048x192 .bf16} {v : Vec Ideal S1x2048x128 .bf16}

theorem dot_at (B : Blocks R i.val j q k v) (hj : j < 4) (a : Fin 8) (y : Fin 1024) (x : Fin 256) (c : Fin 8192) (hc : c.val = 2048 * j + 256 * a.val + x.val) :
    dotOf (qOf q) (kOf k a) (ix2 y x) = (R.S ⟨1024 * i.val + y.val, by omega⟩ c : EReal) := by
  rw [dotOf_at]
  unfold Real'.S
  rw [← coe_sum_mul]
  refine Finset.sum_congr rfl fun d _ => ?_
  rw [qOf_at, kOf_at, B.q y d ⟨1024 * i.val + y.val, by omega⟩ rfl, B.k ⟨256 * a.val + x.val, by omega⟩ d c (by show c.val = 2048 * j + (256 * a.val + x.val); omega)]
theorem val_at (B : Blocks R i.val j q k v) (hj : j < 4) (a : Fin 8) (n : ℕ) (hn : n = 2048 * j + 256 * a.val) (x : Fin 256) (e : Fin 128) :
    vOf v a (ix3 0 x e) = (R.val e (n + x.val) : EReal) := by
  rw [vOf_at, B.v ⟨256 * a.val + x.val, by omega⟩ e ⟨n + x.val, by omega⟩ (by show n + x.val = 2048 * j + (256 * a.val + x.val); omega), R.val_of_lt e (by omega)]

/-- A run before every row. -/
theorem raw_at (B : Blocks R i.val j q k v) (hj : j < 4) (a : Fin 8) (n : ℕ) (hn : n = 2048 * j + 256 * a.val) (hle : n + 255 ≤ 1024 * i.val) (y : Fin 1024) (x : Fin 256) :
    (raw q k v a).s (ix2 y x) = (rows R i y).w (n + x.val) := by
  refine (dot_at B hj a y x ⟨n + x.val, by omega⟩ (by show n + x.val = _; omega)).trans ?_
  unfold rows
  rw [R.line_of_lt _ (show n + x.val < 8192 by omega)]
  unfold Real'.M
  rw [if_pos (show (⟨n + x.val, by omega⟩ : Fin 8192) ≤ ⟨1024 * i.val + y.val, by omega⟩ from show n + x.val ≤ 1024 * i.val + y.val by omega)]
/-- A run on the diagonal. -/
theorem cut_at (B : Blocks R i.val j q k v) (hj : j < 4) (a : Fin 8) (r n : ℕ) (hr : r < 2048) (hn : n = 2048 * j + 256 * a.val) (hi : 1024 * i.val = 2048 * j + r) (y : Fin 1024) (x : Fin 256) :
    (cutAt r q k v a).s (ix2 y x) = (rows R i y).w (n + x.val) := by
  unfold rows
  rw [R.line_of_lt _ (show n + x.val < 8192 by omega)]
  refine (maskOf_at hr (by omega) _ y x).trans ?_
  unfold Real'.M
  by_cases h : 256 * a.val + x.val ≤ r + y.val
  · rw [if_pos h, if_pos (show (⟨n + x.val, by omega⟩ : Fin 8192) ≤ ⟨1024 * i.val + y.val, by omega⟩ from show n + x.val ≤ 1024 * i.val + y.val by omega)]
    exact dot_at B hj a y x ⟨n + x.val, by omega⟩ (by show n + x.val = _; omega)
  · rw [if_neg h, if_neg (show ¬(⟨n + x.val, by omega⟩ : Fin 8192) ≤ ⟨1024 * i.val + y.val, by omega⟩ from fun h' => h (by have h'' : n + x.val ≤ 1024 * i.val + y.val := h'; omega))]

theorem below_holds (B : Blocks R i.val j q k v) (hj : 2 * j + 2 ≤ i.val) : Holds (rows R i) R.val (2048 * j) (below q k v) := by
  have r : ∀ (a : Fin 8) (n : ℕ), n = 2048 * j + 256 * a.val → (∀ y (x : Fin 256), (raw q k v a).s (ix2 y x) = (rows R i y).w (n + x.val)) ∧ (∀ (x : Fin 256) e, (raw q k v a).v (ix3 0 x e) = (R.val e (n + x.val) : EReal)) :=
    fun a n hn => ⟨raw_at B (by omega) a n hn (by omega), val_at B (by omega) a n hn⟩
  exact ⟨(r 0 _ (by simp)).1, (r 0 _ (by simp)).2, (r 1 _ (by simp)).1, (r 1 _ (by simp)).2, (r 2 _ (by simp)).1, (r 2 _ (by simp)).2, (r 3 _ (by simp)).1, (r 3 _ (by simp)).2,
    (r 4 _ (by simp)).1, (r 4 _ (by simp)).2, (r 5 _ (by simp)).1, (r 5 _ (by simp)).2, (r 6 _ (by simp)).1, (r 6 _ (by simp)).2, (r 7 _ (by simp)).1, (r 7 _ (by simp)).2, trivial⟩
theorem edge_holds (B : Blocks R i.val j q k v) (hj : i.val = 2 * j) : Holds (rows R i) R.val (2048 * j) (edge q k v) := by
  have r : ∀ (a : Fin 8) (n : ℕ), n = 2048 * j + 256 * a.val → (∀ y (x : Fin 256), (cutAt 0 q k v a).s (ix2 y x) = (rows R i y).w (n + x.val)) ∧ (∀ (x : Fin 256) e, (cutAt 0 q k v a).v (ix3 0 x e) = (R.val e (n + x.val) : EReal)) :=
    fun a n hn => ⟨cut_at B (by omega) a 0 n (by omega) hn (by omega), val_at B (by omega) a n hn⟩
  exact ⟨(r 0 _ (by simp)).1, (r 0 _ (by simp)).2, (r 1 _ (by simp)).1, (r 1 _ (by simp)).2, (r 2 _ (by simp)).1, (r 2 _ (by simp)).2, (r 3 _ (by simp)).1, (r 3 _ (by simp)).2, trivial⟩
theorem edge1_holds (B : Blocks R i.val j q k v) (hj : i.val = 2 * j + 1) : Holds (rows R i) R.val (2048 * j) (edge1 q k v) := by
  have r : ∀ (a : Fin 8) (n : ℕ), n = 2048 * j + 256 * a.val → a.val < 4 → (∀ y (x : Fin 256), (raw q k v a).s (ix2 y x) = (rows R i y).w (n + x.val)) ∧ (∀ (x : Fin 256) e, (raw q k v a).v (ix3 0 x e) = (R.val e (n + x.val) : EReal)) :=
    fun a n hn ha => ⟨raw_at B (by omega) a n hn (by omega), val_at B (by omega) a n hn⟩
  have s : ∀ (a : Fin 8) (n : ℕ), n = 2048 * j + 256 * a.val → (∀ y (x : Fin 256), (cutAt 1024 q k v a).s (ix2 y x) = (rows R i y).w (n + x.val)) ∧ (∀ (x : Fin 256) e, (cutAt 1024 q k v a).v (ix3 0 x e) = (R.val e (n + x.val) : EReal)) :=
    fun a n hn => ⟨cut_at B (by omega) a 1024 n (by omega) hn (by omega), val_at B (by omega) a n hn⟩
  exact ⟨(r 0 _ (by simp) (by decide)).1, (r 0 _ (by simp) (by decide)).2, (r 1 _ (by simp) (by decide)).1, (r 1 _ (by simp) (by decide)).2, (r 2 _ (by simp) (by decide)).1, (r 2 _ (by simp) (by decide)).2,
    (r 3 _ (by simp) (by decide)).1, (r 3 _ (by simp) (by decide)).2, (s 4 _ (by simp)).1, (s 4 _ (by simp)).2, (s 5 _ (by simp)).1, (s 5 _ (by simp)).2,
    (s 6 _ (by simp)).1, (s 6 _ (by simp)).2, (s 7 _ (by simp)).1, (s 7 _ (by simp)).2, trivial⟩
end runs

/-! ## The blocks a point reads -/

theorem at0 : ∀ t : Fin grid0.N, win0_0.index t 0 = t.val / 32 ∧ win0_0.index t 1 = t.val / 4 % 8 ∧ win0_0.index t 2 = 0 := by decide +kernel
theorem at1 : ∀ t : Fin grid0.N, 2 * (t.val % 4) ≤ t.val / 4 % 8 → win0_1.index t 0 = t.val / 32 ∧ win0_1.index t 1 = t.val % 4 ∧ win0_1.index t 2 = 0 := by decide +kernel
theorem at2 : ∀ t : Fin grid0.N, 2 * (t.val % 4) ≤ t.val / 4 % 8 → win0_2.index t 0 = t.val / 32 ∧ win0_2.index t 1 = t.val % 4 ∧ win0_2.index t 2 = 0 := by decide +kernel
theorem at3 : ∀ t : Fin grid0.N, win0_3.index t 0 = t.val / 32 ∧ win0_3.index t 1 = t.val / 4 % 8 ∧ win0_3.index t 2 = 0 := by decide +kernel
theorem at4 : ∀ t : Fin grid0.N, win0_4.index t 0 = t.val / 32 ∧ win0_4.index t 1 = t.val / 4 % 8 ∧ win0_4.index t 2 = 0 := by decide +kernel

theorem t_lt (t : Fin cfg0.N) : t.val < 512 := lt_of_lt_of_eq t.isLt N_0

/-- A point's head, block of rows and row. -/
def hd (t : Fin cfg0.N) : Fin 16 := ⟨t.val / 32, by have := t_lt t; omega⟩
def blkOf (t : Fin cfg0.N) : Fin 8 := ⟨t.val / 4 % 8, by omega⟩
def rowOf (t : Fin cfg0.N) (y : Fin 1024) : Fin 8192 := ⟨1024 * (t.val / 4 % 8) + y.val, by omega⟩

section reads
variable (c : Dev nD) (t : Fin cfg0.N)

theorem read_q (G : Buf (Elt Ideal) ((c : Thread nD τ).loc main_v0)) (y : Fin 1024) (d : Fin 192) :
    (((cfg0.win 0).blk t).view.read (Elt Ideal) G : FVec Ideal S1x1024x192 .bf16) (ix3 0 y d) = (G : FVec Ideal S16x8192x192 .bf16) (ix3 (hd t) (rowOf t y) d) := by
  rw [View.read_apply]
  show G _ = G _
  have i0 := at0 t
  congr 1; funext a; apply Fin.ext
  match a with
  | ⟨0, _⟩ => show win0_0.index t 0 * 1 + 1 * 0 = t.val / 32; rw [i0.1]; omega
  | ⟨1, _⟩ => show win0_0.index t 1 * 1024 + 1 * y.val = 1024 * (t.val / 4 % 8) + y.val; rw [i0.2.1]; omega
  | ⟨2, _⟩ => show win0_0.index t 2 * 192 + 1 * d.val = d.val; rw [i0.2.2]; omega
theorem read_k (ht : 2 * (t.val % 4) ≤ t.val / 4 % 8) (G : Buf (Elt Ideal) ((c : Thread nD τ).loc main_v1)) (x : Fin 2048) (d : Fin 192) (r : Fin 8192) (hr : r.val = 2048 * (t.val % 4) + x.val) :
    (((cfg0.win 1).blk t).view.read (Elt Ideal) G : FVec Ideal S1x2048x192 .bf16) (ix3 0 x d) = (G : FVec Ideal S16x8192x192 .bf16) (ix3 (hd t) r d) := by
  rw [View.read_apply]
  show G _ = G _
  have i0 := at1 t ht
  congr 1; funext a; apply Fin.ext
  match a with
  | ⟨0, _⟩ => show win0_1.index t 0 * 1 + 1 * 0 = t.val / 32; rw [i0.1]; omega
  | ⟨1, _⟩ => show win0_1.index t 1 * 2048 + 1 * x.val = r.val; rw [i0.2.1]; omega
  | ⟨2, _⟩ => show win0_1.index t 2 * 192 + 1 * d.val = d.val; rw [i0.2.2]; omega
theorem read_v (ht : 2 * (t.val % 4) ≤ t.val / 4 % 8) (G : Buf (Elt Ideal) ((c : Thread nD τ).loc main_v2)) (x : Fin 2048) (e : Fin 128) (r : Fin 8192) (hr : r.val = 2048 * (t.val % 4) + x.val) :
    (((cfg0.win 2).blk t).view.read (Elt Ideal) G : FVec Ideal S1x2048x128 .bf16) (ix3 0 x e) = (G : FVec Ideal S16x8192x128 .bf16) (ix3 (hd t) r e) := by
  rw [View.read_apply]
  show G _ = G _
  have i0 := at2 t ht
  congr 1; funext a; apply Fin.ext
  match a with
  | ⟨0, _⟩ => show win0_2.index t 0 * 1 + 1 * 0 = t.val / 32; rw [i0.1]; omega
  | ⟨1, _⟩ => show win0_2.index t 1 * 2048 + 1 * x.val = r.val; rw [i0.2.1]; omega
  | ⟨2, _⟩ => show win0_2.index t 2 * 128 + 1 * e.val = e.val; rw [i0.2.2]; omega
theorem read_out3 (G : Buf (Elt Ideal) ((c : Thread nD τ).loc main_v3_0)) (y : Fin 1024) (e : Fin 128) :
    (((cfg0.win 3).blk t).view.read (Elt Ideal) G : FVec Ideal S1x1024x128 .f32) (ix3 0 y e) = (G : FVec Ideal S16x8192x128 .f32) (ix3 (hd t) (rowOf t y) e) := by
  rw [View.read_apply]
  show G _ = G _
  have i0 := at3 t
  congr 1; funext a; apply Fin.ext
  match a with
  | ⟨0, _⟩ => show win0_3.index t 0 * 1 + 1 * 0 = t.val / 32; rw [i0.1]; omega
  | ⟨1, _⟩ => show win0_3.index t 1 * 1024 + 1 * y.val = 1024 * (t.val / 4 % 8) + y.val; rw [i0.2.1]; omega
  | ⟨2, _⟩ => show win0_3.index t 2 * 128 + 1 * e.val = e.val; rw [i0.2.2]; omega
theorem read_out4 (G : Buf (Elt Ideal) ((c : Thread nD τ).loc main_v3_1)) (y : Fin 1024) (e : Fin 128) :
    (((cfg0.win 4).blk t).view.read (Elt Ideal) G : FVec Ideal S1x1024x128 .f32) (ix3 0 y e) = (G : FVec Ideal S16x8192x128 .f32) (ix3 (hd t) (rowOf t y) e) := by
  rw [View.read_apply]
  show G _ = G _
  have i0 := at4 t
  congr 1; funext a; apply Fin.ext
  match a with
  | ⟨0, _⟩ => show win0_4.index t 0 * 1 + 1 * 0 = t.val / 32; rw [i0.1]; omega
  | ⟨1, _⟩ => show win0_4.index t 1 * 1024 + 1 * y.val = 1024 * (t.val / 4 % 8) + y.val; rw [i0.2.1]; omega
  | ⟨2, _⟩ => show win0_4.index t 2 * 128 + 1 * e.val = e.val; rw [i0.2.2]; omega
end reads

end Cert.Kernel3Ideal.Fwd

end
-- ==== Proof.FwdArray.lean ====
module

public import proofs.«01_k».proof.Proof.FwdValue
public import Idealize.ShloMosaic.Lib.StableHlo.RunRead

/-! # The forward kernel's whole results

What each point leaves, by induction along the grid; then the two result arrays and the run. -/

@[expose] public section

set_option maxRecDepth 16384

noncomputable section

namespace Cert.Kernel3Ideal.Fwd

open Idealize.ShloMosaic Idealize.ShloMosaic.TcCoe Idealize.ShloMosaic.Tactic Idealize.SL.Sem
open Idealize.ShloMosaic.Pipeline (Dat)
open Cert.Kernel3Ideal Cert.Kernel3Ideal.Gen Cert.Attn

/-! ## The arguments, over the reals -/

/-- Every element is a real number. -/
def Finite {s : Shape} (x : FVec Ideal s .f32) : Prop := ∀ i, x i = ((x i : EReal).toReal : EReal)

/-- Head `h` of the arguments, over the reals. (The forward pass reads no gradient; the values stand in its place.) -/
def headOf (q k : FVec Ideal S16x8192x192 .f32) (v : FVec Ideal S16x8192x128 .f32) (h : Fin 16) : Real' where
  q y d := (q (ix3 h y d) : EReal).toReal
  k y d := (k (ix3 h y d) : EReal).toReal
  v y e := (v (ix3 h y e) : EReal).toReal
  g y e := (v (ix3 h y e) : EReal).toReal

variable (m : (ℓ : Loc nD τ sig) → Buf (Elt Ideal) ℓ)

abbrev argQ (c : Dev nD) : FVec Ideal S16x8192x192 .f32 := m ((c : Thread nD τ).loc main_arg0)
abbrev argK (c : Dev nD) : FVec Ideal S16x8192x192 .f32 := m ((c : Thread nD τ).loc main_arg1)
abbrev argV (c : Dev nD) : FVec Ideal S16x8192x128 .f32 := m ((c : Thread nD τ).loc main_arg2)

/-- The heads of device `c`'s arguments. -/
def head (c : Dev nD) : Fin 16 → Real' := headOf (argQ m c) (argK m c) (argV m c)

theorem given_q (c : Dev nD) : V m c main_v0 = (argQ m c : FVec Ideal S16x8192x192 .f32) := by
  unfold V
  simp only [hostOps0, List.cons_append, List.nil_append, List.flatten_cons, List.flatten_nil, List.append_nil]
  after_reads_simp
  rfl
theorem given_k (c : Dev nD) : V m c main_v1 = (argK m c : FVec Ideal S16x8192x192 .f32) := by
  unfold V
  simp only [hostOps0, List.cons_append, List.nil_append, List.flatten_cons, List.flatten_nil, List.append_nil]
  after_reads_simp
  rfl
theorem given_v (c : Dev nD) : V m c main_v2 = (argV m c : FVec Ideal S16x8192x128 .f32) := by
  unfold V
  simp only [hostOps0, List.cons_append, List.nil_append, List.flatten_cons, List.flatten_nil, List.append_nil]
  after_reads_simp
  rfl

section points
variable {m} {c : Dev nD} (hq : Finite (argQ m c)) (hk : Finite (argK m c)) (hv : Finite (argV m c))
include hq hk hv

theorem blocks (t : Fin cfg0.N) (ht : 2 * (t.val % 4) ≤ t.val / 4 % 8) :
    Blocks (head m c (hd t)) (blkOf t).val (t.val % 4) (iblk m c 0 t) (iblk m c 1 t) (iblk m c 2 t) where
  q y d r hr := by
    obtain rfl : r = rowOf t y := Fin.ext hr
    exact ((read_q c t (V m c main_v0) y d).trans (congrFun (given_q m c) _)).trans (hq _)
  k x d r hr := ((read_k c t ht (V m c main_v1) x d r hr).trans (congrFun (given_k m c) _)).trans (hk _)
  v x e r hr := ((read_v c t ht (V m c main_v2) x e r hr).trans (congrFun (given_v m c) _)).trans (hv _)
end points

/-! ## The scratch arrays, point by point -/

/-- What point `t`'s scratch arrays hold after it, and what the point before left. -/
def here (c : Dev nD) (t : Fin cfg0.N) : State := stateOf (outsAt0 m c t.val t.isLt)
def prev (c : Dev nD) (t : Fin cfg0.N) : State := stateOf (outsAt0 m c (t.val - 1) (Nat.lt_of_le_of_lt (Nat.sub_le _ _) t.isLt))
/-- The state a point starts from. -/
def start (c : Dev nD) (t : Fin cfg0.N) : State := if t.val % 4 = 0 then State.zero else prev m c t

section tuples
variable {o : Vec Ideal S1x1024x128 .f32 × Vec Ideal S1x1024x128 .f32 × Vec Ideal S1024x1 .f32 × Vec Ideal S1024x1 .f32 × Vec Ideal S1024x128 .f32}
  {a b : Vec Ideal S1x1024x128 .f32} {s0 s1 : Vec Ideal S1024x1 .f32} {s2 : Vec Ideal S1024x128 .f32}

theorem state_of (h : o = (a, b, s0, s1, s2)) {σ : State} (h' : (⟨s0, s1, s2⟩ : State) = σ) : stateOf o = σ := by
  subst h; exact h'
theorem put_of (h : o = (a, b, s0, s1, s2)) {x y : Vec Ideal S1x1024x128 .f32} (h' : a = x ∧ b = y) : o.1 = x ∧ o.2.1 = y := by
  subst h; exact h'
end tuples

theorem here_edge (c : Dev nD) (t : Fin cfg0.N) (h2 : t.val / 4 % 8 = 2 * (t.val % 4)) :
    here m c t = (start m c t).next (edge (iblk m c 0 t) (iblk m c 1 t) (iblk m c 2 t)) := by
  have h1 : ¬2 * (t.val % 4) + 2 ≤ t.val / 4 % 8 := by omega
  have h3 : ¬t.val / 4 % 8 = 2 * (t.val % 4) + 1 := by omega
  unfold start
  by_cases h0 : t.val % 4 = 0
  · rw [if_pos h0]
    exact state_of (outsAt0_A m c t h0 h1 h2 h3 (by omega)) (case_A ..)
  · rw [if_neg h0]
    by_cases h4 : t.val % 4 = 3
    · exact state_of (outsAt0_I m c t h0 h1 h2 h3 h4) (case_I ..)
    · exact state_of (outsAt0_F m c t h0 h1 h2 h3 h4) (case_F ..)
theorem here_edge1 (c : Dev nD) (t : Fin cfg0.N) (h3 : t.val / 4 % 8 = 2 * (t.val % 4) + 1) :
    here m c t = (start m c t).next (edge1 (iblk m c 0 t) (iblk m c 1 t) (iblk m c 2 t)) := by
  have h1 : ¬2 * (t.val % 4) + 2 ≤ t.val / 4 % 8 := by omega
  have h2 : ¬t.val / 4 % 8 = 2 * (t.val % 4) := by omega
  unfold start
  by_cases h0 : t.val % 4 = 0
  · rw [if_pos h0]
    exact state_of (outsAt0_D m c t h0 h1 h2 h3 (by omega)) (case_D ..)
  · rw [if_neg h0]
    by_cases h4 : t.val % 4 = 3
    · exact state_of (outsAt0_J m c t h0 h1 h2 h3 h4) (case_J ..)
    · exact state_of (outsAt0_G m c t h0 h1 h2 h3 h4) (case_G ..)
theorem here_below (c : Dev nD) (t : Fin cfg0.N) (h1 : 2 * (t.val % 4) + 2 ≤ t.val / 4 % 8) :
    here m c t = (start m c t).next (below (iblk m c 0 t) (iblk m c 1 t) (iblk m c 2 t)) := by
  have h2 : ¬t.val / 4 % 8 = 2 * (t.val % 4) := by omega
  have h3 : ¬t.val / 4 % 8 = 2 * (t.val % 4) + 1 := by omega
  have h4 : ¬t.val % 4 = 3 := by omega
  unfold start
  by_cases h0 : t.val % 4 = 0
  · rw [if_pos h0]
    exact state_of (outsAt0_E m c t h0 h1 h2 h3 h4) (case_E ..)
  · rw [if_neg h0]
    exact state_of (outsAt0_H m c t h0 h1 h2 h3 h4) (case_H ..)
theorem here_none (c : Dev nD) (t : Fin cfg0.N) (h : t.val / 4 % 8 < 2 * (t.val % 4)) : here m c t = prev m c t := by
  have h0 : ¬t.val % 4 = 0 := by omega
  have h1 : ¬2 * (t.val % 4) + 2 ≤ t.val / 4 % 8 := by omega
  have h2 : ¬t.val / 4 % 8 = 2 * (t.val % 4) := by omega
  have h3 : ¬t.val / 4 % 8 = 2 * (t.val % 4) + 1 := by omega
  by_cases h4 : t.val % 4 = 3
  · exact state_of (outsAt0_C m c t h0 h1 h2 h3 h4) rfl
  · exact state_of (outsAt0_B m c t h0 h1 h2 h3 h4) rfl

/-- What the last point of a block of rows stores, from its scratch arrays. -/
theorem put_at (c : Dev nD) (t : Fin cfg0.N) (h4 : t.val % 4 = 3) :
    (outsAt0 m c t.val t.isLt).1 = k0_pay8 (F := Ideal) (here m c t).a (here m c t).l
      ∧ (outsAt0 m c t.val t.isLt).2.1 = k0_pay9 (F := Ideal) (here m c t).m (here m c t).l := by
  have h0 : ¬t.val % 4 = 0 := by omega
  have h1 : ¬2 * (t.val % 4) + 2 ≤ t.val / 4 % 8 := by omega
  have hs : start m c t = prev m c t := if_neg h0
  by_cases h2 : t.val / 4 % 8 = 2 * (t.val % 4)
  · have h3 : ¬t.val / 4 % 8 = 2 * (t.val % 4) + 1 := by omega
    rw [here_edge m c t h2, hs]
    exact put_of (outsAt0_I m c t h0 h1 h2 h3 h4) (out_I ..)
  by_cases h3 : t.val / 4 % 8 = 2 * (t.val % 4) + 1
  · rw [here_edge1 m c t h3, hs]
    exact put_of (outsAt0_J m c t h0 h1 h2 h3 h4) (out_J ..)
  · rw [here_none m c t (by omega)]
    exact put_of (outsAt0_C m c t h0 h1 h2 h3 h4) (out_C ..)

section points
variable {m} {c : Dev nD} (hq : Finite (argQ m c)) (hk : Finite (argK m c)) (hv : Finite (argV m c))
include hq hk hv

/-- The scratch arrays hold the running maximum and sums over the columns seen so far. -/
theorem here_after : ∀ (n : ℕ) (hn : n < cfg0.N),
    After (rows (head m c (hd ⟨n, hn⟩)) (blkOf ⟨n, hn⟩)) (head m c (hd ⟨n, hn⟩)).val (min (2048 * (n % 4 + 1)) (1024 * (n / 4 % 8 + 1))) (here m c ⟨n, hn⟩) := by
  intro n
  induction n using Nat.strong_induction_on with
  | _ n ih =>
    intro hn
    have hp : n % 4 ≠ 0 → After (rows (head m c (hd ⟨n, hn⟩)) (blkOf ⟨n, hn⟩)) (head m c (hd ⟨n, hn⟩)).val (min (2048 * (n % 4)) (1024 * (n / 4 % 8 + 1))) (prev m c ⟨n, hn⟩) := by
      intro h0
      have H := ih (n - 1) (by omega) (by omega)
      have e1 : (n - 1) % 4 + 1 = n % 4 := by omega
      have e2 : (n - 1) / 4 = n / 4 := by omega
      rw [e1, e2, show hd ⟨n - 1, by omega⟩ = hd ⟨n, hn⟩ from Fin.ext (by show (n - 1) / 32 = n / 32; omega),
        show blkOf ⟨n - 1, by omega⟩ = blkOf ⟨n, hn⟩ from Fin.ext (by show (n - 1) / 4 % 8 = n / 4 % 8; omega)] at H
      exact H
    have hs : 2 * (n % 4) ≤ n / 4 % 8 → After (rows (head m c (hd ⟨n, hn⟩)) (blkOf ⟨n, hn⟩)) (head m c (hd ⟨n, hn⟩)).val (2048 * (n % 4)) (start m c ⟨n, hn⟩) := by
      intro hi
      unfold start
      by_cases h0 : n % 4 = 0
      · rw [if_pos h0, h0]
        exact After.zero
      · rw [if_neg h0]
        have H := hp h0
        rw [show min (2048 * (n % 4)) (1024 * (n / 4 % 8 + 1)) = 2048 * (n % 4) by omega] at H
        exact H
    by_cases h2 : n / 4 % 8 = 2 * (n % 4)
    · rw [here_edge m c ⟨n, hn⟩ h2, show min (2048 * (n % 4 + 1)) (1024 * (n / 4 % 8 + 1)) = 2048 * (n % 4) + 256 * 4 by omega]
      exact (hs (by omega)).next (edge_holds (blocks hq hk hv ⟨n, hn⟩ (by show 2 * (n % 4) ≤ n / 4 % 8; omega)) h2) (by show 0 < 4; omega)
    by_cases h3 : n / 4 % 8 = 2 * (n % 4) + 1
    · rw [here_edge1 m c ⟨n, hn⟩ h3, show min (2048 * (n % 4 + 1)) (1024 * (n / 4 % 8 + 1)) = 2048 * (n % 4) + 256 * 8 by omega]
      exact (hs (by omega)).next (edge1_holds (blocks hq hk hv ⟨n, hn⟩ (by show 2 * (n % 4) ≤ n / 4 % 8; omega)) h3) (by show 0 < 8; omega)
    by_cases h1 : 2 * (n % 4) + 2 ≤ n / 4 % 8
    · rw [here_below m c ⟨n, hn⟩ h1, show min (2048 * (n % 4 + 1)) (1024 * (n / 4 % 8 + 1)) = 2048 * (n % 4) + 256 * 8 by omega]
      exact (hs (by omega)).next (below_holds (blocks hq hk hv ⟨n, hn⟩ (by show 2 * (n % 4) ≤ n / 4 % 8; omega)) h1) (by show 0 < 8; omega)
    · rw [here_none m c ⟨n, hn⟩ (by show n / 4 % 8 < 2 * (n % 4); omega), show min (2048 * (n % 4 + 1)) (1024 * (n / 4 % 8 + 1)) = min (2048 * (n % 4)) (1024 * (n / 4 % 8 + 1)) by omega]
      exact hp (by omega)

/-- After the last point of a block of rows: every row's whole maximum and sums. -/
theorem here_last (t : Fin cfg0.N) (ht : t.val % 4 = 3) (y : Fin 1024) :
    (here m c t).m (ix2 y 0) = (head m c (hd t)).top (rowOf t y) ∧ (here m c t).l (ix2 y 0) = ((head m c (hd t)).L (rowOf t y) : EReal)
      ∧ ∀ e, (here m c t).a (ix2 y e) = ((∑ x : Fin 8192, (head m c (hd t)).E (rowOf t y) x * (head m c (hd t)).v x e : ℝ) : EReal) := by
  have H := here_after hq hk hv t.val t.isLt
  rw [show min (2048 * (t.val % 4 + 1)) (1024 * (t.val / 4 % 8 + 1)) = 1024 * (t.val / 4 % 8 + 1) by omega] at H
  have hy : (rowOf t y).val < 1024 * (t.val / 4 % 8 + 1) := by show 1024 * (t.val / 4 % 8) + y.val < _; omega
  have hn : 1024 * (t.val / 4 % 8 + 1) ≤ 8192 := by omega
  exact ⟨(H.m y).trans ((head m c (hd t)).line_mx (rowOf t y) hy hn), (H.l y).trans ((head m c (hd t)).line_sum (rowOf t y) hy hn),
    fun e => (H.a y e).trans ((head m c (hd t)).line_wsum (rowOf t y) e hy hn)⟩
end points

/-! ## The whole arrays -/

/-- The attention of every row, and the logarithm of every row's sum. -/
def outO (R : Fin 16 → Real') : FVec Ideal S16x8192x128 .f32 := fun i => ((∑ x : Fin 8192, (R (i 0)).p (i 1) x * (R (i 0)).v x (i 2) : ℝ) : EReal)
def outL (R : Fin 16 → Real') : FVec Ideal S16x8192x128 .f32 := fun i => (((R (i 0)).μ (i 1) + Real.log ((R (i 0)).L (i 1)) : ℝ) : EReal)

theorem pay8_at (a : FVec Ideal S1024x128 .f32) (l : FVec Ideal S1024x1 .f32) (y : Fin 1024) (e : Fin 128) :
    k0_pay8 (F := Ideal) a l (ix3 0 y e) = Ideal.div (a (ix2 y e)) (l (ix2 y 0)) := by
  pointwise [k0_pay8]
theorem pay9_at (m l : FVec Ideal S1024x1 .f32) (y : Fin 1024) (e : Fin 128) :
    k0_pay9 (F := Ideal) m l (ix3 0 y e) = (m (ix2 y 0) + Ideal.log (l (ix2 y 0)) : EReal) := by
  unfold k0_pay9
  rw [shapeCast_self]
  pointwise

section arrays
variable {m} {c : Dev nD} (hq : Finite (argQ m c)) (hk : Finite (argK m c)) (hv : Finite (argV m c))
include hq hk hv

theorem flushed3 (t : Fin cfg0.N) (hf : (cfg0.win 3).flush t = true) :
    (dats m 0 c).flushed 3 t = ((cfg0.win 3).blk t).view.read (Elt Ideal) (outO (head m c)) := by
  have ht := (flush0_3 t).mp hf
  rw [Value.flushed3, (put_at m c t ht).1]
  funext j
  obtain ⟨z, y, e, rfl⟩ : ∃ (z : Fin 1) (y : Fin 1024) (e : Fin 128), j = ix3 z y e := ⟨_, _, _, eq_ix3 j⟩
  obtain rfl : z = 0 := Subsingleton.elim _ _
  obtain ⟨-, hl, ha⟩ := here_last hq hk hv t ht y
  refine ((pay8_at _ _ y e).trans ?_).trans (read_out3 c t (outO (head m c)) y e).symm
  rw [hl, ha e]
  exact (head m c (hd t)).out_eq (rowOf t y) e
theorem flushed4 (t : Fin cfg0.N) (hf : (cfg0.win 4).flush t = true) :
    (dats m 0 c).flushed 4 t = ((cfg0.win 4).blk t).view.read (Elt Ideal) (outL (head m c)) := by
  have ht := (flush0_4 t).mp hf
  rw [Value.flushed4, (put_at m c t ht).2]
  funext j
  obtain ⟨z, y, e, rfl⟩ : ∃ (z : Fin 1) (y : Fin 1024) (e : Fin 128), j = ix3 z y e := ⟨_, _, _, eq_ix3 j⟩
  obtain rfl : z = 0 := Subsingleton.elim _ _
  obtain ⟨hm, hl, -⟩ := here_last hq hk hv t ht y
  refine ((pay9_at _ _ y e).trans ?_).trans (read_out4 c t (outL (head m c)) y e).symm
  rw [hm, hl]
  exact (head m c (hd t)).log_eq (rowOf t y)

theorem final3 : (dats m 0 c).arrAt 3 cfg0.N = outO (head m c) :=
  (dats m 0 c).arrAt_eq_of_cover 3 (outO (head m c)) (flushed3 hq hk hv) fun i => by
    have hN : cfg0.N = 512 := N_0
    have h0 : (i 0 : ℕ) < 16 := (i 0).isLt
    have h1 : (i 1 : ℕ) < 8192 := (i 1).isLt
    have h2 : (i 2 : ℕ) < 128 := (i 2).isLt
    let t : Fin cfg0.N := ⟨32 * (i 0 : ℕ) + 4 * ((i 1 : ℕ) / 1024) + 3, by omega⟩
    have hv : t.val = 32 * (i 0 : ℕ) + 4 * ((i 1 : ℕ) / 1024) + 3 := rfl
    refine ⟨t, (flush0_3 t).mpr (by omega), ?_⟩
    show i ∈ ((View.whole main_v3_0).slice (win0_3.rect t)).set
    rw [View.set_slice_whole, Rect.mem_set_unit]
    have i0 := at3 t
    intro a
    match a with
    | ⟨0, _⟩ => show win0_3.index t 0 * 1 ≤ (i 0 : ℕ) ∧ (i 0 : ℕ) < win0_3.index t 0 * 1 + 1; rw [i0.1]; omega
    | ⟨1, _⟩ => show win0_3.index t 1 * 1024 ≤ (i 1 : ℕ) ∧ (i 1 : ℕ) < win0_3.index t 1 * 1024 + 1024; rw [i0.2.1]; omega
    | ⟨2, _⟩ => show win0_3.index t 2 * 128 ≤ (i 2 : ℕ) ∧ (i 2 : ℕ) < win0_3.index t 2 * 128 + 128; rw [i0.2.2]; omega
theorem final4 : (dats m 0 c).arrAt 4 cfg0.N = outL (head m c) :=
  (dats m 0 c).arrAt_eq_of_cover 4 (outL (head m c)) (flushed4 hq hk hv) fun i => by
    have hN : cfg0.N = 512 := N_0
    have h0 : (i 0 : ℕ) < 16 := (i 0).isLt
    have h1 : (i 1 : ℕ) < 8192 := (i 1).isLt
    have h2 : (i 2 : ℕ) < 128 := (i 2).isLt
    let t : Fin cfg0.N := ⟨32 * (i 0 : ℕ) + 4 * ((i 1 : ℕ) / 1024) + 3, by omega⟩
    have hv : t.val = 32 * (i 0 : ℕ) + 4 * ((i 1 : ℕ) / 1024) + 3 := rfl
    refine ⟨t, (flush0_4 t).mpr (by omega), ?_⟩
    show i ∈ ((View.whole main_v3_1).slice (win0_4.rect t)).set
    rw [View.set_slice_whole, Rect.mem_set_unit]
    have i0 := at4 t
    intro a
    match a with
    | ⟨0, _⟩ => show win0_4.index t 0 * 1 ≤ (i 0 : ℕ) ∧ (i 0 : ℕ) < win0_4.index t 0 * 1 + 1; rw [i0.1]; omega
    | ⟨1, _⟩ => show win0_4.index t 1 * 1024 ≤ (i 1 : ℕ) ∧ (i 1 : ℕ) < win0_4.index t 1 * 1024 + 1024; rw [i0.2.1]; omega
    | ⟨2, _⟩ => show win0_4.index t 2 * 128 ≤ (i 2 : ℕ) ∧ (i 2 : ℕ) < win0_4.index t 2 * 128 + 128; rw [i0.2.2]; omega
end arrays

variable (ρ : Dev nD → PrngReg)

/-- The run, read: the two results, and the arguments unchanged. -/
theorem run_value (hq : ∀ c, Finite (argQ m c)) (hk : ∀ c, Finite (argK m c)) (hv : ∀ c, Finite (argV m c)) :
    θ_run defs (onTc (τ := τ) (main (F := Ideal))) ⟨m, fun _ => 0, ρ⟩ fun r => ∀ c : Dev nD,
      r.2.mem ((c : Thread nD τ).loc main_v3_0) = outO (head m c)
      ∧ r.2.mem ((c : Thread nD τ).loc main_v3_1) = outL (head m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 (hq c) (hk c) (hv c)), ((h c).1 4).trans (final4 (hq c) (hk c) (hv c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel3Ideal.Fwd

end
-- ==== Proof.FwdAgree.lean ====
module

public import proofs.«01_k».proof.Proof.FwdArray
public import proofs.«01_k».proof.Proof.Agree
public import proofs.«01_k».proof.Proof.Gen.Reference3Ideal.Run
public import Idealize.ShloMosaic.Lib.WordCmp

/-! # The forward pass of the attention: the call's arrays and the reference's are equal -/

@[expose] public section

set_option maxRecDepth 16384

noncomputable section

namespace Cert.Reference3Ideal.Fwd

open Idealize.ShloMosaic Idealize.ShloMosaic.TcCoe Idealize.ShloMosaic.Tactic Idealize.SL.Sem
open Cert.Reference3Ideal Cert.Reference3Ideal.Gen Cert.Attn
open Cert.Kernel3Ideal.Fwd (Finite headOf outO outL)
open Cert.KernelIdeal.Bwd (low_eq)

/-- Where a column is not later than the row. -/
def fMask : IVec S16x8192x8192 1 :=
  broadcastInDim S16x8192x8192 ![1, 2] bcast_S8192x8192_S16x8192x8192_1_2
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))
/-- The masked scores. -/
def fS (q k : FVec Ideal S16x8192x192 .f32) : FVec Ideal S16x8192x8192 .f32 :=
  select fMask (Host.dotGeneral dot_S16x8192x192_S16x8192x192_S16x8192x8192_2_2_1_1_0_0 none q k)
    (broadcastInDim S16x8192x8192 ![] bcast_S_S16x8192x8192 (id (constant S_ .f32 0xFF800000#32)))
/-- The rows' maxima, and the same below the least element. -/
def fT (s : FVec Ideal S16x8192x8192 .f32) : FVec Ideal S16x8192 .f32 :=
  Host.reduce FloatOps.maximumf s (constant S_ .f32 0xFF800000#32) reducesTo_S16x8192x8192_S16x8192_d2 h_S_
def fM (s : FVec Ideal S16x8192x8192 .f32) : FVec Ideal S16x8192 .f32 :=
  maximumf (broadcastInDim S16x8192 ![] bcast_S_S16x8192 (constant S_ .f32 0xFF800000#32)) (fT s)
/-- A column of rows. -/
def fCol (t : FVec Ideal S16x8192 .f32) : FVec Ideal S16x8192x1 .f32 := broadcastInDim S16x8192x1 ![0, 1] bcast_S16x8192_S16x8192x1_0_1 t
/-- The exponentials less a column. -/
def fE (s : FVec Ideal S16x8192x8192 .f32) (t : FVec Ideal S16x8192 .f32) : FVec Ideal S16x8192x8192 .f32 :=
  Host.exp (subf s (broadcastInDim S16x8192x8192 ![0, 1, 2] bcast_S16x8192x1_S16x8192x8192_0_1_2 (fCol t)))
/-- Their sums. -/
def fL (e : FVec Ideal S16x8192x8192 .f32) : FVec Ideal S16x8192x1 .f32 :=
  fCol (Host.reduceAdd e (constant S_ .f32 0x00000000#32) reducesTo_S16x8192x8192_S16x8192_d2 h_S_)
/-- The attention. -/
def fO (e : FVec Ideal S16x8192x8192 .f32) (l : FVec Ideal S16x8192x1 .f32) (v : FVec Ideal S16x8192x128 .f32) : FVec Ideal S16x8192x128 .f32 :=
  Host.dotGeneral dot_S16x8192x8192_S16x8192x128_S16x8192x128_2_1_1_2_0_0 none
    (Host.divf e (broadcastInDim S16x8192x8192 ![0, 1, 2] bcast_S16x8192x1_S16x8192x8192_0_1_2 l)) v
/-- The logarithm of the sums. -/
def fLog (t : FVec Ideal S16x8192 .f32) (l : FVec Ideal S16x8192x1 .f32) : FVec Ideal S16x8192x128 .f32 :=
  broadcastInDim S16x8192x128 ![0, 1, 2] bcast_S16x8192x1_S16x8192x128_0_1_2 (addf (fCol t) (Host.log l))

theorem fMask_at (h : Fin 16) (y c : Fin 8192) : fMask (ix3 h y c) = if c ≤ y then 1#1 else 0#1 := by
  pointwise [fMask]
  rw [WordCmp.cmpi_sge_ofNat (by omega) (by omega)]
  by_cases hc : c ≤ y
  · rw [if_pos hc, decide_eq_true (by simpa using hc)]; rfl
  · rw [if_neg hc, decide_eq_false (by simpa using hc)]; rfl
theorem fS_at (q k : FVec Ideal S16x8192x192 .f32) (h : Fin 16) (y c : Fin 8192) :
    fS q k (ix3 h y c) = if c ≤ y then ∑ d : Fin 192, q (ix3 h y d) * k (ix3 h c d) else ⊥ := by
  have hs : ∀ x z : FVec Ideal S16x8192x8192 .f32, select fMask x z (ix3 h y c) = if c ≤ y then x (ix3 h y c) else z (ix3 h y c) := by
    intro x z
    show Scalar.select (fMask (ix3 h y c)) (x (ix3 h y c)) (z (ix3 h y c)) = _
    rw [fMask_at]
    split_ifs <;> rfl
  unfold fS
  rw [hs]
  split_ifs
  · pointwise
  · exact low_eq
theorem fT_at (s : FVec Ideal S16x8192x8192 .f32) (h : Fin 16) (y : Fin 8192) :
    fT s (ix2 h y) = Finset.univ.fold max ⊥ fun c : Fin 8192 => s (ix3 h y c) := by
  unfold fT
  pointwise
  rw [low_eq]
theorem max_at {s : Shape} (x z : FVec Ideal s .f32) (i : s.Idx) : maximumf x z i = max (x i : EReal) (z i : EReal) := rfl
theorem low_at (h : Fin 16) (y : Fin 8192) : broadcastInDim S16x8192 ![] bcast_S_S16x8192 (constant (F := Ideal) S_ .f32 0xFF800000#32) (ix2 h y) = ⊥ := low_eq
theorem fM_at (s : FVec Ideal S16x8192x8192 .f32) (h : Fin 16) (y : Fin 8192) : fM s (ix2 h y) = fT s (ix2 h y) := by
  unfold fM
  rw [max_at, low_at]
  exact max_eq_right bot_le
theorem fE_at (s : FVec Ideal S16x8192x8192 .f32) (t : FVec Ideal S16x8192 .f32) (h : Fin 16) (y c : Fin 8192) :
    fE s t (ix3 h y c) = Ideal.exp (s (ix3 h y c) - t (ix2 h y)) := by
  pointwise [fE, fCol]
theorem fL_at (e : FVec Ideal S16x8192x8192 .f32) (h : Fin 16) (y : Fin 8192) (z : Fin 1) : fL e (ix3 h y z) = ∑ c : Fin 8192, e (ix3 h y c) := by
  pointwise [fL, fCol]
theorem fO_at (e : FVec Ideal S16x8192x8192 .f32) (l : FVec Ideal S16x8192x1 .f32) (v : FVec Ideal S16x8192x128 .f32) (h : Fin 16) (y : Fin 8192) (d : Fin 128) :
    fO e l v (ix3 h y d) = ∑ c : Fin 8192, Ideal.div (e (ix3 h y c)) (l (ix3 h y 0)) * v (ix3 h c d) := by
  pointwise [fO]
theorem fLog_at (t : FVec Ideal S16x8192 .f32) (l : FVec Ideal S16x8192x1 .f32) (h : Fin 16) (y : Fin 8192) (d : Fin 128) :
    fLog t l (ix3 h y d) = (t (ix2 h y) + Ideal.log (l (ix3 h y 0)) : EReal) := by
  pointwise [fLog, fCol]

section heads
variable {q k : FVec Ideal S16x8192x192 .f32} {v : FVec Ideal S16x8192x128 .f32}

theorem fS_real (hq : Finite q) (hk : Finite k) (h : Fin 16) (y c : Fin 8192) : fS q k (ix3 h y c) = (headOf q k v h).M y c := by
  rw [fS_at]
  unfold Real'.M Real'.S
  split_ifs
  · rw [← coe_sum_mul]
    exact Finset.sum_congr rfl fun d _ => congrArg₂ (fun a b : EReal => a * b) (hq _) (hk _)
  · rfl
theorem fT_real (hq : Finite q) (hk : Finite k) (h : Fin 16) (y : Fin 8192) : fT (fS q k) (ix2 h y) = (headOf q k v h).top y := by
  rw [fT_at]
  unfold Real'.top
  simp only [fS_real (v := v) hq hk]
/-- The exponentials less either way of writing the maxima. -/
theorem fE_real (hq : Finite q) (hk : Finite k) {t : FVec Ideal S16x8192 .f32} (ht : ∀ h y, t (ix2 h y) = fT (fS q k) (ix2 h y)) (h : Fin 16) (y c : Fin 8192) :
    fE (fS q k) t (ix3 h y c) = ((headOf q k v h).E y c : EReal) := by
  rw [fE_at, ht, fS_real (v := v) hq hk, fT_real (v := v) hq hk, Real'.E_eq]
theorem fL_real (hq : Finite q) (hk : Finite k) {t : FVec Ideal S16x8192 .f32} (ht : ∀ h y, t (ix2 h y) = fT (fS q k) (ix2 h y)) (h : Fin 16) (y : Fin 8192) (z : Fin 1) :
    fL (fE (fS q k) t) (ix3 h y z) = ((headOf q k v h).L y : EReal) := by
  rw [fL_at]
  unfold Real'.L
  rw [coe_sum]
  exact Finset.sum_congr rfl fun c _ => fE_real hq hk ht h y c

/-- The reference's two arrays, of its arguments. -/
def refO (q k : FVec Ideal S16x8192x192 .f32) (v : FVec Ideal S16x8192x128 .f32) : FVec Ideal S16x8192x128 .f32 :=
  fO (fE (fS q k) (fM (fS q k))) (fL (fE (fS q k) (fM (fS q k)))) v
def refL (q k : FVec Ideal S16x8192x192 .f32) : FVec Ideal S16x8192x128 .f32 := fLog (fT (fS q k)) (fL (fE (fS q k) (fT (fS q k))))

theorem outO_eq (hq : Finite q) (hk : Finite k) (hv : Finite v) : outO (headOf q k v) = refO q k v := by
  funext i
  obtain ⟨h, y, d, rfl⟩ : ∃ (h : Fin 16) (y : Fin 8192) (d : Fin 128), i = ix3 h y d := ⟨_, _, _, eq_ix3 i⟩
  symm
  unfold refO
  rw [fO_at, fL_real (v := v) hq hk (fM_at _)]
  show _ = ((∑ c : Fin 8192, (headOf q k v h).p y c * (headOf q k v h).v c d : ℝ) : EReal)
  rw [← coe_sum_mul]
  refine Finset.sum_congr rfl fun c _ => congrArg₂ (fun a b : EReal => a * b) ?_ (hv _)
  rw [fE_real (v := v) hq hk (fM_at _), div_real (Real'.L_pos _ y).ne']
  rfl
theorem outL_eq (hq : Finite q) (hk : Finite k) : outL (headOf q k v) = refL q k := by
  funext i
  obtain ⟨h, y, d, rfl⟩ : ∃ (h : Fin 16) (y : Fin 8192) (d : Fin 128), i = ix3 h y d := ⟨_, _, _, eq_ix3 i⟩
  symm
  unfold refL
  rw [fLog_at, fL_real (v := v) hq hk (fun _ _ => rfl), fT_real (v := v) hq hk]
  exact (headOf q k v h).log_eq y
end heads

variable (m : (ℓ : Loc nD τ sig) → Buf (Elt Ideal) ℓ) (ρ : Dev nD → PrngReg)

/-- The reference's run, with its two arrays named. -/
theorem run_value : θ_run defs (onTc (τ := τ) (main (F := Ideal))) ⟨m, fun _ => 0, ρ⟩ fun r => ∀ c : Dev nD,
      r.2.mem ((c : Thread nD τ).loc main_v36) = refO (m ((c : Thread nD τ).loc main_arg0)) (m ((c : Thread nD τ).loc main_arg1)) (m ((c : Thread nD τ).loc main_arg2))
      ∧ r.2.mem ((c : Thread nD τ).loc main_v37) = refL (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run m ρ

/-- The reference leaves its arguments, and has no semaphores. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2.2, sem_eq_zero_of_no_sems (by decide) r.2⟩) (Value.run m ρ)

end Cert.Reference3Ideal.Fwd

namespace Cert.Proof

open Idealize.ShloMosaic Idealize.ShloMosaic.TcCoe Idealize.SL.Sem
open Cert.Reference3Ideal.Fwd (refO refL)

theorem facts_finite3 : Cert.Pre_finite3.Facts := ⟨by decide, by decide, by decide⟩

/-- The call's mask constant is named minus infinity. -/
theorem preserves3 : Cert.preserves_Kernel3_Kernel3Ideal := IdealRules.named_const.statement Cert.Kernel3Ideal.κ "mask" .f32 0xF149F2CA#32 ⊥ rfl

/-- The call's attention, and its logarithms of the sums, are the reference's. -/
theorem agree3 (hF : Cert.Pre_finite3.Facts) : Cert.algebraic_Kernel3Ideal_Reference3Ideal_pre_finite3 := by
  intro m g m' g' hpre hargs
  have hq : ∀ c, Cert.Kernel3Ideal.Fwd.Finite (Cert.Kernel3Ideal.Fwd.argQ m c) := fun c => finite_of hF.bcast_S_S16x8192x192 _ (hpre c).1
  have hk : ∀ c, Cert.Kernel3Ideal.Fwd.Finite (Cert.Kernel3Ideal.Fwd.argK m c) := fun c => finite_of hF.bcast_S_S16x8192x192 _ (hpre c).2.1
  have hv : ∀ c, Cert.Kernel3Ideal.Fwd.Finite (Cert.Kernel3Ideal.Fwd.argV m c) := fun c => finite_of hF.bcast_S_S16x8192x128 _ (hpre c).2.2
  refine ⟨fun c => Cert.Kernel3Ideal.Fwd.outO (Cert.Kernel3Ideal.Fwd.head m c), fun c => Cert.Kernel3Ideal.Fwd.outL (Cert.Kernel3Ideal.Fwd.head m c), Cert.Kernel3Ideal.Fwd.run_value m g hq hk hv, ?_⟩
  refine (θ_run _ _ _).mono (fun r h c => ?_) (Cert.Reference3Ideal.Fwd.run_value m' g')
  obtain ⟨e0, e1, e2⟩ := hargs c
  obtain ⟨h36, h37, hrest⟩ := h c
  refine ⟨h36.trans ?_, h37.trans ?_, hrest⟩
  · exact (congr (congr (congrArg refO e0) e1) e2).trans (Cert.Reference3Ideal.Fwd.outO_eq (hq c) (hk c) (hv c)).symm
  · exact (congr (congrArg refL e0) e1).trans (Cert.Reference3Ideal.Fwd.outL_eq (hq c) (hk c)).symm

end Cert.Proof

end
-- ==== Proof.HiddenValue.lean ====
module

public import proofs.«01_k».proof.Proof.GateValue
public import proofs.«01_k».proof.Proof.Gen.Kernel4Ideal.Value
public import Idealize.ShloMosaic.Lib.Pointwise

/-! # The gated hidden layer: what the call leaves in its three arrays -/

@[expose] public section

set_option maxRecDepth 16384

noncomputable section

namespace Cert.Kernel4Ideal.Hidden

open Idealize.ShloMosaic Idealize.ShloMosaic.TcCoe Idealize.ShloMosaic.Tactic Idealize.SL.Sem
open Cert.Kernel4Ideal Cert.Kernel4Ideal.Gen
open Cert.Kernel2Ideal.Gate (logi ld_rows emb_rows)

/-- The product of two matrices, entry by entry. -/
def prodOf {n k l : ℕ} (x : FVec Ideal ⟨2, ![n, k]⟩ .bf16) (w : FVec Ideal ⟨2, ![k, l]⟩ .bf16) : FVec Ideal ⟨2, ![n, l]⟩ .bf16 :=
  fun j => ∑ d : Fin k, x (ix2 (j 0) d) * w (ix2 d (j 1))
/-- The hidden layer at one entry, of the gate's argument and the factor. -/
def cellA (p q : EReal) : EReal := p * logi p * q
/-- The hidden layer of the input and the two weights. -/
def gated {n k l : ℕ} (x : FVec Ideal ⟨2, ![n, k]⟩ .bf16) (w z : FVec Ideal ⟨2, ![k, l]⟩ .bf16) : FVec Ideal ⟨2, ![n, l]⟩ .bf16 :=
  fun j => cellA (prodOf x w j) (prodOf x z j)

section pieces
variable (x : Vec Ideal S1024x2048 .bf16) (w z : Vec Ideal S2048x512 .bf16) (y : Fin 1024) (c : Fin 512)

theorem p3 : k0_pay3 x w (ix2 y c) = prodOf x w (ix2 y c) := by
  unfold prodOf
  pointwise [k0_pay3, k0_pay1]
theorem p4 : k0_pay4 x w (ix2 y c) = prodOf x w (ix2 y c) := by
  unfold prodOf
  pointwise [k0_pay4, k0_pay2]
theorem p5 : k0_pay5 x w z (ix2 y c) = gated x w z (ix2 y c) := by
  unfold gated cellA logi prodOf
  pointwise [k0_pay5, k0_pay2, k0_pay1]
end pieces

/-- A load of a whole block is the block. -/
theorem ld_all {n l : ℕ} {e : EltTy} (x : Vec Ideal ⟨2, ![n, l]⟩ e) (inb) :
    View.ld (Val := Elt Ideal) x (Rect.unit (s := ⟨2, ![n, l]⟩) ![0, 0] ![n, l] inb) = x := by
  funext j
  obtain ⟨y, c, rfl⟩ : ∃ (y : Fin n) (c : Fin l), j = ix2 y c := ⟨_, _, eq_ix2 j⟩
  exact ld_rows x 0 inb y c y (Nat.zero_add _).symm

/-- One store of a whole block leaves the stored value. -/
theorem canon_all (f g : Vec Ideal S1024x512 .bf16) (h : ∀ (y : Fin 1024) (c : Fin 512), f (ix2 y c) = g (ix2 y c)) :
    View.canon (Val := Elt Ideal) (e := .bf16) [⟨r0_2, f⟩] = g := by
  refine funext fun y => View.canon_apply_of_pieces g _ ?_ y (cover0_3 _ y)
  intro p hp x
  simp only [List.mem_cons, List.not_mem_nil, or_false] at hp
  subst hp
  obtain ⟨ρ, c, rfl⟩ : ∃ (ρ : Fin 1024) (c : Fin 512), x = ix2 ρ c := ⟨_, _, eq_ix2 x⟩
  exact (h ρ c).trans (congrArg g (emb_rows (n1 := 1024) (n2 := 512) 0 inb_S1024x512_S1024x512_0_0 ρ c ρ (Nat.zero_add _).symm)).symm

section blocks
variable (x : Vec Ideal S1024x2048 .bf16) (w z : Vec Ideal S2048x512 .bf16)

theorem out3 : out0_3 x w z = prodOf x w := by
  unfold out0_3
  refine canon_all _ _ fun y c => (p3 _ _ y c).trans ?_
  exact congrFun (congrArg₂ prodOf (ld_all x _) (ld_all w _)) _
theorem out4 : out0_4 x w z = prodOf x z := by
  unfold out0_4
  refine canon_all _ _ fun y c => (p4 _ _ y c).trans ?_
  exact congrFun (congrArg₂ prodOf (ld_all x _) (ld_all z _)) _
theorem out5 : out0_5 x w z = gated x w z := by
  unfold out0_5
  refine canon_all _ _ fun y c => (p5 _ _ _ y c).trans ?_
  exact congrFun (congr (congrArg₂ gated (ld_all x _) (ld_all w _)) (ld_all z _)) _
end blocks

/-! ## Blocks and arrays -/

theorem at0 : ∀ t : Fin grid0.N, win0_0.index t 0 = t.val / 8 ∧ win0_0.index t 1 = 0 := by decide +kernel
theorem at1 : ∀ t : Fin grid0.N, win0_1.index t 0 = 0 ∧ win0_1.index t 1 = t.val % 8 := by decide +kernel
theorem at2 : ∀ t : Fin grid0.N, win0_2.index t 0 = 0 ∧ win0_2.index t 1 = t.val % 8 := by decide +kernel
theorem at3 : ∀ t : Fin grid0.N, win0_3.index t 0 = t.val / 8 ∧ win0_3.index t 1 = t.val % 8 := by decide +kernel
theorem at4 : ∀ t : Fin grid0.N, win0_4.index t 0 = t.val / 8 ∧ win0_4.index t 1 = t.val % 8 := by decide +kernel
theorem at5 : ∀ t : Fin grid0.N, win0_5.index t 0 = t.val / 8 ∧ win0_5.index t 1 = t.val % 8 := by decide +kernel

/-- The row and the column of the arrays that a point's block holds. -/
def rowOf (t : Fin cfg0.N) (y : Fin 1024) : Fin 8192 := ⟨1024 * (t.val / 8) + y.val, by have : cfg0.N = 64 := N_0; omega⟩
def colOf (t : Fin cfg0.N) (c : Fin 512) : Fin 4096 := ⟨512 * (t.val % 8) + c.val, by omega⟩

/-- Two places of a matrix are one if their coordinates are. -/
theorem idx_eq {n l : ℕ} {i j : Shape.Idx ⟨2, ![n, l]⟩} (h0 : (i 0).val = (j 0).val) (h1 : (i 1).val = (j 1).val) : i = j := by
  funext a
  match a with
  | ⟨0, _⟩ => exact Fin.ext h0
  | ⟨1, _⟩ => exact Fin.ext h1

section reads
variable (c : Dev nD) (t : Fin cfg0.N)

theorem read_h (G : Buf (Elt Ideal) ((c : Thread nD τ).loc main_arg0)) (y : Fin 1024) (d : Fin 2048) :
    (((cfg0.win 0).blk t).view.read (Elt Ideal) G : FVec Ideal S1024x2048 .bf16) (ix2 y d) = (G : FVec Ideal S8192x2048 .bf16) (ix2 (rowOf t y) d) := by
  rw [View.read_apply]
  have i0 := at0 t
  refine congrArg G (idx_eq ?_ ?_)
  · show win0_0.index t 0 * 1024 + 1 * y.val = 1024 * (t.val / 8) + y.val; rw [i0.1]; omega
  · show win0_0.index t 1 * 2048 + 1 * d.val = d.val; rw [i0.2]; omega
theorem read_wg (G : Buf (Elt Ideal) ((c : Thread nD τ).loc main_arg1)) (d : Fin 2048) (x : Fin 512) :
    (((cfg0.win 1).blk t).view.read (Elt Ideal) G : FVec Ideal S2048x512 .bf16) (ix2 d x) = (G : FVec Ideal S2048x4096 .bf16) (ix2 d (colOf t x)) := by
  rw [View.read_apply]
  have i0 := at1 t
  refine congrArg G (idx_eq ?_ ?_)
  · show win0_1.index t 0 * 2048 + 1 * d.val = d.val; rw [i0.1]; omega
  · show win0_1.index t 1 * 512 + 1 * x.val = 512 * (t.val % 8) + x.val; rw [i0.2]; omega
theorem read_wu (G : Buf (Elt Ideal) ((c : Thread nD τ).loc main_arg2)) (d : Fin 2048) (x : Fin 512) :
    (((cfg0.win 2).blk t).view.read (Elt Ideal) G : FVec Ideal S2048x512 .bf16) (ix2 d x) = (G : FVec Ideal S2048x4096 .bf16) (ix2 d (colOf t x)) := by
  rw [View.read_apply]
  have i0 := at2 t
  refine congrArg G (idx_eq ?_ ?_)
  · show win0_2.index t 0 * 2048 + 1 * d.val = d.val; rw [i0.1]; omega
  · show win0_2.index t 1 * 512 + 1 * x.val = 512 * (t.val % 8) + x.val; rw [i0.2]; omega
theorem read_o3 (G : Buf (Elt Ideal) ((c : Thread nD τ).loc main_v0_0)) (y : Fin 1024) (x : Fin 512) :
    (((cfg0.win 3).blk t).view.read (Elt Ideal) G : FVec Ideal S1024x512 .bf16) (ix2 y x) = (G : FVec Ideal S8192x4096 .bf16) (ix2 (rowOf t y) (colOf t x)) := by
  rw [View.read_apply]
  have i0 := at3 t
  refine congrArg G (idx_eq ?_ ?_)
  · show win0_3.index t 0 * 1024 + 1 * y.val = 1024 * (t.val / 8) + y.val; rw [i0.1]; omega
  · show win0_3.index t 1 * 512 + 1 * x.val = 512 * (t.val % 8) + x.val; rw [i0.2]; omega
theorem read_o4 (G : Buf (Elt Ideal) ((c : Thread nD τ).loc main_v0_1)) (y : Fin 1024) (x : Fin 512) :
    (((cfg0.win 4).blk t).view.read (Elt Ideal) G : FVec Ideal S1024x512 .bf16) (ix2 y x) = (G : FVec Ideal S8192x4096 .bf16) (ix2 (rowOf t y) (colOf t x)) := by
  rw [View.read_apply]
  have i0 := at4 t
  refine congrArg G (idx_eq ?_ ?_)
  · show win0_4.index t 0 * 1024 + 1 * y.val = 1024 * (t.val / 8) + y.val; rw [i0.1]; omega
  · show win0_4.index t 1 * 512 + 1 * x.val = 512 * (t.val % 8) + x.val; rw [i0.2]; omega
theorem read_o5 (G : Buf (Elt Ideal) ((c : Thread nD τ).loc main_v0_2)) (y : Fin 1024) (x : Fin 512) :
    (((cfg0.win 5).blk t).view.read (Elt Ideal) G : FVec Ideal S1024x512 .bf16) (ix2 y x) = (G : FVec Ideal S8192x4096 .bf16) (ix2 (rowOf t y) (colOf t x)) := by
  rw [View.read_apply]
  have i0 := at5 t
  refine congrArg G (idx_eq ?_ ?_)
  · show win0_5.index t 0 * 1024 + 1 * y.val = 1024 * (t.val / 8) + y.val; rw [i0.1]; omega
  · show win0_5.index t 1 * 512 + 1 * x.val = 512 * (t.val % 8) + x.val; rw [i0.2]; omega
end reads

variable (m : (ℓ : Loc nD τ sig) → Buf (Elt Ideal) ℓ)

/-- The three arguments on a device. -/
abbrev argH (c : Dev nD) : FVec Ideal S8192x2048 .bf16 := m ((c : Thread nD τ).loc main_arg0)
abbrev argG (c : Dev nD) : FVec Ideal S2048x4096 .bf16 := m ((c : Thread nD τ).loc main_arg1)
abbrev argU (c : Dev nD) : FVec Ideal S2048x4096 .bf16 := m ((c : Thread nD τ).loc main_arg2)

/-- The blocks a point multiplies. -/
abbrev blkH (c : Dev nD) (t : Fin cfg0.N) : FVec Ideal S1024x2048 .bf16 := iblk m c 0 t
abbrev blkG (c : Dev nD) (t : Fin cfg0.N) : FVec Ideal S2048x512 .bf16 := iblk m c 1 t
abbrev blkU (c : Dev nD) (t : Fin cfg0.N) : FVec Ideal S2048x512 .bf16 := iblk m c 2 t

/-- A block of the product is the product of blocks. -/
theorem prod_gate (c : Dev nD) (t : Fin cfg0.N) (y : Fin 1024) (x : Fin 512) :
    prodOf (blkH m c t) (blkG m c t) (ix2 y x) = prodOf (argH m c) (argG m c) (ix2 (rowOf t y) (colOf t x)) :=
  Finset.sum_congr rfl fun d _ => congrArg₂ (fun a b : EReal => a * b) (read_h c t (m ((c : Thread nD τ).loc main_arg0)) y d) (read_wg c t (m ((c : Thread nD τ).loc main_arg1)) d x)
theorem prod_up (c : Dev nD) (t : Fin cfg0.N) (y : Fin 1024) (x : Fin 512) :
    prodOf (blkH m c t) (blkU m c t) (ix2 y x) = prodOf (argH m c) (argU m c) (ix2 (rowOf t y) (colOf t x)) :=
  Finset.sum_congr rfl fun d _ => congrArg₂ (fun a b : EReal => a * b) (read_h c t (m ((c : Thread nD τ).loc main_arg0)) y d) (read_wu c t (m ((c : Thread nD τ).loc main_arg2)) d x)

/-- The grid point whose block holds a place of the result. -/
def pointOf (i : S8192x4096.Idx) : Fin cfg0.N :=
  ⟨8 * ((i 0 : ℕ) / 1024) + (i 1 : ℕ) / 512, by
    have hN : cfg0.N = 64 := N_0
    have h0 : (i 0 : ℕ) < 8192 := (i 0).isLt
    have h1 : (i 1 : ℕ) < 4096 := (i 1).isLt
    omega⟩
theorem in_row (i : S8192x4096.Idx) : (pointOf i).val / 8 * 1024 ≤ (i 0 : ℕ) ∧ (i 0 : ℕ) < (pointOf i).val / 8 * 1024 + 1024 := by
  have h0 : (i 0 : ℕ) < 8192 := (i 0).isLt
  have h1 : (i 1 : ℕ) < 4096 := (i 1).isLt
  have hv : (pointOf i).val = 8 * ((i 0 : ℕ) / 1024) + (i 1 : ℕ) / 512 := rfl
  omega
theorem in_col (i : S8192x4096.Idx) : (pointOf i).val % 8 * 512 ≤ (i 1 : ℕ) ∧ (i 1 : ℕ) < (pointOf i).val % 8 * 512 + 512 := by
  have h0 : (i 0 : ℕ) < 8192 := (i 0).isLt
  have h1 : (i 1 : ℕ) < 4096 := (i 1).isLt
  have hv : (pointOf i).val = 8 * ((i 0 : ℕ) / 1024) + (i 1 : ℕ) / 512 := rfl
  omega

theorem flushed3 (c : Dev nD) (t : Fin cfg0.N) (hf : (cfg0.win 3).flush t = true) :
    (dats m 0 c).flushed 3 t = ((cfg0.win 3).blk t).view.read (Elt Ideal) (prodOf (argH m c) (argG m c)) := by
  rw [Value.flushed3, out3]
  funext j
  obtain ⟨y, x, rfl⟩ : ∃ (y : Fin 1024) (x : Fin 512), j = ix2 y x := ⟨_, _, eq_ix2 j⟩
  refine Eq.trans ?_ (read_o3 c t (prodOf (argH m c) (argG m c)) y x).symm
  exact prod_gate m c t y x
theorem flushed4 (c : Dev nD) (t : Fin cfg0.N) (hf : (cfg0.win 4).flush t = true) :
    (dats m 0 c).flushed 4 t = ((cfg0.win 4).blk t).view.read (Elt Ideal) (prodOf (argH m c) (argU m c)) := by
  rw [Value.flushed4, out4]
  funext j
  obtain ⟨y, x, rfl⟩ : ∃ (y : Fin 1024) (x : Fin 512), j = ix2 y x := ⟨_, _, eq_ix2 j⟩
  refine Eq.trans ?_ (read_o4 c t (prodOf (argH m c) (argU m c)) y x).symm
  exact prod_up m c t y x
theorem flushed5 (c : Dev nD) (t : Fin cfg0.N) (hf : (cfg0.win 5).flush t = true) :
    (dats m 0 c).flushed 5 t = ((cfg0.win 5).blk t).view.read (Elt Ideal) (gated (argH m c) (argG m c) (argU m c)) := by
  rw [Value.flushed5, out5]
  funext j
  obtain ⟨y, x, rfl⟩ : ∃ (y : Fin 1024) (x : Fin 512), j = ix2 y x := ⟨_, _, eq_ix2 j⟩
  refine Eq.trans ?_ (read_o5 c t (gated (argH m c) (argG m c) (argU m c)) y x).symm
  exact congrArg₂ cellA (prod_gate m c t y x) (prod_up m c t y x)
theorem final3 (c : Dev nD) : (dats m 0 c).arrAt 3 cfg0.N = prodOf (argH m c) (argG m c) :=
  (dats m 0 c).arrAt_eq_of_cover 3 (prodOf (argH m c) (argG m c)) (flushed3 m c) fun i => by
    refine ⟨pointOf i, flush0_3 (pointOf i), ?_⟩
    show i ∈ ((View.whole main_v0_0).slice (win0_3.rect (pointOf i))).set
    rw [View.set_slice_whole, Rect.mem_set_unit]
    have i0 := at3 (pointOf i)
    intro a
    match a with
    | ⟨0, _⟩ => show win0_3.index (pointOf i) 0 * 1024 ≤ (i 0 : ℕ) ∧ (i 0 : ℕ) < win0_3.index (pointOf i) 0 * 1024 + 1024; rw [i0.1]; exact in_row i
    | ⟨1, _⟩ => show win0_3.index (pointOf i) 1 * 512 ≤ (i 1 : ℕ) ∧ (i 1 : ℕ) < win0_3.index (pointOf i) 1 * 512 + 512; rw [i0.2]; exact in_col i
theorem final4 (c : Dev nD) : (dats m 0 c).arrAt 4 cfg0.N = prodOf (argH m c) (argU m c) :=
  (dats m 0 c).arrAt_eq_of_cover 4 (prodOf (argH m c) (argU m c)) (flushed4 m c) fun i => by
    refine ⟨pointOf i, flush0_4 (pointOf i), ?_⟩
    show i ∈ ((View.whole main_v0_1).slice (win0_4.rect (pointOf i))).set
    rw [View.set_slice_whole, Rect.mem_set_unit]
    have i0 := at4 (pointOf i)
    intro a
    match a with
    | ⟨0, _⟩ => show win0_4.index (pointOf i) 0 * 1024 ≤ (i 0 : ℕ) ∧ (i 0 : ℕ) < win0_4.index (pointOf i) 0 * 1024 + 1024; rw [i0.1]; exact in_row i
    | ⟨1, _⟩ => show win0_4.index (pointOf i) 1 * 512 ≤ (i 1 : ℕ) ∧ (i 1 : ℕ) < win0_4.index (pointOf i) 1 * 512 + 512; rw [i0.2]; exact in_col i
theorem final5 (c : Dev nD) : (dats m 0 c).arrAt 5 cfg0.N = gated (argH m c) (argG m c) (argU m c) :=
  (dats m 0 c).arrAt_eq_of_cover 5 (gated (argH m c) (argG m c) (argU m c)) (flushed5 m c) fun i => by
    refine ⟨pointOf i, flush0_5 (pointOf i), ?_⟩
    show i ∈ ((View.whole main_v0_2).slice (win0_5.rect (pointOf i))).set
    rw [View.set_slice_whole, Rect.mem_set_unit]
    have i0 := at5 (pointOf i)
    intro a
    match a with
    | ⟨0, _⟩ => show win0_5.index (pointOf i) 0 * 1024 ≤ (i 0 : ℕ) ∧ (i 0 : ℕ) < win0_5.index (pointOf i) 0 * 1024 + 1024; rw [i0.1]; exact in_row i
    | ⟨1, _⟩ => show win0_5.index (pointOf i) 1 * 512 ≤ (i 1 : ℕ) ∧ (i 1 : ℕ) < win0_5.index (pointOf i) 1 * 512 + 512; rw [i0.2]; exact in_col i

end Cert.Kernel4Ideal.Hidden

end
-- ==== Proof.HiddenAgree.lean ====
module

public import proofs.«01_k».proof.Proof.HiddenValue
public import proofs.«01_k».proof.Proof.Agree
public import proofs.«01_k».proof.Proof.Gen.Reference4Ideal.Run

/-! # The gated hidden layer: the call's arrays and the reference's are equal -/

@[expose] public section

set_option maxRecDepth 16384

noncomputable section

namespace Cert.Reference4Ideal.Hidden

open Idealize.ShloMosaic Idealize.ShloMosaic.TcCoe Idealize.ShloMosaic.Tactic Idealize.SL.Sem
open Cert.Reference4Ideal Cert.Reference4Ideal.Gen
open Cert.Kernel2Ideal.Gate (logi)
open Cert.Kernel4Ideal.Hidden (prodOf gated cellA)

section terms
variable (h : FVec Ideal S8192x2048 .bf16) (w z : FVec Ideal S2048x4096 .bf16)

/-- A product as the reference has it. -/
def rP : FVec Ideal S8192x4096 .f32 :=
  Host.dotGeneral dot_S8192x2048_S2048x4096_S8192x4096_1_0_0_1_n_n none (extf .f32 h bitsLt_bf16_f32) (extf .f32 w bitsLt_bf16_f32)
/-- The logistic function of a product. -/
def rS : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (rP h w))))
/-- The hidden layer, as the reference has it. -/
def rA : FVec Ideal S8192x4096 .bf16 := truncf .bf16 (mulf (mulf (rP h w) (rS h w)) (rP h z)) bitsLt_bf16_f32

theorem rP_at (y : Fin 8192) (c : Fin 4096) : rP h w (ix2 y c) = prodOf h w (ix2 y c) := by
  unfold prodOf
  pointwise [rP]
theorem rS_at (y : Fin 8192) (c : Fin 4096) : rS h w (ix2 y c) = Ideal.div 1 (1 + Ideal.exp (-(rP h w (ix2 y c)))) := by
  pointwise [rS]
theorem rA_at (y : Fin 8192) (c : Fin 4096) : rA h w z (ix2 y c) = rP h w (ix2 y c) * rS h w (ix2 y c) * rP h z (ix2 y c) := by
  pointwise [rA]

theorem prod_eq : truncf .bf16 (rP h w) bitsLt_bf16_f32 = prodOf h w := by
  funext i
  obtain ⟨y, c, rfl⟩ : ∃ (y : Fin 8192) (c : Fin 4096), i = ix2 y c := ⟨_, _, eq_ix2 i⟩
  exact rP_at h w y c
theorem hidden_eq : rA h w z = gated h w z := by
  funext i
  obtain ⟨y, c, rfl⟩ : ∃ (y : Fin 8192) (c : Fin 4096), i = ix2 y c := ⟨_, _, eq_ix2 i⟩
  have hs : rS h w (ix2 y c) = logi (prodOf h w (ix2 y c)) := by rw [rS_at, rP_at, logi, zero_sub]
  rw [rA_at, hs, rP_at, rP_at]
  rfl
end terms

variable (m : (ℓ : Loc nD τ sig) → Buf (Elt Ideal) ℓ) (ρ : Dev nD → PrngReg)

/-- The reference's run, with its three arrays named. -/
theorem run_value : θ_run defs (onTc (τ := τ) (main (F := Ideal))) ⟨m, fun _ => 0, ρ⟩ fun r => ∀ c : Dev nD,
      r.2.mem ((c : Thread nD τ).loc main_v7) = truncf (F := Ideal) .bf16 (rP (m ((c : Thread nD τ).loc main_arg0)) (m ((c : Thread nD τ).loc main_arg1))) bitsLt_bf16_f32
      ∧ r.2.mem ((c : Thread nD τ).loc main_v8) = truncf (F := Ideal) .bf16 (rP (m ((c : Thread nD τ).loc main_arg0)) (m ((c : Thread nD τ).loc main_arg2))) bitsLt_bf16_f32
      ∧ r.2.mem ((c : Thread nD τ).loc main_v9) = rA (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run m ρ

/-- The reference leaves its arguments, and has no semaphores. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2.2.2, sem_eq_zero_of_no_sems (by decide) r.2⟩) (Value.run m ρ)

end Cert.Reference4Ideal.Hidden

namespace Cert.Proof

open Idealize.ShloMosaic Idealize.ShloMosaic.TcCoe Idealize.SL.Sem
open Cert.Kernel4Ideal.Hidden (prodOf gated argH argG argU final3 final4 final5)
open Cert.Reference4Ideal.Hidden (rA prod_eq hidden_eq)

/-- The call's three arrays are the reference's, whatever the arguments. -/
theorem agree4 : Cert.algebraic_Kernel4Ideal_Reference4Ideal := by
  intro m g m' g' _ hargs
  refine ⟨fun c => prodOf (argH m c) (argG m c), fun c => prodOf (argH m c) (argU m c), fun c => gated (argH m c) (argG m c) (argU m c), ?_, ?_⟩
  · exact (θ_run _ _ _).mono (fun r h c => ⟨(h c).1.trans (final3 m c), (h c).2.1.trans (final4 m c), (h c).2.2.1.trans (final5 m c), (h c).2.2.2⟩) (Cert.Kernel4Ideal.Value.run_blocks m g)
  refine (θ_run _ _ _).mono (fun r h c => ?_) (Cert.Reference4Ideal.Hidden.run_value m' g')
  obtain ⟨e0, e1, e2⟩ := hargs c
  obtain ⟨h7, h8, h9, hrest⟩ := h c
  refine ⟨h7.trans ((prod_eq _ _).trans ?_), h8.trans ((prod_eq _ _).trans ?_), h9.trans ((hidden_eq _ _ _).trans ?_), hrest⟩
  · exact congrArg₂ prodOf e0 e1
  · exact congrArg₂ prodOf e0 e2
  · exact congr (congrArg₂ gated e0 e1) e2

end Cert.Proof

end
-- ==== Proof.SlabsValue.lean ====
module

public import proofs.«01_k».proof.Proof.Gen.Kernel5Ideal.Value
public import Idealize.ShloMosaic.Lib.Pointwise
public import Idealize.ShloMosaic.Lib.VecWindow

/-! # The gradient of the two hidden weights: what the call leaves in its array

A grid point adds the product of two blocks of 2048 positions; after four points the sum is over all the positions. -/

@[expose] public section

set_option maxRecDepth 16384

noncomputable section

namespace Cert.Kernel5Ideal.Slabs

open Idealize.ShloMosaic Idealize.ShloMosaic.TcCoe Idealize.ShloMosaic.Tactic Idealize.SL.Sem
open Cert.Kernel5Ideal Cert.Kernel5Ideal.Gen

/-! ## One point -/

section point
variable (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1x1024x512 .bf16) (harg5 : arg5.IsWhole) (arg6 : Memref sig .tc .vmem S1024x512 .f32) (harg6 : arg6.IsWhole)
  (x0 : Vec Ideal S2048x1024 .bf16) (x1 : Vec Ideal S2048x512 .bf16) (xs : Vec Ideal S1024x512 .f32)

/-- The two blocks and the accumulator, loaded whole. -/
def got0 : Vec Ideal S2048x1024 .bf16 := arg3.view.readAt (Elt Ideal) (Rect.unit (s := S2048x1024) ![0, 0] S2048x1024.size (by decide)).toLoadRect (harg3.unread x0)
def got1 : Vec Ideal S2048x512 .bf16 := arg4.view.readAt (Elt Ideal) (Rect.unit (s := S2048x512) ![0, 0] S2048x512.size (by decide)).toLoadRect (harg4.unread x1)
def gotS : Vec Ideal S1024x512 .f32 := arg6.view.readAt (Elt Ideal) (Rect.unit (s := S1024x512) ![0, 0] S1024x512.size (by decide)).toLoadRect (harg6.unread xs)
theorem got0_eq : got0 arg3 harg3 x0 = x0 := by unfold got0; rw [View.readAt_full, harg3.read_unread]
theorem got1_eq : got1 arg4 harg4 x1 = x1 := by unfold got1; rw [View.readAt_full, harg4.read_unread]
theorem gotS_eq : gotS arg6 harg6 xs = xs := by unfold gotS; rw [View.readAt_full, harg6.read_unread]

/-- The piece that stores the accumulator, or the result's block, whole. -/
def mat (w : FVec Ideal S1024x512 .f32) : View.Piece (Elt Ideal) S1024x512 .f32 := ⟨Rect.unit (s := S1024x512) ![0, 0] S1024x512.size (by decide), w⟩
def res (w : FVec Ideal S1x1024x512 .bf16) : View.Piece (Elt Ideal) S1x1024x512 .bf16 := ⟨Rect.unit (s := S1x1024x512) ![0, 0, 0] S1x1024x512.size (by decide), w⟩

/-- The accumulator after a first point, and after a later one. -/
def first : FVec Ideal S1024x512 .f32 := k0_pay1 (F := Ideal) x0 x1
def later : FVec Ideal S1024x512 .f32 := addf xs (k0_pay1 (F := Ideal) x0 x1)
theorem first_eq : k0_pay2 (F := Ideal) (got0 arg3 harg3 x0) (got1 arg4 harg4 x1) = first x0 x1 := by
  rw [got0_eq, got1_eq]
  exact shapeCast_self _ _
theorem later_eq : k0_pay3 (F := Ideal) (got0 arg3 harg3 x0) (got1 arg4 harg4 x1) (gotS arg6 harg6 xs) = later x0 x1 xs := by
  rw [got0_eq, got1_eq, gotS_eq]
  exact shapeCast_self _ _

theorem stored {w w' : FVec Ideal S1024x512 .f32} (h : w = w') {L : List (View.Piece (Elt Ideal) S1024x512 .f32)} (e : L = [mat w]) :
    VS0_0.read (Elt Ideal) (VS0_0.writes (Elt Ideal) VS0_0.junk L) = w' := by
  unfold mat at e
  rw [e, View.read_writes_full VS0_0, h]
theorem put {w w' : FVec Ideal S1024x512 .f32} (h : w = w') {L : List (View.Piece (Elt Ideal) S1x1024x512 .bf16)}
    (e : L = [res (k0_pay4 (F := Ideal) (arg6.view.readCov (Val := Elt Ideal) [mat w] (Rect.unit (s := S1024x512) ![0, 0] S1024x512.size (by decide)).toLoadRect))]) :
    VO0_2.read (Elt Ideal) (VO0_2.writes (Elt Ideal) VO0_2.junk L) = k0_pay4 (F := Ideal) w' := by
  unfold res mat at e
  rw [e, View.read_writes_full VO0_2, View.readCov_full, h]

theorem case_A (hc0 : cond0_0 i) (hc1 : ¬cond0_1 i) (hc2 : ¬cond0_2 i) :
    sout0_A_0 c i arg3 harg3 arg4 harg4 arg5 harg5 arg6 harg6 hc0 hc1 hc2 x0 x1 = first x0 x1 :=
  stored (first_eq arg3 harg3 arg4 harg4 x0 x1) (by sl_kernel_rfl)
theorem case_B (hc0 : ¬cond0_0 i) (hc1 : cond0_1 i) (hc2 : ¬cond0_2 i) :
    sout0_B_0 c i arg3 harg3 arg4 harg4 arg5 harg5 arg6 harg6 hc0 hc1 hc2 x0 x1 xs = later x0 x1 xs :=
  stored (later_eq arg3 harg3 arg4 harg4 arg6 harg6 x0 x1 xs) (by sl_kernel_rfl)
theorem case_C (hc0 : ¬cond0_0 i) (hc1 : cond0_1 i) (hc2 : cond0_2 i) :
    sout0_C_0 c i arg3 harg3 arg4 harg4 arg5 harg5 arg6 harg6 hc0 hc1 hc2 x0 x1 xs = later x0 x1 xs :=
  stored (later_eq arg3 harg3 arg4 harg4 arg6 harg6 x0 x1 xs) (by sl_kernel_rfl)
theorem out_C (hc0 : ¬cond0_0 i) (hc1 : cond0_1 i) (hc2 : cond0_2 i) :
    out0_C_2 c i arg3 harg3 arg4 harg4 arg5 harg5 arg6 harg6 hc0 hc1 hc2 x0 x1 xs = k0_pay4 (F := Ideal) (later x0 x1 xs) :=
  put arg6 (later_eq arg3 harg3 arg4 harg4 arg6 harg6 x0 x1 xs) (by sl_kernel_rfl)

theorem first_at (y : Fin 1024) (x : Fin 512) : first x0 x1 (ix2 y x) = ∑ d : Fin 2048, x0 (ix2 d y) * x1 (ix2 d x) := by
  pointwise [first, k0_pay1]
theorem later_at (y : Fin 1024) (x : Fin 512) : later x0 x1 xs (ix2 y x) = xs (ix2 y x) + ∑ d : Fin 2048, x0 (ix2 d y) * x1 (ix2 d x) :=
  congrArg (xs (ix2 y x) + ·) (first_at x0 x1 y x)
theorem res_at (y : Fin 1024) (x : Fin 512) : k0_pay4 (F := Ideal) xs (ix3 0 y x) = xs (ix2 y x) := by
  pointwise [k0_pay4]
end point

/-! ## Blocks and arrays -/

theorem at0 : ∀ t : Fin grid0.N, win0_0.index t 0 = t.val % 4 ∧ win0_0.index t 1 = t.val / 32 := by decide +kernel
theorem at1 : ∀ t : Fin grid0.N, win0_1.index t 0 = t.val % 4 ∧ win0_1.index t 1 = t.val / 4 % 8 := by decide +kernel
theorem at2 : ∀ t : Fin grid0.N, win0_2.index t 0 = t.val / 4 % 8 ∧ win0_2.index t 1 = t.val / 32 ∧ win0_2.index t 2 = 0 := by decide +kernel

/-- The position counted by a number. -/
def seq (k : ℕ) : Fin 8192 := ⟨k % 8192, by omega⟩
/-- The column of the stream, the device and the column of the hidden layer that a place in a point's block stands for. -/
def rowOf (n : ℕ) (y : Fin 1024) : Fin 2048 := ⟨1024 * (n / 32 % 2) + y.val, by omega⟩
def slab (n : ℕ) : Fin 8 := ⟨n / 4 % 8, by omega⟩
/-- A column of the hidden layer by device and place. -/
def colAt (s : Fin 8) (x : Fin 512) : Fin 4096 := ⟨512 * s.val + x.val, by omega⟩

/-- What one position adds to a place of the gradient. -/
def term (h : FVec Ideal S8192x2048 .bf16) (d : FVec Ideal S8192x4096 .bf16) (i : Fin 2048) (j : Fin 4096) (k : ℕ) : EReal := h (ix2 (seq k) i) * d (ix2 (seq k) j)
/-- The gradient, each device's columns by themselves. -/
def outS (h : FVec Ideal S8192x2048 .bf16) (d : FVec Ideal S8192x4096 .bf16) : FVec Ideal S8x2048x512 .bf16 :=
  fun j => ∑ k : Fin 8192, h (ix2 k (j 1)) * d (ix2 k (colAt (j 0) (j 2)))

theorem all_terms (h : FVec Ideal S8192x2048 .bf16) (d : FVec Ideal S8192x4096 .bf16) (s : Fin 8) (i : Fin 2048) (x : Fin 512) :
    ∑ k ∈ Finset.range 8192, term h d i (colAt s x) k = outS h d (ix3 s i x) := by
  rw [Finset.sum_range]
  refine Finset.sum_congr rfl fun k _ => ?_
  have hk : seq k.val = k := Fin.ext (Nat.mod_eq_of_lt k.isLt)
  unfold term
  rw [hk]
  rfl
/-- A sum over the first numbers, and the next run of them. -/
theorem add_run (f : ℕ → EReal) (n b : ℕ) : ∑ k ∈ Finset.range n, f k + ∑ d : Fin b, f (n + d.val) = ∑ k ∈ Finset.range (n + b), f k := by
  rw [Finset.sum_range_add, Finset.sum_range (fun k => f (n + k))]

variable (m : (ℓ : Loc nD τ sig) → Buf (Elt Ideal) ℓ)

/-- The two arguments on a device. -/
abbrev argH (c : Dev nD) : FVec Ideal S8192x2048 .bf16 := m ((c : Thread nD τ).loc main_arg0)
abbrev argD (c : Dev nD) : FVec Ideal S8192x4096 .bf16 := m ((c : Thread nD τ).loc main_arg1)

section reads
variable (c : Dev nD) (t : Fin cfg0.N)

theorem read_h (G : Buf (Elt Ideal) ((c : Thread nD τ).loc main_arg0)) (d : Fin 2048) (y : Fin 1024) :
    (((cfg0.win 0).blk t).view.read (Elt Ideal) G : FVec Ideal S2048x1024 .bf16) (ix2 d y) = (G : FVec Ideal S8192x2048 .bf16) (ix2 (seq (2048 * (t.val % 4) + d.val)) (rowOf t.val y)) := by
  rw [View.read_apply]
  show G _ = G _
  have i0 := at0 t
  have hN : t.val < 64 := lt_of_lt_of_eq t.isLt N_0
  congr 1; funext a; apply Fin.ext
  match a with
  | ⟨0, _⟩ => show win0_0.index t 0 * 2048 + 1 * d.val = (2048 * (t.val % 4) + d.val) % 8192; rw [i0.1]; omega
  | ⟨1, _⟩ => show win0_0.index t 1 * 1024 + 1 * y.val = 1024 * (t.val / 32 % 2) + y.val; rw [i0.2]; omega
theorem read_d (G : Buf (Elt Ideal) ((c : Thread nD τ).loc main_arg1)) (d : Fin 2048) (x : Fin 512) :
    (((cfg0.win 1).blk t).view.read (Elt Ideal) G : FVec Ideal S2048x512 .bf16) (ix2 d x) = (G : FVec Ideal S8192x4096 .bf16) (ix2 (seq (2048 * (t.val % 4) + d.val)) (colAt (slab t.val) x)) := by
  rw [View.read_apply]
  show G _ = G _
  have i0 := at1 t
  congr 1; funext a; apply Fin.ext
  match a with
  | ⟨0, _⟩ => show win0_1.index t 0 * 2048 + 1 * d.val = (2048 * (t.val % 4) + d.val) % 8192; rw [i0.1]; omega
  | ⟨1, _⟩ => show win0_1.index t 1 * 512 + 1 * x.val = 512 * (t.val / 4 % 8) + x.val; rw [i0.2]; omega
theorem read_o (G : Buf (Elt Ideal) ((c : Thread nD τ).loc main_v0)) (y : Fin 1024) (x : Fin 512) :
    (((cfg0.win 2).blk t).view.read (Elt Ideal) G : FVec Ideal S1x1024x512 .bf16) (ix3 0 y x) = (G : FVec Ideal S8x2048x512 .bf16) (ix3 (slab t.val) (rowOf t.val y) x) := by
  rw [View.read_apply]
  show G _ = G _
  have i0 := at2 t
  have hN : t.val < 64 := lt_of_lt_of_eq t.isLt N_0
  congr 1; funext a; apply Fin.ext
  match a with
  | ⟨0, _⟩ => show win0_2.index t 0 * 1 + 1 * 0 = t.val / 4 % 8; rw [i0.1]; omega
  | ⟨1, _⟩ => show win0_2.index t 1 * 1024 + 1 * y.val = 1024 * (t.val / 32 % 2) + y.val; rw [i0.2.1]; omega
  | ⟨2, _⟩ => show win0_2.index t 2 * 512 + 1 * x.val = x.val; rw [i0.2.2]; omega

/-- The blocks a point multiplies, and what they add. -/
abbrev blkH : FVec Ideal S2048x1024 .bf16 := iblk m c 0 t
abbrev blkD : FVec Ideal S2048x512 .bf16 := iblk m c 1 t
theorem block_sum (y : Fin 1024) (x : Fin 512) :
    (∑ d : Fin 2048, blkH m c t (ix2 d y) * blkD m c t (ix2 d x) : EReal)
      = ∑ d : Fin 2048, term (argH m c) (argD m c) (rowOf t.val y) (colAt (slab t.val) x) (2048 * (t.val % 4) + d.val) :=
  Finset.sum_congr rfl fun d _ => congrArg₂ (fun a b : EReal => a * b) (read_h c t (m ((c : Thread nD τ).loc main_arg0)) d y) (read_d c t (m ((c : Thread nD τ).loc main_arg1)) d x)
end reads

/-- The accumulator after a point. -/
def here (c : Dev nD) (n : ℕ) (hn : n < cfg0.N) : FVec Ideal S1024x512 .f32 := (outsAt0 m c n hn).2

section tuples
variable {α β : Type} {o : α × β} {a : α} {b : β}
theorem snd_of (h : o = (a, b)) {z : β} (h' : b = z) : o.2 = z := by subst h; exact h'
theorem fst_of (h : o = (a, b)) {z : α} (h' : a = z) : o.1 = z := by subst h; exact h'
end tuples

theorem here_first (c : Dev nD) (t : Fin cfg0.N) (h0 : t.val % 4 = 0) : here m c t.val t.isLt = first (blkH m c t) (blkD m c t) :=
  snd_of (outsAt0_A m c t h0 (by omega) (by omega)) (case_A ..)
theorem here_later (c : Dev nD) (t : Fin cfg0.N) (h0 : ¬t.val % 4 = 0) :
    here m c t.val t.isLt = later (blkH m c t) (blkD m c t) (here m c (t.val - 1) (Nat.lt_of_le_of_lt (Nat.sub_le _ _) t.isLt)) := by
  by_cases h2 : t.val % 4 = 3
  · exact snd_of (outsAt0_C m c t h0 (by omega) h2) (case_C ..)
  · exact snd_of (outsAt0_B m c t h0 (by omega) h2) (case_B ..)
theorem put_last (c : Dev nD) (t : Fin cfg0.N) (h2 : t.val % 4 = 3) : (outsAt0 m c t.val t.isLt).1 = k0_pay4 (F := Ideal) (here m c t.val t.isLt) := by
  rw [here_later m c t (by omega)]
  exact fst_of (outsAt0_C m c t (by omega) (by omega) h2) (out_C ..)

/-- After a point the accumulator holds the sum over the positions seen so far. -/
theorem here_sum (c : Dev nD) : ∀ (n : ℕ) (hn : n < cfg0.N) (y : Fin 1024) (x : Fin 512),
    here m c n hn (ix2 y x) = ∑ k ∈ Finset.range (2048 * (n % 4) + 2048), term (argH m c) (argD m c) (rowOf n y) (colAt (slab n) x) k := by
  intro n
  induction n with
  | zero =>
    intro hn y x
    rw [here_first m c ⟨0, hn⟩ rfl, first_at, block_sum, Finset.sum_range]
    exact Finset.sum_congr rfl fun d _ => congrArg _ (Nat.zero_add _)
  | succ n ih =>
    intro hn y x
    by_cases h0 : (n + 1) % 4 = 0
    · rw [here_first m c ⟨n + 1, hn⟩ h0, first_at, block_sum, Finset.sum_range, h0]
      refine Finset.sum_congr rfl fun d _ => congrArg _ ?_
      show 2048 * 0 + d.val = d.val
      omega
    · rw [here_later m c ⟨n + 1, hn⟩ h0, later_at, block_sum, ← add_run]
      refine congrArg (· + _) ?_
      have e1 : rowOf n y = rowOf (n + 1) y := Fin.ext (by show 1024 * (n / 32 % 2) + y.val = 1024 * ((n + 1) / 32 % 2) + y.val; omega)
      have e2 : slab n = slab (n + 1) := Fin.ext (by show n / 4 % 8 = (n + 1) / 4 % 8; omega)
      have e3 : 2048 * (n % 4) + 2048 = 2048 * ((n + 1) % 4) := by omega
      have h := ih (Nat.lt_of_succ_lt hn) y x
      rw [e1, e2, e3] at h
      exact h

theorem flushed2 (c : Dev nD) (t : Fin cfg0.N) (hf : (cfg0.win 2).flush t = true) :
    (dats m 0 c).flushed 2 t = ((cfg0.win 2).blk t).view.read (Elt Ideal) (outS (argH m c) (argD m c)) := by
  have ht : t.val % 4 = 3 := (flush0_2 t).mp hf
  rw [Value.flushed2, put_last m c t ht]
  funext j
  obtain ⟨z, y, x, rfl⟩ : ∃ (z : Fin 1) (y : Fin 1024) (x : Fin 512), j = ix3 z y x := ⟨_, _, _, eq_ix3 j⟩
  obtain rfl : z = 0 := Subsingleton.elim _ _
  refine ((res_at _ y x).trans ?_).trans (read_o c t (outS (argH m c) (argD m c)) y x).symm
  rw [here_sum, ht]
  exact all_terms ..

theorem final2 (c : Dev nD) : (dats m 0 c).arrAt 2 cfg0.N = outS (argH m c) (argD m c) :=
  (dats m 0 c).arrAt_eq_of_cover 2 (outS (argH m c) (argD m c)) (flushed2 m c) fun i => by
    have hN : cfg0.N = 64 := N_0
    have h0 : (i 0 : ℕ) < 8 := (i 0).isLt
    have h1 : (i 1 : ℕ) < 2048 := (i 1).isLt
    have h2 : (i 2 : ℕ) < 512 := (i 2).isLt
    let t : Fin cfg0.N := ⟨32 * ((i 1 : ℕ) / 1024) + 4 * (i 0 : ℕ) + 3, by omega⟩
    have hv : t.val = 32 * ((i 1 : ℕ) / 1024) + 4 * (i 0 : ℕ) + 3 := rfl
    refine ⟨t, (flush0_2 t).mpr (by omega), ?_⟩
    show i ∈ ((View.whole main_v0).slice (win0_2.rect t)).set
    rw [View.set_slice_whole, Rect.mem_set_unit]
    have i0 := at2 t
    intro a
    match a with
    | ⟨0, _⟩ => show win0_2.index t 0 * 1 ≤ (i 0 : ℕ) ∧ (i 0 : ℕ) < win0_2.index t 0 * 1 + 1; rw [i0.1]; omega
    | ⟨1, _⟩ => show win0_2.index t 1 * 1024 ≤ (i 1 : ℕ) ∧ (i 1 : ℕ) < win0_2.index t 1 * 1024 + 1024; rw [i0.2.1]; omega
    | ⟨2, _⟩ => show win0_2.index t 2 * 512 ≤ (i 2 : ℕ) ∧ (i 2 : ℕ) < win0_2.index t 2 * 512 + 512; rw [i0.2.2]; omega

end Cert.Kernel5Ideal.Slabs

end
-- ==== Proof.SlabsAgree.lean ====
module

public import proofs.«01_k».proof.Proof.SlabsValue
public import proofs.«01_k».proof.Proof.Agree
public import proofs.«01_k».proof.Proof.Gen.Reference5Ideal.Run
public import proofs.«01_k».proof.Proof.Gen.Kernel5.Frame

/-! # The gradient of the two hidden weights: the call's array and the reference's are equal -/

@[expose] public section

set_option maxRecDepth 16384

noncomputable section

namespace Cert.Reference5Ideal.Slabs

open Idealize.ShloMosaic Idealize.ShloMosaic.TcCoe Idealize.ShloMosaic.Tactic Idealize.SL.Sem
open Cert.Reference5Ideal Cert.Reference5Ideal.Gen
open Cert.Kernel5Ideal.Slabs (outS colAt)

section terms
variable (h : FVec Ideal S8192x2048 .bf16) (d : FVec Ideal S8192x4096 .bf16)

/-- The gradient as one matrix. -/
def rM : FVec Ideal S2048x4096 .f32 :=
  transpose S2048x4096 [1, 0] (Host.dotGeneral dot_S8192x4096_S8192x2048_S4096x2048_0_0_1_1_n_n none (extf .f32 d bitsLt_bf16_f32) (extf .f32 h bitsLt_bf16_f32)) transposes_S4096x2048_S2048x4096_1_0
/-- The gradient, each device's columns by themselves. -/
def rW : FVec Ideal S8x2048x512 .bf16 :=
  truncf .bf16 (transpose S8x2048x512 [1, 0, 2] (shapeCast _ (rM h d) shapeCasts_S2048x4096_S2048x8x512) transposes_S2048x8x512_S8x2048x512_1_0_2) bitsLt_bf16_f32

theorem rM_at (i : Fin 2048) (j : Fin 4096) : rM h d (ix2 i j) = ∑ k : Fin 8192, d (ix2 k j) * h (ix2 k i) := by
  pointwise [rM]
theorem rW_at (s : Fin 8) (i : Fin 2048) (x : Fin 512) : rW h d (ix3 s i x) = rM h d (ix2 i (colAt s x)) := by
  have e : (shapeCast _ (rM h d) shapeCasts_S2048x4096_S2048x8x512 : FVec Ideal S2048x8x512 .f32) (ix3 i s x) = rM h d (ix2 i (colAt s x)) := by
    refine shapeCast_apply _ _ _ _ ?_
    rw [Shape.rowMajor_val_two, Shape.rowMajor_val_three]
    show i.val * 4096 + (512 * s.val + x.val) = (i.val * 8 + s.val) * 512 + x.val
    omega
  rw [← e]
  pointwise [rW]

theorem slabs_eq : rW h d = outS h d := by
  funext j
  obtain ⟨s, i, x, rfl⟩ : ∃ (s : Fin 8) (i : Fin 2048) (x : Fin 512), j = ix3 s i x := ⟨_, _, _, eq_ix3 j⟩
  rw [rW_at, rM_at]
  exact Finset.sum_congr rfl fun k _ => mul_comm _ _
end terms

variable (m : (ℓ : Loc nD τ sig) → Buf (Elt Ideal) ℓ) (ρ : Dev nD → PrngReg)

/-- The reference's run, with its array named. -/
theorem run_value : θ_run defs (onTc (τ := τ) (main (F := Ideal))) ⟨m, fun _ => 0, ρ⟩ fun r => ∀ c : Dev nD,
      r.2.mem ((c : Thread nD τ).loc main_v8) = rW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Value.run m ρ

/-- The reference leaves its arguments, and has no semaphores. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2, sem_eq_zero_of_no_sems (by decide) r.2⟩) (Value.run m ρ)

end Cert.Reference5Ideal.Slabs

namespace Cert.Proof

open Idealize.ShloMosaic Idealize.ShloMosaic.TcCoe Idealize.SL.Sem
open Cert.Kernel5Ideal.Slabs (outS argH argD final2)
open Cert.Reference5Ideal.Slabs (slabs_eq)

/-- The call's array is the reference's, whatever the arguments. -/
theorem agree5 : Cert.algebraic_Kernel5Ideal_Reference5Ideal := by
  intro m g m' g' _ hargs
  refine ⟨fun c => outS (argH m c) (argD m c), ?_, ?_⟩
  · exact (θ_run _ _ _).mono (fun r h c => ⟨(h c).1.trans (final2 m c), (h c).2⟩) (Cert.Kernel5Ideal.Value.run_blocks m g)
  refine (θ_run _ _ _).mono (fun r h c => ?_) (Cert.Reference5Ideal.Slabs.run_value m' g')
  obtain ⟨e0, e1⟩ := hargs c
  exact ⟨(h c).1.trans ((slabs_eq _ _).trans (congrArg₂ outS e0 e1)), (h c).2⟩

end Cert.Proof

end
-- ==== Proof.lean ====
/- The backward pass of the training step's attention, and of its feed-forward's gated hidden layer, their forward passes, and the gradients of the hidden layer's weights: the calls `attn_bwd`, `ffn_hidden_bwd`, `attn_fwd`, `ffn_hidden_fwd` and `ffn_dwg` and their plain references agree. -/
module

public import proofs.«01_k».proof.Defs
public import proofs.«01_k».proof.Proof.Agree
public import proofs.«01_k».proof.Proof.GateAgree
public import proofs.«01_k».proof.Proof.FwdAgree
public import proofs.«01_k».proof.Proof.HiddenAgree
public import proofs.«01_k».proof.Proof.SlabsAgree
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

@[expose] public section

set_option maxRecDepth 16384

noncomputable section

namespace Cert.Proof

open Idealize.ShloMosaic Idealize.ShloMosaic.TcCoe Idealize.SL.Sem
open Cert.KernelIdeal.Bwd (Finite headAt headOf headOf_eq argQ argK argV argG outQ outK outV)
open Cert.ReferenceIdeal.Bwd (rQ rK rV fE fL fDs)

/-- The precondition makes every argument real. -/
theorem finite_args (hF : Cert.Pre_finite.Facts) (m : (ℓ : Loc Cert.KernelIdeal.nD Cert.KernelIdeal.τ Cert.KernelIdeal.sig) → Buf (Elt Ideal) ℓ)
    (h : Cert.Pre_KernelIdeal_finite m) (c : Dev Cert.KernelIdeal.nD) :
    Finite (argQ m c) ∧ Finite (argK m c) ∧ Finite (argV m c) ∧ Finite (argG m c) :=
  ⟨finite_of hF.bcast_S_S16x8192x192 _ (h c).1, finite_of hF.bcast_S_S16x8192x192 _ (h c).2.1,
    finite_of hF.bcast_S_S16x8192x128 _ (h c).2.2.1, finite_of hF.bcast_S_S16x8192x128 _ (h c).2.2.2⟩

/-- The kernel's gradients are the reference's. -/
theorem agree (hF : Cert.Pre_finite.Facts) : Cert.algebraic_KernelIdeal_ReferenceIdeal_pre_finite := by
  intro m g m' g' hpre hargs
  refine ⟨fun c => outQ (headOf m c), fun c => outK (headOf m c), fun c => outV (headOf m c), Cert.KernelIdeal.Bwd.run_value m g, ?_⟩
  refine (θ_run _ _ _).mono (fun r h c => ?_) (Cert.ReferenceIdeal.Bwd.run_value m' g')
  obtain ⟨hq, hk, hv, hg⟩ := finite_args hF m hpre c
  obtain ⟨e0, e1, e2, e3⟩ := hargs c
  have hh : headOf m c = headAt (argQ m c) (argK m c) (argV m c) (argG m c) := funext (headOf_eq m c)
  obtain ⟨h54, h53, h38, hrest⟩ := h c
  refine ⟨h54.trans ?_, h53.trans ?_, h38.trans ?_, hrest⟩
  · exact (congr (congrArg rQ (congr (congr (congr (congrArg fDs e0) e1) e2) e3)) e1).trans ((outQ_eq hq hk hv hg).symm.trans (congrArg outQ hh.symm))
  · exact (congr (congrArg rK (congr (congr (congr (congrArg fDs e0) e1) e2) e3)) e0).trans ((outK_eq hq hk hv hg).symm.trans (congrArg outK hh.symm))
  · exact (congr (congr (congrArg rV (congr (congrArg fE e0) e1)) (congr (congrArg fL e0) e1)) e3).trans ((outV_eq hq hk).symm.trans (congrArg outV hh.symm))

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, facts_finite, facts_finite2, facts_finite3,
    frame_kernel, frame_ideal, fun m ρ _ => frame_any m ρ,
    fun m ρ _ => Cert.ReferenceIdeal.Bwd.frame m ρ, fun m ρ _ => Cert.ReferenceIdeal.Bwd.frame m ρ,
    fun m ρ _ => Cert.Kernel2.Gen.frame m ρ, fun m ρ _ => Cert.Kernel2Ideal.Gen.frame m ρ, fun m ρ _ => Cert.Kernel2Ideal.Gen.frame m ρ,
    fun m ρ _ => Cert.Reference2Ideal.Gate.frame m ρ, fun m ρ _ => Cert.Reference2Ideal.Gate.frame m ρ,
    fun m ρ _ => Cert.Kernel3.Gen.frame m ρ, fun m ρ _ => Cert.Kernel3Ideal.Gen.frame m ρ, fun m ρ _ => Cert.Kernel3Ideal.Gen.frame m ρ,
    fun m ρ _ => Cert.Reference3Ideal.Fwd.frame m ρ, fun m ρ _ => Cert.Reference3Ideal.Fwd.frame m ρ,
    fun m ρ _ => Cert.Kernel4.Gen.frame m ρ, fun m ρ _ => Cert.Kernel4Ideal.Gen.frame m ρ, fun m ρ _ => Cert.Reference4Ideal.Hidden.frame m ρ,
    fun m ρ _ => Cert.Kernel5.Gen.frame m ρ, fun m ρ _ => Cert.Kernel5Ideal.Gen.frame m ρ, fun m ρ _ => Cert.Reference5Ideal.Slabs.frame m ρ,
    trivial, agree facts_finite, trivial, agree2 facts_finite2, preserves3, agree3 facts_finite3, trivial, agree4, trivial, agree5⟩

end Cert.Proof

end
